-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v59_0)) (v1 : (c : Dev Cert.MixIdeal.nD) → Buf (Elt Ideal) ((c.tc : Thread Cert.MixIdeal.nD Cert.MixIdeal.τ).loc Cert.MixIdeal.main_v59_1)) (v2 : (c : Dev Cert.MixIdeal.nD) → Buf (Elt Ideal) ((c.tc : Thread Cert.MixIdeal.nD Cert.MixIdeal.τ).loc Cert.MixIdeal.main_v59_2)) (v3 : (c : Dev Cert.MixIdeal.nD) → Buf (Elt Ideal) ((c.tc : Thread Cert.MixIdeal.nD Cert.MixIdeal.τ).loc Cert.MixIdeal.main_v59_3)) (v4 : (c : Dev Cert.MixIdeal.nD) → Buf (Elt Ideal) ((c.tc : Thread Cert.MixIdeal.nD Cert.MixIdeal.τ).loc Cert.MixIdeal.main_v59_4)) (v5 : (c : Dev Cert.MixIdeal.nD) → Buf (Elt Ideal) ((c.tc : Thread Cert.MixIdeal.nD Cert.MixIdeal.τ).loc Cert.MixIdeal.main_v59_5)) (v6 : (c : Dev Cert.MixIdeal.nD) → Buf (Elt Ideal) ((c.tc : Thread Cert.MixIdeal.nD Cert.MixIdeal.τ).loc Cert.MixIdeal.main_v59_6)) (v7 : (c : Dev Cert.MixIdeal.nD) → Buf (Elt Ideal) ((c.tc : Thread Cert.MixIdeal.nD Cert.MixIdeal.τ).loc Cert.MixIdeal.main_v59_7)) (v8 : (c : Dev Cert.MixIdeal.nD) → Buf (Elt Ideal) ((c.tc : Thread Cert.MixIdeal.nD Cert.MixIdeal.τ).loc Cert.MixIdeal.main_v59_8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v59_0) = v0 c
          ∧ r.2.mem ((c.tc : Thread Cert.MixIdeal.nD Cert.MixIdeal.τ).loc Cert.MixIdeal.main_v59_1) = v1 c
          ∧ r.2.mem ((c.tc : Thread Cert.MixIdeal.nD Cert.MixIdeal.τ).loc Cert.MixIdeal.main_v59_2) = v2 c
          ∧ r.2.mem ((c.tc : Thread Cert.MixIdeal.nD Cert.MixIdeal.τ).loc Cert.MixIdeal.main_v59_3) = v3 c
          ∧ r.2.mem ((c.tc : Thread Cert.MixIdeal.nD Cert.MixIdeal.τ).loc Cert.MixIdeal.main_v59_4) = v4 c
          ∧ r.2.mem ((c.tc : Thread Cert.MixIdeal.nD Cert.MixIdeal.τ).loc Cert.MixIdeal.main_v59_5) = v5 c
          ∧ r.2.mem ((c.tc : Thread Cert.MixIdeal.nD Cert.MixIdeal.τ).loc Cert.MixIdeal.main_v59_6) = v6 c
          ∧ r.2.mem ((c.tc : Thread Cert.MixIdeal.nD Cert.MixIdeal.τ).loc Cert.MixIdeal.main_v59_7) = v7 c
          ∧ r.2.mem ((c.tc : Thread Cert.MixIdeal.nD Cert.MixIdeal.τ).loc Cert.MixIdeal.main_v59_8) = v8 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v105) = v0 c
          ∧ r.2.mem ((c.tc : Thread Cert.MixRefIdeal.nD Cert.MixRefIdeal.τ).loc Cert.MixRefIdeal.main_v119) = v1 c
          ∧ r.2.mem ((c.tc : Thread Cert.MixRefIdeal.nD Cert.MixRefIdeal.τ).loc Cert.MixRefIdeal.main_v120) = v2 c
          ∧ r.2.mem ((c.tc : Thread Cert.MixRefIdeal.nD Cert.MixRefIdeal.τ).loc Cert.MixRefIdeal.main_v121) = v3 c
          ∧ r.2.mem ((c.tc : Thread Cert.MixRefIdeal.nD Cert.MixRefIdeal.τ).loc Cert.MixRefIdeal.main_v122) = v4 c
          ∧ r.2.mem ((c.tc : Thread Cert.MixRefIdeal.nD Cert.MixRefIdeal.τ).loc Cert.MixRefIdeal.main_v124) = v5 c
          ∧ r.2.mem ((c.tc : Thread Cert.MixRefIdeal.nD Cert.MixRefIdeal.τ).loc Cert.MixRefIdeal.main_v125) = v6 c
          ∧ r.2.mem ((c.tc : Thread Cert.MixRefIdeal.nD Cert.MixRefIdeal.τ).loc Cert.MixRefIdeal.main_v114) = v7 c
          ∧ r.2.mem ((c.tc : Thread Cert.MixRefIdeal.nD Cert.MixRefIdeal.τ).loc Cert.MixRefIdeal.main_v118) = v8 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v10) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v9) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v8) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v0)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v0) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v8) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v2) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v23_0)) (v1 : (c : Dev Cert.FfnFwdIdeal.nD) → Buf (Elt Ideal) ((c.tc : Thread Cert.FfnFwdIdeal.nD Cert.FfnFwdIdeal.τ).loc Cert.FfnFwdIdeal.main_v23_1)) (v2 : (c : Dev Cert.FfnFwdIdeal.nD) → Buf (Elt Ideal) ((c.tc : Thread Cert.FfnFwdIdeal.nD Cert.FfnFwdIdeal.τ).loc Cert.FfnFwdIdeal.main_v23_2)) (v3 : (c : Dev Cert.FfnFwdIdeal.nD) → Buf (Elt Ideal) ((c.tc : Thread Cert.FfnFwdIdeal.nD Cert.FfnFwdIdeal.τ).loc Cert.FfnFwdIdeal.main_v23_3)) (v4 : (c : Dev Cert.FfnFwdIdeal.nD) → Buf (Elt Ideal) ((c.tc : Thread Cert.FfnFwdIdeal.nD Cert.FfnFwdIdeal.τ).loc Cert.FfnFwdIdeal.main_v23_4)) (v5 : (c : Dev Cert.FfnFwdIdeal.nD) → Buf (Elt Ideal) ((c.tc : Thread Cert.FfnFwdIdeal.nD Cert.FfnFwdIdeal.τ).loc Cert.FfnFwdIdeal.main_v23_5)) (v6 : (c : Dev Cert.FfnFwdIdeal.nD) → Buf (Elt Ideal) ((c.tc : Thread Cert.FfnFwdIdeal.nD Cert.FfnFwdIdeal.τ).loc Cert.FfnFwdIdeal.main_v23_6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v23_0) = v0 c
          ∧ r.2.mem ((c.tc : Thread Cert.FfnFwdIdeal.nD Cert.FfnFwdIdeal.τ).loc Cert.FfnFwdIdeal.main_v23_1) = v1 c
          ∧ r.2.mem ((c.tc : Thread Cert.FfnFwdIdeal.nD Cert.FfnFwdIdeal.τ).loc Cert.FfnFwdIdeal.main_v23_2) = v2 c
          ∧ r.2.mem ((c.tc : Thread Cert.FfnFwdIdeal.nD Cert.FfnFwdIdeal.τ).loc Cert.FfnFwdIdeal.main_v23_3) = v3 c
          ∧ r.2.mem ((c.tc : Thread Cert.FfnFwdIdeal.nD Cert.FfnFwdIdeal.τ).loc Cert.FfnFwdIdeal.main_v23_4) = v4 c
          ∧ r.2.mem ((c.tc : Thread Cert.FfnFwdIdeal.nD Cert.FfnFwdIdeal.τ).loc Cert.FfnFwdIdeal.main_v23_5) = v5 c
          ∧ r.2.mem ((c.tc : Thread Cert.FfnFwdIdeal.nD Cert.FfnFwdIdeal.τ).loc Cert.FfnFwdIdeal.main_v23_6) = v6 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v56) = v0 c
          ∧ r.2.mem ((c.tc : Thread Cert.FfnFwdRefIdeal.nD Cert.FfnFwdRefIdeal.τ).loc Cert.FfnFwdRefIdeal.main_v58) = v1 c
          ∧ r.2.mem ((c.tc : Thread Cert.FfnFwdRefIdeal.nD Cert.FfnFwdRefIdeal.τ).loc Cert.FfnFwdRefIdeal.main_v59) = v2 c
          ∧ r.2.mem ((c.tc : Thread Cert.FfnFwdRefIdeal.nD Cert.FfnFwdRefIdeal.τ).loc Cert.FfnFwdRefIdeal.main_v36) = v3 c
          ∧ r.2.mem ((c.tc : Thread Cert.FfnFwdRefIdeal.nD Cert.FfnFwdRefIdeal.τ).loc Cert.FfnFwdRefIdeal.main_v60) = v4 c
          ∧ r.2.mem ((c.tc : Thread Cert.FfnFwdRefIdeal.nD Cert.FfnFwdRefIdeal.τ).loc Cert.FfnFwdRefIdeal.main_v46) = v5 c
          ∧ r.2.mem ((c.tc : Thread Cert.FfnFwdRefIdeal.nD Cert.FfnFwdRefIdeal.τ).loc Cert.FfnFwdRefIdeal.main_v61) = v6 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)
      ∧ m' ((c.tc : Thread Cert.MixOutRefIdeal.nD Cert.MixOutRefIdeal.τ).loc Cert.MixOutRefIdeal.main_arg13) = m ((c.tc : Thread Cert.MixOutIdeal.nD Cert.MixOutIdeal.τ).loc Cert.MixOutIdeal.main_arg13)) →
    ∃ (v0 : (c : Dev Cert.MixOutIdeal.nD) → Buf (Elt Ideal) ((c.tc : Thread Cert.MixOutIdeal.nD Cert.MixOutIdeal.τ).loc Cert.MixOutIdeal.main_v20_0)) (v1 : (c : Dev Cert.MixOutIdeal.nD) → Buf (Elt Ideal) ((c.tc : Thread Cert.MixOutIdeal.nD Cert.MixOutIdeal.τ).loc Cert.MixOutIdeal.main_v20_1)) (v2 : (c : Dev Cert.MixOutIdeal.nD) → Buf (Elt Ideal) ((c.tc : Thread Cert.MixOutIdeal.nD Cert.MixOutIdeal.τ).loc Cert.MixOutIdeal.main_v20_2)) (v3 : (c : Dev Cert.MixOutIdeal.nD) → Buf (Elt Ideal) ((c.tc : Thread Cert.MixOutIdeal.nD Cert.MixOutIdeal.τ).loc Cert.MixOutIdeal.main_v20_3)) (v4 : (c : Dev Cert.MixOutIdeal.nD) → Buf (Elt Ideal) ((c.tc : Thread Cert.MixOutIdeal.nD Cert.MixOutIdeal.τ).loc Cert.MixOutIdeal.main_v20_4)) (v5 : (c : Dev Cert.MixOutIdeal.nD) → Buf (Elt Ideal) ((c.tc : Thread Cert.MixOutIdeal.nD Cert.MixOutIdeal.τ).loc Cert.MixOutIdeal.main_v20_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v20_0) = v0 c
          ∧ r.2.mem ((c.tc : Thread Cert.MixOutIdeal.nD Cert.MixOutIdeal.τ).loc Cert.MixOutIdeal.main_v20_1) = v1 c
          ∧ r.2.mem ((c.tc : Thread Cert.MixOutIdeal.nD Cert.MixOutIdeal.τ).loc Cert.MixOutIdeal.main_v20_2) = v2 c
          ∧ r.2.mem ((c.tc : Thread Cert.MixOutIdeal.nD Cert.MixOutIdeal.τ).loc Cert.MixOutIdeal.main_v20_3) = v3 c
          ∧ r.2.mem ((c.tc : Thread Cert.MixOutIdeal.nD Cert.MixOutIdeal.τ).loc Cert.MixOutIdeal.main_v20_4) = v4 c
          ∧ r.2.mem ((c.tc : Thread Cert.MixOutIdeal.nD Cert.MixOutIdeal.τ).loc Cert.MixOutIdeal.main_v20_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v81) = v0 c
          ∧ r.2.mem ((c.tc : Thread Cert.MixOutRefIdeal.nD Cert.MixOutRefIdeal.τ).loc Cert.MixOutRefIdeal.main_v71) = v1 c
          ∧ r.2.mem ((c.tc : Thread Cert.MixOutRefIdeal.nD Cert.MixOutRefIdeal.τ).loc Cert.MixOutRefIdeal.main_v88) = v2 c
          ∧ r.2.mem ((c.tc : Thread Cert.MixOutRefIdeal.nD Cert.MixOutRefIdeal.τ).loc Cert.MixOutRefIdeal.main_v89) = v3 c
          ∧ r.2.mem ((c.tc : Thread Cert.MixOutRefIdeal.nD Cert.MixOutRefIdeal.τ).loc Cert.MixOutRefIdeal.main_v90) = v4 c
          ∧ r.2.mem ((c.tc : Thread Cert.MixOutRefIdeal.nD Cert.MixOutRefIdeal.τ).loc Cert.MixOutRefIdeal.main_v91) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12)
          ∧ r.2.mem ((c.tc : Thread Cert.MixOutRefIdeal.nD Cert.MixOutRefIdeal.τ).loc Cert.MixOutRefIdeal.main_arg13) = m' ((c.tc : Thread Cert.MixOutRefIdeal.nD Cert.MixOutRefIdeal.τ).loc Cert.MixOutRefIdeal.main_arg13))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v55_0)) (v1 : (c : Dev Cert.FfnBwdIdeal.nD) → Buf (Elt Ideal) ((c.tc : Thread Cert.FfnBwdIdeal.nD Cert.FfnBwdIdeal.τ).loc Cert.FfnBwdIdeal.main_v55_1)) (v2 : (c : Dev Cert.FfnBwdIdeal.nD) → Buf (Elt Ideal) ((c.tc : Thread Cert.FfnBwdIdeal.nD Cert.FfnBwdIdeal.τ).loc Cert.FfnBwdIdeal.main_v55_2)) (v3 : (c : Dev Cert.FfnBwdIdeal.nD) → Buf (Elt Ideal) ((c.tc : Thread Cert.FfnBwdIdeal.nD Cert.FfnBwdIdeal.τ).loc Cert.FfnBwdIdeal.main_v55_3)) (v4 : (c : Dev Cert.FfnBwdIdeal.nD) → Buf (Elt Ideal) ((c.tc : Thread Cert.FfnBwdIdeal.nD Cert.FfnBwdIdeal.τ).loc Cert.FfnBwdIdeal.main_v55_4)) (v5 : (c : Dev Cert.FfnBwdIdeal.nD) → Buf (Elt Ideal) ((c.tc : Thread Cert.FfnBwdIdeal.nD Cert.FfnBwdIdeal.τ).loc Cert.FfnBwdIdeal.main_v55_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v55_0) = v0 c
          ∧ r.2.mem ((c.tc : Thread Cert.FfnBwdIdeal.nD Cert.FfnBwdIdeal.τ).loc Cert.FfnBwdIdeal.main_v55_1) = v1 c
          ∧ r.2.mem ((c.tc : Thread Cert.FfnBwdIdeal.nD Cert.FfnBwdIdeal.τ).loc Cert.FfnBwdIdeal.main_v55_2) = v2 c
          ∧ r.2.mem ((c.tc : Thread Cert.FfnBwdIdeal.nD Cert.FfnBwdIdeal.τ).loc Cert.FfnBwdIdeal.main_v55_3) = v3 c
          ∧ r.2.mem ((c.tc : Thread Cert.FfnBwdIdeal.nD Cert.FfnBwdIdeal.τ).loc Cert.FfnBwdIdeal.main_v55_4) = v4 c
          ∧ r.2.mem ((c.tc : Thread Cert.FfnBwdIdeal.nD Cert.FfnBwdIdeal.τ).loc Cert.FfnBwdIdeal.main_v55_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v111) = v0 c
          ∧ r.2.mem ((c.tc : Thread Cert.FfnBwdRefIdeal.nD Cert.FfnBwdRefIdeal.τ).loc Cert.FfnBwdRefIdeal.main_v112) = v1 c
          ∧ r.2.mem ((c.tc : Thread Cert.FfnBwdRefIdeal.nD Cert.FfnBwdRefIdeal.τ).loc Cert.FfnBwdRefIdeal.main_v115) = v2 c
          ∧ r.2.mem ((c.tc : Thread Cert.FfnBwdRefIdeal.nD Cert.FfnBwdRefIdeal.τ).loc Cert.FfnBwdRefIdeal.main_v118) = v3 c
          ∧ r.2.mem ((c.tc : Thread Cert.FfnBwdRefIdeal.nD Cert.FfnBwdRefIdeal.τ).loc Cert.FfnBwdRefIdeal.main_v121) = v4 c
          ∧ r.2.mem ((c.tc : Thread Cert.FfnBwdRefIdeal.nD Cert.FfnBwdRefIdeal.τ).loc Cert.FfnBwdRefIdeal.main_v110) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6))

def Claim : Prop :=
  ∃ (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hDwGate : Cert.DwGate.Facts) (hDwGateIdeal : Cert.DwGateIdeal.Facts) (hDwGateRefIdeal : Cert.DwGateRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDwA : Cert.DwA.Facts) (hDwAIdeal : Cert.DwAIdeal.Facts) (hDwARefIdeal : Cert.DwARefIdeal.Facts) (hDwB : Cert.DwB.Facts) (hDwBIdeal : Cert.DwBIdeal.Facts) (hDwBRefIdeal : Cert.DwBRefIdeal.Facts) (hQkv : Cert.Qkv.Facts) (hQkvIdeal : Cert.QkvIdeal.Facts) (hQkvRefIdeal : Cert.QkvRefIdeal.Facts) (hGates : Cert.Gates.Facts) (hGatesIdeal : Cert.GatesIdeal.Facts) (hGatesRefIdeal : Cert.GatesRefIdeal.Facts) (hFfnFwd : Cert.FfnFwd.Facts) (hFfnFwdIdeal : Cert.FfnFwdIdeal.Facts) (hFfnFwdRefIdeal : Cert.FfnFwdRefIdeal.Facts) (hMixOut : Cert.MixOut.Facts) (hMixOutIdeal : Cert.MixOutIdeal.Facts) (hMixOutRefIdeal : Cert.MixOutRefIdeal.Facts) (hFfnBwd : Cert.FfnBwd.Facts) (hFfnBwdIdeal : Cert.FfnBwdIdeal.Facts) (hFfnBwdRefIdeal : Cert.FfnBwdRefIdeal.Facts) (hPre_mix_finite : Cert.Pre_mix_finite.Facts) (hPre_ffn_finite : Cert.Pre_ffn_finite.Facts),
    quiescent_InProj (hInProj := hInProj)
    ∧ quiescent_InProjIdeal (hInProjIdeal := hInProjIdeal)
    ∧ quiescent_InProjRefIdeal (hInProjRefIdeal := hInProjRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwA (hDwA := hDwA)
    ∧ quiescent_DwAIdeal (hDwAIdeal := hDwAIdeal)
    ∧ quiescent_DwARefIdeal (hDwARefIdeal := hDwARefIdeal)
    ∧ quiescent_DwB (hDwB := hDwB)
    ∧ quiescent_DwBIdeal (hDwBIdeal := hDwBIdeal)
    ∧ quiescent_DwBRefIdeal (hDwBRefIdeal := hDwBRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gates (hGates := hGates)
    ∧ quiescent_GatesIdeal (hGatesIdeal := hGatesIdeal)
    ∧ quiescent_GatesRefIdeal (hGatesRefIdeal := hGatesRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ preserves_InProj_InProjIdeal
    ∧ algebraic_InProjIdeal_InProjRefIdeal (hInProjIdeal := hInProjIdeal) (hInProjRefIdeal := hInProjRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_DwGate_DwGateIdeal
    ∧ algebraic_DwGateIdeal_DwGateRefIdeal (hDwGateIdeal := hDwGateIdeal) (hDwGateRefIdeal := hDwGateRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DwA_DwAIdeal
    ∧ algebraic_DwAIdeal_DwARefIdeal (hDwAIdeal := hDwAIdeal) (hDwARefIdeal := hDwARefIdeal)
    ∧ preserves_DwB_DwBIdeal
    ∧ algebraic_DwBIdeal_DwBRefIdeal (hDwBIdeal := hDwBIdeal) (hDwBRefIdeal := hDwBRefIdeal)
    ∧ preserves_Qkv_QkvIdeal
    ∧ algebraic_QkvIdeal_QkvRefIdeal (hQkvIdeal := hQkvIdeal) (hQkvRefIdeal := hQkvRefIdeal)
    ∧ preserves_Gates_GatesIdeal
    ∧ algebraic_GatesIdeal_GatesRefIdeal (hGatesIdeal := hGatesIdeal) (hGatesRefIdeal := hGatesRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixOut_MixOutIdeal
    ∧ algebraic_MixOutIdeal_MixOutRefIdeal (hMixOutIdeal := hMixOutIdeal) (hMixOutRefIdeal := hMixOutRefIdeal)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
-- ==== Pre_ffn_finite.lean ====
abbrev S16384x1024 : Shape := ⟨2, ![16384, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S3x1024 : Shape := ⟨2, ![3, 1024]⟩
abbrev S1x1024 : Shape := ⟨2, ![1, 1024]⟩
abbrev S41220x1024 : Shape := ⟨2, ![41220, 1024]⟩
abbrev S_ : Shape := ⟨0, ![]⟩

class Facts : Prop where
  slices_S6x1024_S3x1024_3_0 : S6x1024.Slices ![3, 0] S3x1024
  slices_S4x1024_S1x1024_2_0 : S4x1024.Slices ![2, 0] S1x1024
  transposes_S1024x2816_S2816x1024_1_0 : S1024x2816.Transposes [1, 0] S2816x1024
  concatenates_S16384x1024_S16384x1024_S3x1024_S1x1024_S2816x1024_S2816x1024_S2816x1024_S41220x1024_d0 : Shape.Concatenates [S16384x1024, S16384x1024, S3x1024, S1x1024, S2816x1024, S2816x1024, S2816x1024] S41220x1024 0
  bcast_S_S41220x1024 : S_.BroadcastsInDim S41220x1024 (![] : Fin 0 → Fin S41220x1024.rank)

variable [Facts]

def fn {F : FTy → Type} [FloatOps F] (main_arg0 : FVec F S16384x1024 .f32) (main_arg1 : FVec F S16384x1024 .f32) (main_arg2 : FVec F S6x1024 .f32) (main_arg3 : FVec F S4x1024 .f32) (main_arg4 : FVec F S1024x2816 .f32) (main_arg5 : FVec F S1024x2816 .f32) (main_arg6 : FVec F S2816x1024 .f32) : IVec S41220x1024 1 :=
  let main_v0 : FVec F S3x1024 .f32 := (extractStridedSlice S3x1024 ![3, 0] · slices_S6x1024_S3x1024_3_0) main_arg2
  let main_v1 : FVec F S1x1024 .f32 := (extractStridedSlice S1x1024 ![2, 0] · slices_S4x1024_S1x1024_2_0) main_arg3
  let main_v2 : FVec F S2816x1024 .f32 := (transpose S2816x1024 [1, 0] · transposes_S1024x2816_S2816x1024_1_0) main_arg4
  let main_v3 : FVec F S2816x1024 .f32 := (transpose S2816x1024 [1, 0] · transposes_S1024x2816_S2816x1024_1_0) main_arg5
  let main_v4 : FVec F S41220x1024 .f32 := concatenate S41220x1024 0 [⟨S16384x1024, main_arg0⟩, ⟨S16384x1024, main_arg1⟩, ⟨S3x1024, main_v0⟩, ⟨S1x1024, main_v1⟩, ⟨S2816x1024, main_v2⟩, ⟨S2816x1024, main_v3⟩, ⟨S2816x1024, main_arg6⟩] concatenates_S16384x1024_S16384x1024_S3x1024_S1x1024_S2816x1024_S2816x1024_S2816x1024_S41220x1024_d0
  let main_v5 : FVec F S41220x1024 .f32 := Host.absf main_v4
  let main_cst : FVec F S_ .f32 := constant S_ .f32 0x7F800000#32
  let main_v6 : FVec F S41220x1024 .f32 := broadcastInDim S41220x1024 ![] bcast_S_S41220x1024 main_cst
  let main_v7 : IVec S41220x1024 1 := cmpf .olt main_v5 main_v6
  main_v7
-- ==== Pre_mix_finite.lean ====
abbrev S16384x1024 : Shape := ⟨2, ![16384, 1024]⟩
abbrev S16384x2048 : Shape := ⟨2, ![16384, 2048]⟩
abbrev S16384x512 : Shape := ⟨2, ![16384, 512]⟩
abbrev S16384x256 : Shape := ⟨2, ![16384, 256]⟩
abbrev S6x1024 : Shape := ⟨2, ![6, 1024]⟩
abbrev S4x1024 : Shape := ⟨2, ![4, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S50946x1024 : Shape := ⟨2, ![50946, 1024]⟩
abbrev S_ : Shape := ⟨0, ![]⟩

class Facts : Prop where
  concatenates_S16384x512_S16384x256_S16384x256_S16384x1024_d1 : Shape.Concatenates [S16384x512, S16384x256, S16384x256] S16384x1024 1
  slices_S6x1024_S1x1024_2_0 : S6x1024.Slices ![2, 0] S1x1024
  slices_S4x1024_S1x1024_0_0 : S4x1024.Slices ![0, 0] S1x1024
  concatenates_S16384x1024_S16384x1024_S16384x1024_S1x1024_S1x1024_S512x1024_S256x1024_S1024x1024_S50946x1024_d0 : Shape.Concatenates [S16384x1024, S16384x1024, S16384x1024, S1x1024, S1x1024, S512x1024, S256x1024, S1024x1024] S50946x1024 0
  bcast_S_S50946x1024 : S_.BroadcastsInDim S50946x1024 (![] : Fin 0 → Fin S50946x1024.rank)

variable [Facts]

def fn {F : FTy → Type} [FloatOps F] (main_arg0 : FVec F S16384x1024 .f32) (main_arg1 : FVec F S16384x1024 .f32) (main_arg2 : FVec F S16384x2048 .f32) (main_arg3 : FVec F S16384x512 .f32) (main_arg4 : FVec F S16384x256 .f32) (main_arg5 : FVec F S6x1024 .f32) (main_arg6 : FVec F S4x1024 .f32) (main_arg7 : FVec F S512x1024 .f32) (main_arg8 : FVec F S256x1024 .f32) (main_arg9 : FVec F S1024x1024 .f32) : IVec S50946x1024 1 :=
  let main_v0 : FVec F S16384x1024 .f32 := concatenate S16384x1024 1 [⟨S16384x512, main_arg3⟩, ⟨S16384x256, main_arg4⟩, ⟨S16384x256, main_arg4⟩] concatenates_S16384x512_S16384x256_S16384x256_S16384x1024_d1
  let main_v1 : FVec F S1x1024 .f32 := (extractStridedSlice S1x1024 ![2, 0] · slices_S6x1024_S1x1024_2_0) main_arg5
  let main_v2 : FVec F S1x1024 .f32 := (extractStridedSlice S1x1024 ![0, 0] · slices_S4x1024_S1x1024_0_0) main_arg6
  let main_v3 : FVec F S50946x1024 .f32 := concatenate S50946x1024 0 [⟨S16384x1024, main_arg0⟩, ⟨S16384x1024, main_arg1⟩, ⟨S16384x1024, main_v0⟩, ⟨S1x1024, main_v1⟩, ⟨S1x1024, main_v2⟩, ⟨S512x1024, main_arg7⟩, ⟨S256x1024, main_arg8⟩, ⟨S1024x1024, main_arg9⟩] concatenates_S16384x1024_S16384x1024_S16384x1024_S1x1024_S1x1024_S512x1024_S256x1024_S1024x1024_S50946x1024_d0
  let main_v4 : FVec F S50946x1024 .f32 := Host.absf main_v3
  let main_cst : FVec F S_ .f32 := constant S_ .f32 0x7F800000#32
  let main_v5 : FVec F S50946x1024 .f32 := broadcastInDim S50946x1024 ![] bcast_S_S50946x1024 main_cst
  let main_v6 : IVec S50946x1024 1 := cmpf .olt main_v4 main_v5
  main_v6
-- ==== InProj.lean ====
abbrev S16384x5120 : Shape := ⟨2, ![16384, 5120]⟩
abbrev S16384x1024 : Shape := ⟨2, ![16384, 1024]⟩
abbrev S6x1024 : Shape := ⟨2, ![6, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S_ : Shape := ⟨0, ![]⟩
abbrev S2x1024 : Shape := ⟨2, ![2, 1024]⟩
abbrev S8x1024 : Shape := ⟨2, ![8, 1024]⟩
abbrev S512x1280 : Shape := ⟨2, ![512, 1280]⟩
abbrev S1x1024x1280 : Shape := ⟨3, ![1, 1024, 1280]⟩
abbrev S512x1024 : Shape := ⟨2, ![512, 1024]⟩
abbrev S1024x1280 : Shape := ⟨2, ![1024, 1280]⟩
abbrev S1x1024 : Shape := ⟨2, ![1, 1024]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .f32⟩
  | .hbm, ⟨2, _⟩ => ⟨S16384x1024, .f32⟩
  | .hbm, ⟨3, _⟩ => ⟨S6x1024, .f32⟩
  | .hbm, ⟨4, _⟩ => ⟨S1024x5120, .f32⟩
  | .hbm, ⟨5, _⟩ => ⟨S1024x4x1280, .f32⟩
  | .hbm, ⟨6, _⟩ => ⟨S4x1024x1280, .f32⟩
  | .hbm, ⟨7, _⟩ => ⟨S4x1024x1280, .bf16⟩
  | .hbm, ⟨8, _⟩ => ⟨S_, .f32⟩
  | .hbm, ⟨9, _⟩ => ⟨S2x1024, .f32⟩
  | .hbm, ⟨10, _⟩ => ⟨S8x1024, .f32⟩
  | .hbm, ⟨11, _⟩ => ⟨S16384x1024, .f32⟩
  | .hbm, ⟨12, _⟩ => ⟨S8x1024, .f32⟩
  | .local _ .vmem, ⟨0, _⟩ => ⟨S512x1280, .bf16⟩
  | .local _ .vmem, ⟨1, _⟩ => ⟨S512x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InProjRefIdeal.lean ====
abbrev S16384x5120 : Shape := ⟨2, ![16384, 5120]⟩
abbrev S16384x1024 : Shape := ⟨2, ![16384, 1024]⟩
abbrev S6x1024 : Shape := ⟨2, ![6, 1024]⟩
abbrev S1024x5120 : Shape := ⟨2, ![1024, 5120]⟩
abbrev S1x1024 : Shape := ⟨2, ![1, 1024]⟩
abbrev S_ : Shape := ⟨0, ![]⟩
abbrev S1024 : Shape := ⟨1, ![1024]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .f32⟩
  | .hbm, ⟨2, _⟩ => ⟨S16384x1024, .f32⟩
  | .hbm, ⟨3, _⟩ => ⟨S6x1024, .f32⟩
  | .hbm, ⟨4, _⟩ => ⟨S1024x5120, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x5120, .f32⟩
  | .hbm, ⟨15, _⟩ => ⟨S16384x5120, .f32⟩
  | .hbm, ⟨16, _⟩ => ⟨S16384x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S6x1024, .f32⟩
  | .hbm, ⟨29, _⟩ => ⟨S8x1024, .f32⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S16384x512 : Shape := ⟨2, ![16384, 512]⟩
abbrev S16384x256 : Shape := ⟨2, ![16384, 256]⟩
abbrev S6x1024 : Shape := ⟨2, ![6, 1024]⟩
abbrev S4x1024 : Shape := ⟨2, ![4, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S2x1024 : Shape := ⟨2, ![2, 1024]⟩
abbrev S8x1024 : Shape := ⟨2, ![8, 1024]⟩
abbrev S16384x128 : Shape := ⟨2, ![16384, 128]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S256x128 : Shape := ⟨2, ![256, 128]⟩
abbrev S256x2048 : Shape := ⟨2, ![256, 2048]⟩
abbrev S256x512 : Shape := ⟨2, ![256, 512]⟩
abbrev S256x256 : Shape := ⟨2, ![256, 256]⟩
abbrev S256x1 : Shape := ⟨2, ![256, 1]⟩
abbrev S256 : Shape := ⟨1, ![256]⟩
abbrev S1024 : Shape := ⟨1, ![1024]⟩
abbrev S1x512x256 : Shape := ⟨3, ![1, 512, 256]⟩
abbrev S512x256 : Shape := ⟨2, ![512, 256]⟩
abbrev S1x256x256 : Shape := ⟨3, ![1, 256, 256]⟩

abbrev nBuf : Space → Nat
  | .hbm => 90
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x512, .f32⟩
  | .hbm, ⟨4, _⟩ => ⟨S16384x256, .f32⟩
  | .hbm, ⟨5, _⟩ => ⟨S6x1024, .f32⟩
  | .hbm, ⟨6, _⟩ => ⟨S4x1024, .f32⟩
  | .hbm, ⟨7, _⟩ => ⟨S512x1024, .f32⟩
  | .hbm, ⟨8, _⟩ => ⟨S256x1024, .f32⟩
  | .hbm, ⟨9, _⟩ => ⟨S1024x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S2x1024, .f32⟩
  | .hbm, ⟨66, _⟩ => ⟨S8x1024, .f32⟩
  | .hbm, ⟨67, _⟩ => ⟨S_, .f32⟩
  | .hbm, ⟨68, _⟩ => ⟨S4x1024, .f32⟩
  | .hbm, ⟨69, _⟩ => ⟨S8x1024, .f32⟩
  | .hbm, ⟨70, _⟩ => ⟨S16384x128, .f32⟩
  | .hbm, ⟨71, _⟩ => ⟨S16384x1024, .bf16⟩
  | .hbm, ⟨72, _⟩ => ⟨S16384x512, .bf16⟩
  | .hbm, ⟨73, _⟩ => ⟨S16384x256, .bf16⟩
  | .hbm, ⟨74, _⟩ => ⟨S512x4x256, .f32⟩
  | .hbm, ⟨75, _⟩ => ⟨S4x512x256, .f32⟩
  | .hbm, ⟨76, _⟩ => ⟨S4x512x256, .bf16⟩
  | .hbm, ⟨77, _⟩ => ⟨S256x4x256, .f32⟩
  | .hbm, ⟨78, _⟩ => ⟨S4x256x256, .f32⟩
  | .hbm, ⟨79, _⟩ => ⟨S4x256x256, .bf16⟩
  | .hbm, ⟨80, _⟩ => ⟨S1024x1024, .bf16⟩
  | .hbm, ⟨81, _⟩ => ⟨S16384x1024, .f32⟩
  | .hbm, ⟨82, _⟩ => ⟨S16384x1024, .bf16⟩
  | .hbm, ⟨83, _⟩ => ⟨S16384x1024, .bf16⟩
  | .hbm, ⟨84, _⟩ => ⟨S16384x1024, .bf16⟩
  | .hbm, ⟨85, _⟩ => ⟨S16384x1024, .bf16⟩
  | .hbm, ⟨86, _⟩ => ⟨S16384x2048, .bf16⟩
  | .hbm, ⟨87, _⟩ => ⟨S16384x512, .bf16⟩
  | .hbm, ⟨88, _⟩ => ⟨S16384x256, .f32⟩
  | .hbm, ⟨89, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S256x512, .bf16⟩
  | .local _ .vmem, ⟨11, _⟩ => ⟨S256x512, .bf16⟩
  | .local _ .vmem, ⟨12, _⟩ => ⟨S256x256, .bf16⟩
  | .local _ .vmem, ⟨13, _⟩ => ⟨S256x256, .bf16⟩
  | .local _ .vmem, ⟨14, _⟩ => ⟨S8x1024, .f32⟩
  | .local _ .vmem, ⟨15, _⟩ => ⟨S8x1024, .f32⟩
  | .local _ .vmem, ⟨16, _⟩ => ⟨S4x512x256, .bf16⟩
  | .local _ .vmem, ⟨17, _⟩ => ⟨S4x256x256, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x2048, .bf16⟩
  | .local _ .vmem, ⟨30, _⟩ => ⟨S256x2048, .bf16⟩
  | .local _ .vmem, ⟨31, _⟩ => ⟨S256x512, .bf16⟩
  | .local _ .vmem, ⟨32, _⟩ => ⟨S256x512, .bf16⟩
  | .local _ .vmem, ⟨33, _⟩ => ⟨S256x256, .f32⟩
  | .local _ .vmem, ⟨34, _⟩ => ⟨S256x256, .f32⟩
  | .local _ .vmem, ⟨35, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev main_v59_3 : Ref sig .tc := ⟨.hbm, 84, rfl⟩
abbrev main_v59_4 : Ref sig .tc := ⟨.hbm, 85, rfl⟩
abbrev main_v59_5 : Ref sig .tc := ⟨.hbm, 86, rfl⟩
abbrev main_v59_6 : Ref sig .tc := ⟨.hbm, 87, rfl⟩
abbrev main_v59_7 : Ref sig .tc := ⟨.hbm, 88, rfl⟩
abbrev main_v59_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MixRefIdeal.lean ====
abbrev S16384x1024 : Shape := ⟨2, ![16384, 1024]⟩
abbrev S16384x2048 : Shape := ⟨2, ![16384, 2048]⟩
abbrev S16384x512 : Shape := ⟨2, ![16384, 512]⟩
abbrev S16384x256 : Shape := ⟨2, ![16384, 256]⟩
abbrev S6x1024 : Shape := ⟨2, ![6, 1024]⟩
abbrev S4x1024 : Shape := ⟨2, ![4, 1024]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S5x1024 : Shape := ⟨2, ![5, 1024]⟩
abbrev S8x1024 : Shape := ⟨2, ![8, 1024]⟩

abbrev nBuf : Space → Nat
  | .hbm => 164
  | .vmem => 0
  | .smem => 0
  | _ => 0

abbrev hbmTy0_0 (i : Nat) : BufTy := match i % 128 with
  | 0 => ⟨S16384x1024, .f32⟩
  | 1 => ⟨S16384x1024, .f32⟩
  | 2 => ⟨S16384x2048, .f32⟩
  | 3 => ⟨S16384x512, .f32⟩
  | 4 => ⟨S16384x256, .f32⟩
  | 5 => ⟨S6x1024, .f32⟩
  | 6 => ⟨S4x1024, .f32⟩
  | 7 => ⟨S512x1024, .f32⟩
  | 8 => ⟨S256x1024, .f32⟩
  | 9 => ⟨S1024x1024, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S1x1024, .f32⟩
  | 43 => ⟨S1x1024, .f32⟩
  | 44 => ⟨S1024, .f32⟩
  | 45 => ⟨S1x1024, .f32⟩
  | 46 => ⟨S1024, .f32⟩
  | 47 => ⟨S_, .f32⟩
  | 48 => ⟨S16384x1024, .f32⟩
  | 49 => ⟨S16384x1024, .f32⟩
  | 50 => ⟨S16384x1024, .f32⟩
  | 51 => ⟨S16384x1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S16384x1024, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S16384x1024, .f32⟩
  | 72 => ⟨S16384x1024, .f32⟩
  | 73 => ⟨S_, .f32⟩
  | 74 => ⟨S16384x1, .f32⟩
  | 75 => ⟨S16384x1, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384x1024, .f32⟩
  | 82 => ⟨S16384x1024, .f32⟩
  | 83 => ⟨S1x1024, .f32⟩
  | 84 => ⟨S16384x1024, .f32⟩
  | 85 => ⟨S16384x1024, .f32⟩
  | 86 => ⟨S1x1024, .f32⟩
  | 87 => ⟨S16384x1024, .f32⟩
  | 88 => ⟨S16384x1024, .f32⟩
  | 89 => ⟨S16384x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S16384x1024, .f32⟩
  | 96 => ⟨S_, .f32⟩
  | 97 => ⟨S1024, .f32⟩
  | 98 => ⟨S1x1024, .f32⟩
  | 99 => ⟨S16384x1024, .f32⟩
  | 100 => ⟨S16384x1024, .f32⟩
  | 101 => ⟨S_, .f32⟩
  | 102 => ⟨S1024, .f32⟩
  | 103 => ⟨S16384x1024, .f32⟩
  | 104 => ⟨S_, .f32⟩
  | 105 => ⟨S16384, .f32⟩
  | 106 => ⟨S16384x1, .f32⟩
  | 107 => ⟨S16384x1024, .f32⟩
  | 108 => ⟨S16384x1024, .f32⟩
  | 109 => ⟨S16384x1, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384, .f32⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S16384x1024, .f32⟩
  | 126 => ⟨S16384x1, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S_, .f32⟩
  | 3 => ⟨S16384, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S1024, .f32⟩
  | 11 => ⟨S1x1024, .f32⟩
  | 12 => ⟨S_, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x512, .f32⟩
  | 23 => ⟨S16384x256, .f32⟩
  | 24 => ⟨S1x1024, .f32⟩
  | 25 => ⟨S1x1024, .f32⟩
  | 26 => ⟨S_, .f32⟩
  | 27 => ⟨S5x1024, .f32⟩
  | 28 => ⟨S8x1024, .f32⟩
  | 29 => ⟨S16384x1024, .bf16⟩
  | 30 => ⟨S16384x1024, .bf16⟩
  | 31 => ⟨S16384x1024, .bf16⟩
  | 32 => ⟨S16384x1024, .bf16⟩
  | 33 => ⟨S16384x2048, .f32⟩
  | 34 => ⟨S16384x2048, .bf16⟩
  | 35 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_16 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_21 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_22 : Ref sig .tc := ⟨.hbm, 127, rfl⟩
abbrev main_v94 : Ref sig .tc := ⟨.hbm, 128, rfl⟩
abbrev main_v95 : Ref sig .tc := ⟨.hbm, 129, rfl⟩
abbrev main_cst_23 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_24 : Ref sig .tc := ⟨.hbm, 137, rfl⟩
abbrev main_v102 : Ref sig .tc := ⟨.hbm, 138, rfl⟩
abbrev main_v103 : Ref sig .tc := ⟨.hbm, 139, rfl⟩
abbrev main_cst_25 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_26 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== DwGate.lean ====
abbrev S16384x1024 : Shape := ⟨2, ![16384, 1024]⟩
abbrev S4x16384x704 : Shape := ⟨3, ![4, 16384, 704]⟩
abbrev S4x1024x704 : Shape := ⟨3, ![4, 1024, 704]⟩
abbrev S512x1024 : Shape := ⟨2, ![512, 1024]⟩
abbrev S1x512x704 : Shape := ⟨3, ![1, 512, 704]⟩
abbrev S1x1024x704 : Shape := ⟨3, ![1, 1024, 704]⟩
abbrev S1024x704 : Shape := ⟨2, ![1024, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGateRefIdeal.lean ====
abbrev S16384x1024 : Shape := ⟨2, ![16384, 1024]⟩
abbrev S4x16384x704 : Shape := ⟨3, ![4, 16384, 704]⟩
abbrev S16384x4x704 : Shape := ⟨3, ![16384, 4, 704]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S_, .f32⟩
  | .hbm, ⟨6, _⟩ => ⟨S1024x2816, .f32⟩
  | .hbm, ⟨7, _⟩ => ⟨S16384x1024, .f32⟩
  | .hbm, ⟨8, _⟩ => ⟨S16384x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwDown.lean ====
abbrev S4x16384x704 : Shape := ⟨3, ![4, 16384, 704]⟩
abbrev S16384x1024 : Shape := ⟨2, ![16384, 1024]⟩
abbrev S4x704x1024 : Shape := ⟨3, ![4, 704, 1024]⟩
abbrev S1x512x704 : Shape := ⟨3, ![1, 512, 704]⟩
abbrev S512x1024 : Shape := ⟨2, ![512, 1024]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S512x1024, .bf16⟩
  | .local _ .vmem, ⟨3, _⟩ => ⟨S512x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4x16384x704 : Shape := ⟨3, ![4, 16384, 704]⟩
abbrev S16384x1024 : Shape := ⟨2, ![16384, 1024]⟩
abbrev S16384x4x704 : Shape := ⟨3, ![16384, 4, 704]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S_, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwIn.lean ====
abbrev S16384x1024 : Shape := ⟨2, ![16384, 1024]⟩
abbrev S16384x5120 : Shape := ⟨2, ![16384, 5120]⟩
abbrev S4x1024x1280 : Shape := ⟨3, ![4, 1024, 1280]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5120, .bf16⟩
  | .hbm, ⟨2, _⟩ => ⟨S4x1024x1280, .bf16⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S16384x1024 : Shape := ⟨2, ![16384, 1024]⟩
abbrev S16384x5120 : Shape := ⟨2, ![16384, 5120]⟩
abbrev S_ : Shape := ⟨0, ![]⟩
abbrev S1024x5120 : Shape := ⟨2, ![1024, 5120]⟩
abbrev S5120x1024 : Shape := ⟨2, ![5120, 1024]⟩
abbrev S1024x4x1280 : Shape := ⟨3, ![1024, 4, 1280]⟩
abbrev S4x1024x1280 : Shape := ⟨3, ![4, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5120, .bf16⟩
  | .hbm, ⟨2, _⟩ => ⟨S_, .f32⟩
  | .hbm, ⟨3, _⟩ => ⟨S1024x5120, .f32⟩
  | .hbm, ⟨4, _⟩ => ⟨S16384x1024, .f32⟩
  | .hbm, ⟨5, _⟩ => ⟨S16384x5120, .f32⟩
  | .hbm, ⟨6, _⟩ => ⟨S16384x5120, .f32⟩
  | .hbm, ⟨7, _⟩ => ⟨S5120x1024, .f32⟩
  | .hbm, ⟨8, _⟩ => ⟨S1024x5120, .f32⟩
  | .hbm, ⟨9, _⟩ => ⟨S1024x4x1280, .f32⟩
  | .hbm, ⟨10, _⟩ => ⟨S4x1024x1280, .f32⟩
  | .hbm, ⟨11, _⟩ => ⟨S4x1024x1280, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S16384x1024 : Shape := ⟨2, ![16384, 1024]⟩
abbrev S4x256x1024 : Shape := ⟨3, ![4, 256, 1024]⟩
abbrev S512x256 : Shape := ⟨2, ![512, 256]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x256x1024, .bf16⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutRefIdeal.lean ====
abbrev S16384x1024 : Shape := ⟨2, ![16384, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwA.lean ====
abbrev S16384x512 : Shape := ⟨2, ![16384, 512]⟩
abbrev S16384x1024 : Shape := ⟨2, ![16384, 1024]⟩
abbrev S4x512x256 : Shape := ⟨3, ![4, 512, 256]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 3
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x512x256, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwARefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwB.lean ====
abbrev S16384x256 : Shape := ⟨2, ![16384, 256]⟩
abbrev S16384x1024 : Shape := ⟨2, ![16384, 1024]⟩
abbrev S4x256x256 : Shape := ⟨3, ![4, 256, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S4x256x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwBRefIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S_, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | .hbm, ⟨11, _⟩ => ⟨S4x256x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qkv.lean ====
abbrev S16384x1024 : Shape := ⟨2, ![16384, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S16384x3072 : Shape := ⟨2, ![16384, 3072]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .f32⟩
  | .hbm, ⟨2, _⟩ => ⟨S1024x4x1280, .f32⟩
  | .hbm, ⟨3, _⟩ => ⟨S4x1024x1280, .f32⟩
  | .hbm, ⟨4, _⟩ => ⟨S4x1024x1280, .bf16⟩
  | .hbm, ⟨5, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .bf16⟩
  | .local _ .vmem, ⟨5, _⟩ => ⟨S1024x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S16384x1024 : Shape := ⟨2, ![16384, 1024]⟩
abbrev S1024x5120 : Shape := ⟨2, ![1024, 5120]⟩
abbrev S16384x5120 : Shape := ⟨2, ![16384, 5120]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .f32⟩
  | .hbm, ⟨2, _⟩ => ⟨S16384x1024, .f32⟩
  | .hbm, ⟨3, _⟩ => ⟨S16384x5120, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gates.lean ====
abbrev S16384x1024 : Shape := ⟨2, ![16384, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S16384x2048 : Shape := ⟨2, ![16384, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .f32⟩
  | .hbm, ⟨2, _⟩ => ⟨S1024x4x1280, .f32⟩
  | .hbm, ⟨3, _⟩ => ⟨S4x1024x1280, .f32⟩
  | .hbm, ⟨4, _⟩ => ⟨S4x1024x1280, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi arg1 c12_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x1024 : Shape := ⟨2, ![16384, 1024]⟩
abbrev S1024x5120 : Shape := ⟨2, ![1024, 5120]⟩
abbrev S16384x5120 : Shape := ⟨2, ![16384, 5120]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .f32⟩
  | .hbm, ⟨2, _⟩ => ⟨S16384x1024, .f32⟩
  | .hbm, ⟨3, _⟩ => ⟨S16384x5120, .f32⟩
  | .hbm, ⟨4, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnFwd.lean ====
abbrev S16384x1024 : Shape := ⟨2, ![16384, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x16384x704 : Shape := ⟨3, ![4, 16384, 704]⟩
abbrev S16384x128 : Shape := ⟨2, ![16384, 128]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S512x128 : Shape := ⟨2, ![512, 128]⟩
abbrev S1024x704 : Shape := ⟨2, ![1024, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 41
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S6x1024, .f32⟩
  | .hbm, ⟨3, _⟩ => ⟨S4x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S_, .f32⟩
  | .hbm, ⟨18, _⟩ => ⟨S2x1024, .f32⟩
  | .hbm, ⟨19, _⟩ => ⟨S8x1024, .f32⟩
  | .hbm, ⟨20, _⟩ => ⟨S_, .f32⟩
  | .hbm, ⟨21, _⟩ => ⟨S4x1024, .f32⟩
  | .hbm, ⟨22, _⟩ => ⟨S8x1024, .f32⟩
  | .hbm, ⟨23, _⟩ => ⟨S_, .f32⟩
  | .hbm, ⟨24, _⟩ => ⟨S2x1024, .f32⟩
  | .hbm, ⟨25, _⟩ => ⟨S8x1024, .f32⟩
  | .hbm, ⟨26, _⟩ => ⟨S1024x4x704, .f32⟩
  | .hbm, ⟨27, _⟩ => ⟨S4x1024x704, .f32⟩
  | .hbm, ⟨28, _⟩ => ⟨S4x1024x704, .bf16⟩
  | .hbm, ⟨29, _⟩ => ⟨S1024x4x704, .f32⟩
  | .hbm, ⟨30, _⟩ => ⟨S4x1024x704, .f32⟩
  | .hbm, ⟨31, _⟩ => ⟨S4x1024x704, .bf16⟩
  | .hbm, ⟨32, _⟩ => ⟨S4x704x1024, .f32⟩
  | .hbm, ⟨33, _⟩ => ⟨S4x704x1024, .bf16⟩
  | .hbm, ⟨34, _⟩ => ⟨S4x16384x704, .f32⟩
  | .hbm, ⟨35, _⟩ => ⟨S4x16384x704, .f32⟩
  | .hbm, ⟨36, _⟩ => ⟨S16384x1024, .bf16⟩
  | .hbm, ⟨37, _⟩ => ⟨S16384x1024, .f32⟩
  | .hbm, ⟨38, _⟩ => ⟨S16384x128, .f32⟩
  | .hbm, ⟨39, _⟩ => ⟨S16384x1024, .f32⟩
  | .hbm, ⟨40, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | .local _ .vmem, ⟨16, _⟩ => ⟨S1x512x704, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x128, .f32⟩
  | .local _ .vmem, ⟨22, _⟩ => ⟨S512x128, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev main_v23_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_23 : BitVec 32 := 0#32
  let v31 : BitVec 1 := Scalar.cmpi .ne v30 c0_i32_23
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnFwdRefIdeal.lean ====
abbrev S16384x1024 : Shape := ⟨2, ![16384, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1024 : Shape := ⟨1, ![1024]⟩
abbrev S16384x4x704 : Shape := ⟨3, ![16384, 4, 704]⟩
abbrev S4x16384x704 : Shape := ⟨3, ![4, 16384, 704]⟩
abbrev S16384x128 : Shape := ⟨2, ![16384, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S6x1024, .f32⟩
  | .hbm, ⟨3, _⟩ => ⟨S4x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x4x704, .f32⟩
  | .hbm, ⟨79, _⟩ => ⟨S4x16384x704, .f32⟩
  | .hbm, ⟨80, _⟩ => ⟨S16384x4x704, .f32⟩
  | .hbm, ⟨81, _⟩ => ⟨S4x16384x704, .f32⟩
  | .hbm, ⟨82, _⟩ => ⟨S16384x1024, .bf16⟩
  | .hbm, ⟨83, _⟩ => ⟨S16384x128, .f32⟩
  | .hbm, ⟨84, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== MixOut.lean ====
abbrev S16384x512 : Shape := ⟨2, ![16384, 512]⟩
abbrev S16384x256 : Shape := ⟨2, ![16384, 256]⟩
abbrev S16384x4 : Shape := ⟨2, ![16384, 4]⟩
abbrev S16384x2048 : Shape := ⟨2, ![16384, 2048]⟩
abbrev S16384x1024 : Shape := ⟨2, ![16384, 1024]⟩
abbrev S6x1024 : Shape := ⟨2, ![6, 1024]⟩
abbrev S4x1024 : Shape := ⟨2, ![4, 1024]⟩
abbrev S512x1024 : Shape := ⟨2, ![512, 1024]⟩
abbrev S256x1024 : Shape := ⟨2, ![256, 1024]⟩
abbrev S1024x1024 : Shape := ⟨2, ![1024, 1024]⟩
abbrev S16384x4x1 : Shape := ⟨3, ![16384, 4, 1]⟩
abbrev S16384x4x64 : Shape := ⟨3, ![16384, 4, 64]⟩
abbrev S_ : Shape := ⟨0, ![]⟩
abbrev S2x1024 : Shape := ⟨2, ![2, 1024]⟩
abbrev S8x1024 : Shape := ⟨2, ![8, 1024]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S16384x128 : Shape := ⟨2, ![16384, 128]⟩
abbrev S256x512 : Shape := ⟨2, ![256, 512]⟩
abbrev S256x256 : Shape := ⟨2, ![256, 256]⟩
abbrev S256x2048 : Shape := ⟨2, ![256, 2048]⟩
abbrev S256x128 : Shape := ⟨2, ![256, 128]⟩
abbrev S1x512x256 : Shape := ⟨3, ![1, 512, 256]⟩
abbrev S512x256 : Shape := ⟨2, ![512, 256]⟩
abbrev S1x256x256 : Shape := ⟨3, ![1, 256, 256]⟩
abbrev S1x1024 : Shape := ⟨2, ![1, 1024]⟩
abbrev S256 : Shape := ⟨1, ![256]⟩
abbrev S256x1 : Shape := ⟨2, ![256, 1]⟩

abbrev nBuf : Space → Nat
  | .hbm => 42
  | .vmem => 35
  | .smem => 0
  | _ => 0

abbrev bufTy : (tb : Table) → Fin (tcTables nBuf tb) → BufTy
  | .hbm, ⟨0, _⟩ => ⟨S16384x512, .bf16⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x4, .f32⟩
  | .hbm, ⟨5, _⟩ => ⟨S16384x4, .f32⟩
  | .hbm, ⟨6, _⟩ => ⟨S16384x4, .f32⟩
  | .hbm, ⟨7, _⟩ => ⟨S16384x2048, .f32⟩
  | .hbm, ⟨8, _⟩ => ⟨S16384x1024, .f32⟩
  | .hbm, ⟨9, _⟩ => ⟨S6x1024, .f32⟩
  | .hbm, ⟨10, _⟩ => ⟨S4x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S16384x4x1, .f32⟩
  | .hbm, ⟨15, _⟩ => ⟨S16384x4x64, .f32⟩
  | .hbm, ⟨16, _⟩ => ⟨S16384x256, .f32⟩
  | .hbm, ⟨17, _⟩ => ⟨S16384x4x1, .f32⟩
  | .hbm, ⟨18, _⟩ => ⟨S16384x4x64, .f32⟩
  | .hbm, ⟨19, _⟩ => ⟨S16384x256, .f32⟩
  | .hbm, ⟨20, _⟩ => ⟨S16384x4x1, .f32⟩
  | .hbm, ⟨21, _⟩ => ⟨S16384x4x64, .f32⟩
  | .hbm, ⟨22, _⟩ => ⟨S16384x256, .f32⟩
  | .hbm, ⟨23, _⟩ => ⟨S_, .f32⟩
  | .hbm, ⟨24, _⟩ => ⟨S2x1024, .f32⟩
  | .hbm, ⟨25, _⟩ => ⟨S8x1024, .f32⟩
  | .hbm, ⟨26, _⟩ => ⟨S_, .f32⟩
  | .hbm, ⟨27, _⟩ => ⟨S4x1024, .f32⟩
  | .hbm, ⟨28, _⟩ => ⟨S8x1024, .f32⟩
  | .hbm, ⟨29, _⟩ => ⟨S512x4x256, .f32⟩
  | .hbm, ⟨30, _⟩ => ⟨S4x512x256, .f32⟩
  | .hbm, ⟨31, _⟩ => ⟨S4x512x256, .bf16⟩
  | .hbm, ⟨32, _⟩ => ⟨S256x4x256, .f32⟩
  | .hbm, ⟨33, _⟩ => ⟨S4x256x256, .f32⟩
  | .hbm, ⟨34, _⟩ => ⟨S4x256x256, .bf16⟩
  | .hbm, ⟨35, _⟩ => ⟨S1024x1024, .bf16⟩
  | .hbm, ⟨36, _⟩ => ⟨S16384x1024, .f32⟩
  | .hbm, ⟨37, _⟩ => ⟨S16384x1024, .f32⟩
  | .hbm, ⟨38, _⟩ => ⟨S16384x128, .f32⟩
  | .hbm, ⟨39, _⟩ => ⟨S16384x1024, .bf16⟩
  | .hbm, ⟨40, _⟩ => ⟨S16384x1024, .bf16⟩
  | .hbm, ⟨41, _⟩ => ⟨S16384x256, .bf16⟩
  | .local _ .vmem, ⟨0, _⟩ => ⟨S256x512, .bf16⟩
  | .local _ .vmem, ⟨1, _⟩ => ⟨S256x512, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x2048, .f32⟩
  | .local _ .vmem, ⟨15, _⟩ => ⟨S256x2048, .f32⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S8x1024, .f32⟩
  | .local _ .vmem, ⟨20, _⟩ => ⟨S4x512x256, .bf16⟩
  | .local _ .vmem, ⟨21, _⟩ => ⟨S4x256x256, .bf16⟩
  | .local _ .vmem, ⟨22, _⟩ => ⟨S1024x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x128, .f32⟩
  | .local _ .vmem, ⟨28, _⟩ => ⟨S256x128, .f32⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x256, .bf16⟩
  | .local _ .vmem, ⟨34, _⟩ => ⟨S256x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev main_v20_4 : Ref sig .tc := ⟨.hbm, 40, rfl⟩
abbrev main_v20_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixOutRefIdeal.lean ====
abbrev S16384x512 : Shape := ⟨2, ![16384, 512]⟩
abbrev S16384x256 : Shape := ⟨2, ![16384, 256]⟩
abbrev S16384x4 : Shape := ⟨2, ![16384, 4]⟩
abbrev S16384x2048 : Shape := ⟨2, ![16384, 2048]⟩
abbrev S16384x1024 : Shape := ⟨2, ![16384, 1024]⟩
abbrev S6x1024 : Shape := ⟨2, ![6, 1024]⟩
abbrev S4x1024 : Shape := ⟨2, ![4, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1x16384x4 : Shape := ⟨3, ![1, 16384, 4]⟩
abbrev S3x16384x4 : Shape := ⟨3, ![3, 16384, 4]⟩
abbrev S_ : Shape := ⟨0, ![]⟩
abbrev S1x16384x256 : Shape := ⟨3, ![1, 16384, 256]⟩
abbrev S3x16384x256 : Shape := ⟨3, ![3, 16384, 256]⟩
abbrev S3x16384x4x64 : Shape := ⟨4, ![3, 16384, 4, 64]⟩
abbrev S3x16384x4x1 : Shape := ⟨4, ![3, 16384, 4, 1]⟩
abbrev S16384x4x64 : Shape := ⟨3, ![16384, 4, 64]⟩
abbrev S16384 : Shape := ⟨1, ![16384]⟩
abbrev S16384x1 : Shape := ⟨2, ![16384, 1]⟩
abbrev S1024 : Shape := ⟨1, ![1024]⟩
abbrev S16384x128 : Shape := ⟨2, ![16384, 128]⟩

abbrev nBuf : Space → Nat
  | .hbm => 121
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x4, .f32⟩
  | .hbm, ⟨5, _⟩ => ⟨S16384x4, .f32⟩
  | .hbm, ⟨6, _⟩ => ⟨S16384x4, .f32⟩
  | .hbm, ⟨7, _⟩ => ⟨S16384x2048, .f32⟩
  | .hbm, ⟨8, _⟩ => ⟨S16384x1024, .f32⟩
  | .hbm, ⟨9, _⟩ => ⟨S6x1024, .f32⟩
  | .hbm, ⟨10, _⟩ => ⟨S4x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x16384x4, .f32⟩
  | .hbm, ⟨20, _⟩ => ⟨S1x16384x4, .f32⟩
  | .hbm, ⟨21, _⟩ => ⟨S1x16384x4, .f32⟩
  | .hbm, ⟨22, _⟩ => ⟨S3x16384x4, .f32⟩
  | .hbm, ⟨23, _⟩ => ⟨S_, .f32⟩
  | .hbm, ⟨24, _⟩ => ⟨S16384x4, .f32⟩
  | .hbm, ⟨25, _⟩ => ⟨S_, .f32⟩
  | .hbm, ⟨26, _⟩ => ⟨S16384x4, .f32⟩
  | .hbm, ⟨27, _⟩ => ⟨S16384x4, .f32⟩
  | .hbm, ⟨28, _⟩ => ⟨S1x16384x4, .f32⟩
  | .hbm, ⟨29, _⟩ => ⟨S3x16384x4, .f32⟩
  | .hbm, ⟨30, _⟩ => ⟨S3x16384x4, .f32⟩
  | .hbm, ⟨31, _⟩ => ⟨S3x16384x4, .f32⟩
  | .hbm, ⟨32, _⟩ => ⟨S_, .f32⟩
  | .hbm, ⟨33, _⟩ => ⟨S16384x4, .f32⟩
  | .hbm, ⟨34, _⟩ => ⟨S1x16384x4, .f32⟩
  | .hbm, ⟨35, _⟩ => ⟨S3x16384x4, .f32⟩
  | .hbm, ⟨36, _⟩ => ⟨S3x16384x4, .f32⟩
  | .hbm, ⟨37, _⟩ => ⟨S1x16384x256, .f32⟩
  | .hbm, ⟨38, _⟩ => ⟨S1x16384x256, .f32⟩
  | .hbm, ⟨39, _⟩ => ⟨S1x16384x256, .f32⟩
  | .hbm, ⟨40, _⟩ => ⟨S3x16384x256, .f32⟩
  | .hbm, ⟨41, _⟩ => ⟨S3x16384x4x64, .f32⟩
  | .hbm, ⟨42, _⟩ => ⟨S3x16384x4x1, .f32⟩
  | .hbm, ⟨43, _⟩ => ⟨S3x16384x4x64, .f32⟩
  | .hbm, ⟨44, _⟩ => ⟨S3x16384x4x64, .f32⟩
  | .hbm, ⟨45, _⟩ => ⟨S_, .f32⟩
  | .hbm, ⟨46, _⟩ => ⟨S16384x4x64, .f32⟩
  | .hbm, ⟨47, _⟩ => ⟨S16384x256, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x512, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S1x1024, .f32⟩
  | .hbm, ⟨101, _⟩ => ⟨S1024, .f32⟩
  | .hbm, ⟨102, _⟩ => ⟨S1x1024, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S1024, .f32⟩
  | .hbm, ⟨107, _⟩ => ⟨S1x1024, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S1x1024, .f32⟩
  | .hbm, ⟨112, _⟩ => ⟨S1x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S16384x128, .f32⟩
  | .hbm, ⟨118, _⟩ => ⟨S16384x1024, .bf16⟩
  | .hbm, ⟨119, _⟩ => ⟨S16384x1024, .bf16⟩
  | .hbm, ⟨120, _⟩ => ⟨S16384x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== FfnBwd.lean ====
abbrev S16384x1024 : Shape := ⟨2, ![16384, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S2x1024 : Shape := ⟨2, ![2, 1024]⟩
abbrev S8x1024 : Shape := ⟨2, ![8, 1024]⟩
abbrev S16384x128 : Shape := ⟨2, ![16384, 128]⟩
abbrev S16384x4x704 : Shape := ⟨3, ![16384, 4, 704]⟩
abbrev S4x16384x704 : Shape := ⟨3, ![4, 16384, 704]⟩
abbrev S1024x4x704 : Shape := ⟨3, ![1024, 4, 704]⟩
abbrev S4x1024x704 : Shape := ⟨3, ![4, 1024, 704]⟩
abbrev S4x704x1024 : Shape := ⟨3, ![4, 704, 1024]⟩
abbrev S512x1024 : Shape := ⟨2, ![512, 1024]⟩
abbrev S512x128 : Shape := ⟨2, ![512, 128]⟩
abbrev S1x512x704 : Shape := ⟨3, ![1, 512, 704]⟩
abbrev S1x1024x704 : Shape := ⟨3, ![1, 1024, 704]⟩
abbrev S1x704x1024 : Shape := ⟨3, ![1, 704, 1024]⟩
abbrev S512x1 : Shape := ⟨2, ![512, 1]⟩
abbrev S512 : Shape := ⟨1, ![512]⟩
abbrev S1024 : Shape := ⟨1, ![1024]⟩
abbrev S704x1024 : Shape := ⟨2, ![704, 1024]⟩
abbrev S512x704 : Shape := ⟨2, ![512, 704]⟩
abbrev S1024x704 : Shape := ⟨2, ![1024, 704]⟩

abbrev nBuf : Space → Nat
  | .hbm => 85
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S6x1024, .f32⟩
  | .hbm, ⟨3, _⟩ => ⟨S4x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S2x1024, .f32⟩
  | .hbm, ⟨61, _⟩ => ⟨S8x1024, .f32⟩
  | .hbm, ⟨62, _⟩ => ⟨S_, .f32⟩
  | .hbm, ⟨63, _⟩ => ⟨S4x1024, .f32⟩
  | .hbm, ⟨64, _⟩ => ⟨S8x1024, .f32⟩
  | .hbm, ⟨65, _⟩ => ⟨S16384x128, .f32⟩
  | .hbm, ⟨66, _⟩ => ⟨S16384x1024, .bf16⟩
  | .hbm, ⟨67, _⟩ => ⟨S16384x4x704, .f32⟩
  | .hbm, ⟨68, _⟩ => ⟨S4x16384x704, .f32⟩
  | .hbm, ⟨69, _⟩ => ⟨S16384x4x704, .f32⟩
  | .hbm, ⟨70, _⟩ => ⟨S4x16384x704, .f32⟩
  | .hbm, ⟨71, _⟩ => ⟨S1024x4x704, .f32⟩
  | .hbm, ⟨72, _⟩ => ⟨S4x1024x704, .f32⟩
  | .hbm, ⟨73, _⟩ => ⟨S4x1024x704, .bf16⟩
  | .hbm, ⟨74, _⟩ => ⟨S1024x4x704, .f32⟩
  | .hbm, ⟨75, _⟩ => ⟨S4x1024x704, .f32⟩
  | .hbm, ⟨76, _⟩ => ⟨S4x1024x704, .bf16⟩
  | .hbm, ⟨77, _⟩ => ⟨S4x704x1024, .f32⟩
  | .hbm, ⟨78, _⟩ => ⟨S4x704x1024, .bf16⟩
  | .hbm, ⟨79, _⟩ => ⟨S16384x1024, .f32⟩
  | .hbm, ⟨80, _⟩ => ⟨S16384x1024, .bf16⟩
  | .hbm, ⟨81, _⟩ => ⟨S4x16384x704, .bf16⟩
  | .hbm, ⟨82, _⟩ => ⟨S4x16384x704, .bf16⟩
  | .hbm, ⟨83, _⟩ => ⟨S4x16384x704, .bf16⟩
  | .hbm, ⟨84, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S8x1024, .f32⟩
  | .local _ .vmem, ⟨15, _⟩ => ⟨S8x1024, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x704x1024, .bf16⟩
  | .local _ .vmem, ⟨21, _⟩ => ⟨S1x704x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x512x704, .bf16⟩
  | .local _ .vmem, ⟨30, _⟩ => ⟨S1x512x704, .bf16⟩
  | .local _ .vmem, ⟨31, _⟩ => ⟨S1x512x704, .bf16⟩
  | .local _ .vmem, ⟨32, _⟩ => ⟨S8x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55_0 : Ref sig .tc := ⟨.hbm, 79, rfl⟩
abbrev main_v55_1 : Ref sig .tc := ⟨.hbm, 80, rfl⟩
abbrev main_v55_2 : Ref sig .tc := ⟨.hbm, 81, rfl⟩
abbrev main_v55_3 : Ref sig .tc := ⟨.hbm, 82, rfl⟩
abbrev main_v55_4 : Ref sig .tc := ⟨.hbm, 83, rfl⟩
abbrev main_v55_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_37 : BitVec 32 := 0#32
  let v54 : BitVec 1 := Scalar.cmpi .ne v53 c0_i32_37
  v54

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x704 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x704 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== FfnBwdRefIdeal.lean ====
abbrev S16384x1024 : Shape := ⟨2, ![16384, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩
abbrev S3x1024 : Shape := ⟨2, ![3, 1024]⟩
abbrev S8x1024 : Shape := ⟨2, ![8, 1024]⟩
abbrev S16384x4x704 : Shape := ⟨3, ![16384, 4, 704]⟩
abbrev S4x16384x704 : Shape := ⟨3, ![4, 16384, 704]⟩

abbrev nBuf : Space → Nat
  | .hbm => 169
  | .vmem => 0
  | .smem => 0
  | _ => 0

abbrev hbmTy0_0 (i : Nat) : BufTy := match i % 128 with
  | 0 => ⟨S16384x1024, .f32⟩
  | 1 => ⟨S16384x1024, .f32⟩
  | 2 => ⟨S6x1024, .f32⟩
  | 3 => ⟨S4x1024, .f32⟩
  | 4 => ⟨S1024x2816, .f32⟩
  | 5 => ⟨S1024x2816, .f32⟩
  | 6 => ⟨S2816x1024, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S16384x1024, .f32⟩
  | 14 => ⟨S16384x1024, .f32⟩
  | 15 => ⟨S16384x1024, .f32⟩
  | 16 => ⟨S16384x1024, .f32⟩
  | 17 => ⟨S16384x2816, .f32⟩
  | 18 => ⟨S16384x2816, .f32⟩
  | 19 => ⟨S16384x2816, .f32⟩
  | 20 => ⟨S16384x2816, .f32⟩
  | 21 => ⟨S_, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S16384x2816, .f32⟩
  | 31 => ⟨S16384x2816, .f32⟩
  | 32 => ⟨S16384x2816, .f32⟩
  | 33 => ⟨S16384x1024, .f32⟩
  | 34 => ⟨S1x1024, .f32⟩
  | 35 => ⟨S1024, .f32⟩
  | 36 => ⟨S1x1024, .f32⟩
  | 37 => ⟨S1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x1024, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S16384x1024, .f32⟩
  | 81 => ⟨S_, .f32⟩
  | 82 => ⟨S1024, .f32⟩
  | 83 => ⟨S1x1024, .f32⟩
  | 84 => ⟨S_, .f32⟩
  | 85 => ⟨S1024, .f32⟩
  | 86 => ⟨S16384x1024, .f32⟩
  | 87 => ⟨S_, .f32⟩
  | 88 => ⟨S1024, .f32⟩
  | 89 => ⟨S1x1024, .f32⟩
  | 90 => ⟨S16384x1024, .f32⟩
  | 91 => ⟨S16384x1024, .f32⟩
  | 92 => ⟨S_, .f32⟩
  | 93 => ⟨S1024, .f32⟩
  | 94 => ⟨S16384x1024, .f32⟩
  | 95 => ⟨S_, .f32⟩
  | 96 => ⟨S16384, .f32⟩
  | 97 => ⟨S16384x1, .f32⟩
  | 98 => ⟨S16384x1024, .f32⟩
  | 99 => ⟨S16384x1024, .f32⟩
  | 100 => ⟨S16384x1, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384, .f32⟩
  | 110 => ⟨S16384x1024, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S16384x1024, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S16384x1024, .f32⟩
  | 5 => ⟨S16384x1024, .f32⟩
  | 6 => ⟨S16384x2816, .f32⟩
  | 7 => ⟨S16384x2816, .f32⟩
  | 8 => ⟨S16384x2816, .f32⟩
  | 9 => ⟨S16384x2816, .f32⟩
  | 10 => ⟨S16384x2816, .f32⟩
  | 11 => ⟨S16384x2816, .f32⟩
  | 12 => ⟨S16384x2816, .f32⟩
  | 13 => ⟨S16384x1024, .f32⟩
  | 14 => ⟨S16384x1024, .f32⟩
  | 15 => ⟨S16384x1024, .f32⟩
  | 16 => ⟨S_, .f32⟩
  | 17 => ⟨S1024, .f32⟩
  | 18 => ⟨S1x1024, .f32⟩
  | 19 => ⟨S16384x1024, .f32⟩
  | 20 => ⟨S_, .f32⟩
  | 21 => ⟨S1024, .f32⟩
  | 22 => ⟨S1x1024, .f32⟩
  | 23 => ⟨S16384x1024, .f32⟩
  | 24 => ⟨S16384x1024, .f32⟩
  | 25 => ⟨S1x1024, .f32⟩
  | 26 => ⟨S1x1024, .f32⟩
  | 27 => ⟨S_, .f32⟩
  | 28 => ⟨S3x1024, .f32⟩
  | 29 => ⟨S8x1024, .f32⟩
  | 30 => ⟨S16384x1024, .f32⟩
  | 31 => ⟨S16384x1024, .bf16⟩
  | 32 => ⟨S16384x4x704, .f32⟩
  | 33 => ⟨S4x16384x704, .f32⟩
  | 34 => ⟨S4x16384x704, .bf16⟩
  | 35 => ⟨S16384x4x704, .f32⟩
  | 36 => ⟨S4x16384x704, .f32⟩
  | 37 => ⟨S4x16384x704, .bf16⟩
  | 38 => ⟨S16384x4x704, .f32⟩
  | 39 => ⟨S4x16384x704, .f32⟩
  | 40 => ⟨S4x16384x704, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v11_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v11_1 : Ref sig .tc := ⟨.hbm, 30, rfl⟩
abbrev main_v11_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== Proof.InProj.Step.lean ====
/- What each grid point of the input projection's gradient leaves, written with its arithmetic. -/
module

public import proofs.«01_k».proof.Proof.Gen.InProjIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.InProjIdeal.Val

open Cert.InProjIdeal Cert.InProjIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the token tile is the point over four, the panel its remainder. -/
theorem idx : ∀ t : Fin cfg0.N, win0_0.index t = ![t.val / 4, t.val % 4]
    ∧ win0_1.index t = ![t.val % 4, 0, 0]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The gradient of the projection's input at token `r`, channel `d`: the product with the transposed weight. -/
def du (a : FVec Ideal S16384x5120 .bf16) (w : FVec Ideal S1024x5120 .f32) (r : Fin 16384) (d : Fin 1024) : EReal :=
  ∑ l : Fin 5120, a (ix2 r l) * w (ix2 d l)

/-- The gradient of the layer's input: the branch's own and the product scaled by the conditioning. -/
def dx (a : FVec Ideal S16384x5120 .bf16) (d₀ : FVec Ideal S16384x1024 .f32) (md : FVec Ideal S6x1024 .f32)
    (w : FVec Ideal S1024x5120 .f32) (r : Fin 16384) (d : Fin 1024) : EReal :=
  d₀ (ix2 r d) + du a w r d * (1 + md (ix2 1 d))

/-- The column sums of one tile: row 0 the scale's gradient, row 1 the shift's, the other rows nothing. -/
def tileRows (acc x : FVec Ideal S512x1024 .f32) (j : S8x1024.Idx) : EReal :=
  if (j 0).val = 0 then ∑ r : Fin 512, acc (ix2 r (j 1)) * x (ix2 r (j 1))
  else if (j 0).val = 1 then ∑ r : Fin 512, acc (ix2 r (j 1))
  else 0

/-- The cleared accumulator is zero. -/
theorem pay2_at (j : S512x1024.Idx) : k0_pay2 (F := Ideal) j = (0 : EReal) := by
  pointwise [k0_pay2]

/-- The cleared block of sums is zero. -/
theorem pay1_at (j : S8x1024.Idx) : k0_pay1 (F := Ideal) j = (0 : EReal) := by
  pointwise [k0_pay1]

/-- One panel's step adds the product of the panel's columns. -/
theorem pay3_at (acc : FVec Ideal S512x1024 .f32) (a : FVec Ideal S512x1280 .bf16) (w : FVec Ideal S1x1024x1280 .bf16)
    (j : S512x1024.Idx) :
    k0_pay3 (F := Ideal) acc a w j = acc j + ∑ k : Fin 1280, a (ix2 (j 0) k) * w (ix3 0 (j 1) k) := by
  pointwise [k0_pay3]

/-- The last panel's step scales the finished product and adds the branch's own gradient. -/
theorem pay4_at (acc x : FVec Ideal S512x1024 .f32) (s : FVec Ideal S1x1024 .f32) (j : S512x1024.Idx) :
    k0_pay4 (F := Ideal) acc x s j = x j + acc j * (1 + s (ix2 0 (j 1))) := by
  pointwise [k0_pay4]

/-- The scale's gradient takes in one tile. -/
theorem pay5_at (acc x : FVec Ideal S512x1024 .f32) (s : FVec Ideal S1x1024 .f32) (j : S1x1024.Idx) :
    k0_pay5 (F := Ideal) acc s x j = s j + ∑ r : Fin 512, acc (ix2 r (j 1)) * x (ix2 r (j 1)) := by
  pointwise [k0_pay5]

/-- The shift's gradient takes in one tile. -/
theorem pay6_at (acc : FVec Ideal S512x1024 .f32) (s : FVec Ideal S1x1024 .f32) (j : S1x1024.Idx) :
    k0_pay6 (F := Ideal) acc s j = s j + ∑ r : Fin 512, acc (ix2 r (j 1)) := by
  pointwise [k0_pay6]

/-- The scale's row of the block of conditioning rows the kernel is given. -/
theorem mod_row (c : Dev nD) (d : Fin 1024) :
    (V m c main_v4 (ix2 1 d) : EReal) = m ((c : Thread nD τ).loc main_arg3) (ix2 1 d) := by
  entry_read
  pointwise

/-- What the accumulator holds after the last panel of a tile: the whole product at the tile's rows. -/
theorem acc_last (c : Dev nD) (t : Fin cfg0.N) (ht : t.val % 4 = 3) (j : S512x1024.Idx) (r : Fin 16384)
    (hr : r.val = t.val / 4 * 512 + (j 0).val) :
    (outsAt0 m c t.val t.isLt).2.2 j
      = du (m ((c : Thread nD τ).loc main_arg0)) (m ((c : Thread nD τ).loc main_arg4)) r (j 1) := by
  rw [Pipeline.eq_sum_fin_of_reset_step_apply_of_flush (fun n h => (outsAt0 m c n h).2.2) 4 (fun _ => (0 : EReal)) _
    (fun t h j => by
      by_cases h0 : t.val % 128 = 0
      · rw [outsAt0_A m c t h0 h (by omega)]; frame_out; rw [pay3_at, pay2_at]
      · rw [outsAt0_D m c t h0 h (by omega)]; frame_out; rw [pay3_at, pay2_at])
    (fun t h j => by
      by_cases h2 : t.val % 4 = 3
      · rw [outsAt0_C m c t (by omega) h h2]; frame_out; rw [read_unread_whole, pay3_at]
      · rw [outsAt0_B m c t (by omega) h h2]; frame_out; rw [read_unread_whole, pay3_at]) t ht j, zero_add]
  refine Fin.sum_mul_add_congr fun s k hl => ?_
  have e := idx ⟨_, Pipeline.run_point_lt_of_flush t ht s⟩
  blk_point [iblk, V, e]

/-- The input's gradient at the end of a tile. -/
theorem dx_last (c : Dev nD) (t : Fin cfg0.N) (ht : t.val % 4 = 3) (j : S512x1024.Idx) (r : Fin 16384)
    (hr : r.val = t.val / 4 * 512 + (j 0).val) :
    (outsAt0 m c t.val t.isLt).1 j
      = dx (m ((c : Thread nD τ).loc main_arg0)) (m ((c : Thread nD τ).loc main_arg1)) (m ((c : Thread nD τ).loc main_arg3))
          (m ((c : Thread nD τ).loc main_arg4)) r (j 1) := by
  have hacc : (outsAt0 m c t.val t.isLt).2.2 = k0_pay3 (outsAt0 m c (t.val - 1) (Nat.lt_of_le_of_lt (Nat.sub_le _ _) t.isLt)).2.2 (iblk m c 0 t) (iblk m c 1 t) := by
    rw [outsAt0_C m c t (by omega) (by omega) ht]; frame_out; rw [read_unread_whole]
  unfold dx
  rw [← acc_last m c t ht j r hr, hacc, outsAt0_C m c t (by omega) (by omega) ht]; frame_out
  rw [pay4_at, read_unread_whole]
  have e := idx t
  refine congrArg₂ (fun u v : EReal => u + _ * (1 + v)) ?_ ((View.ld_unit_apply_of _ _ _ _ _ (ix2 1 (j 1)) fun a => by
    match a with
    | ⟨0, _⟩ => rfl
    | ⟨1, _⟩ => exact (Nat.zero_add _).symm).trans ?_)
  · blk_point [iblk, V, e]
  · refine Eq.trans ?_ (mod_row m c (j 1))
    blk_ext [iblk, e]

/-- What one point adds to the rows of sums: a tile's column sums at its last panel, nothing before. -/
def tileSum (c : Dev nD) (t : Fin cfg0.N) (j : S8x1024.Idx) : EReal :=
  if t.val % 4 = 3 then tileRows (outsAt0 m c t.val t.isLt).2.2 (iblk m c 3 t) j else 0

/-- The rows of sums after a tile's last panel. -/
theorem small_C (c : Dev nD) (t : Fin cfg0.N) (ht : t.val % 4 = 3) (j : S8x1024.Idx) :
    (outsAt0 m c t.val t.isLt).2.1 j
      = (outsAt0 m c (t.val - 1) (Nat.lt_of_le_of_lt (Nat.sub_le _ _) t.isLt)).2.1 j + tileSum m c t j := by
  have hacc : (outsAt0 m c t.val t.isLt).2.2 = k0_pay3 (outsAt0 m c (t.val - 1) (Nat.lt_of_le_of_lt (Nat.sub_le _ _) t.isLt)).2.2 (iblk m c 0 t) (iblk m c 1 t) := by
    rw [outsAt0_C m c t (by omega) (by omega) ht]; frame_out; rw [read_unread_whole]
  rw [tileSum, if_pos ht, hacc, outsAt0_C m c t (by omega) (by omega) ht]
  frame_out
  rw [read_unread_whole]
  generalize k0_pay3 (F := Ideal) _ _ _ = acc
  by_cases h1 : (j 0).val = 1
  · refine (View.read_writes_cons_unit_of_mem _ _ _ _ _ j (ix2 0 (j 1)) rfl (fun a => by
      match a with
      | ⟨0, _⟩ => exact h1
      | ⟨1, _⟩ => exact (Nat.zero_add _).symm)).trans ?_
    refine (pay6_at acc _ (ix2 0 (j 1))).trans ?_
    rw [View.ld_unit_apply_of _ _ _ _ _ j (fun a => by
      match a with
      | ⟨0, _⟩ => exact h1
      | ⟨1, _⟩ => exact (Nat.zero_add _).symm), tileRows, if_neg (by omega), if_pos h1]
    rfl
  · rw [View.read_writes_cons_unit_of_not_mem _ _ _ _ _ j rfl 0 (by
      show (j 0).val < 1 ∨ 1 + 1 ≤ (j 0).val; omega)]
    by_cases h0 : (j 0).val = 0
    · refine (View.read_writes_cons_unit_of_mem _ _ _ _ _ j (ix2 0 (j 1)) rfl (fun a => by
        match a with
        | ⟨0, _⟩ => exact h0
        | ⟨1, _⟩ => exact (Nat.zero_add _).symm)).trans ?_
      refine (pay5_at acc _ _ (ix2 0 (j 1))).trans ?_
      rw [View.ld_unit_apply_of _ _ _ _ _ j (fun a => by
        match a with
        | ⟨0, _⟩ => exact h0
        | ⟨1, _⟩ => exact (Nat.zero_add _).symm), tileRows, if_pos h0]
      rfl
    · rw [View.read_writes_cons_unit_of_not_mem _ _ _ _ _ j rfl 0 (by
        show (j 0).val < 0 ∨ 0 + 1 ≤ (j 0).val; omega), tileRows, if_neg h0, if_neg h1, add_zero]
      exact congrFun (Memref.IsWhole.read_unread _ _) j

/-- The rows of sums are kept at a point that is neither the first nor a tile's last. -/
theorem small_keep (c : Dev nD) (t : Fin cfg0.N) (h0 : ¬t.val % 128 = 0) (ht : ¬t.val % 4 = 3) :
    (outsAt0 m c t.val t.isLt).2.1 = (outsAt0 m c (t.val - 1) (Nat.lt_of_le_of_lt (Nat.sub_le _ _) t.isLt)).2.1 := by
  by_cases h1 : t.val % 4 = 0
  · rw [outsAt0_D m c t h0 h1 ht]; rfl
  · rw [outsAt0_B m c t h0 h1 ht]; rfl

/-- The rows of sums after the last point: every point's term. -/
theorem small_last (c : Dev nD) (t : Fin cfg0.N) (ht : t.val + 1 = cfg0.N) (j : S8x1024.Idx) :
    (outsAt0 m c t.val t.isLt).2.1 j = ∑ p : Fin cfg0.N, tileSum m c p j := by
  rw [Pipeline.eq_sum_fin_of_reset_step_apply_last (fun n h => (outsAt0 m c n h).2.1) 128 (fun _ => (0 : EReal))
    (tileSum m c)
    (fun t h j => by
      rw [outsAt0_A m c t h (by omega) (by omega)]; frame_out
      rw [pay1_at, tileSum, if_neg (by omega), zero_add])
    (fun t h j => by
      by_cases h2 : t.val % 4 = 3
      · exact small_C m c t h2 j
      · rw [small_keep m c t h h2, tileSum, if_neg h2, add_zero])
    (le_of_eq N_0) t ht j, zero_add]

/-- The gradient of the scale and of the shift: column sums over every token. -/
def rows (a : FVec Ideal S16384x5120 .bf16) (x : FVec Ideal S16384x1024 .f32) (w : FVec Ideal S1024x5120 .f32)
    (j : S8x1024.Idx) : EReal :=
  if (j 0).val = 0 then ∑ r : Fin 16384, du a w r (j 1) * x (ix2 r (j 1))
  else if (j 0).val = 1 then ∑ r : Fin 16384, du a w r (j 1)
  else 0

/-- The rows of sums after the last point are the column sums over every token. -/
theorem small_rows (c : Dev nD) (t : Fin cfg0.N) (ht : t.val + 1 = cfg0.N) (j : S8x1024.Idx) :
    (outsAt0 m c t.val t.isLt).2.1 j
      = rows (m ((c : Thread nD τ).loc main_arg0)) (m ((c : Thread nD τ).loc main_arg2)) (m ((c : Thread nD τ).loc main_arg4)) j := by
  have hN : (cfg0.N : ℕ) = 32 * 4 := N_0
  have step : ∀ (a : Fin 32) (s : Fin 4) (h : a.val * 4 + s.val < cfg0.N),
      tileSum m c ⟨a.val * 4 + s.val, h⟩ j = if s = 3 then tileSum m c ⟨a.val * 4 + 3, by have := a.isLt; omega⟩ j else 0 := by
    intro a s h
    by_cases hs : s = 3
    · subst hs; rw [if_pos rfl]; rfl
    · rw [if_neg hs, tileSum, if_neg]
      intro h'; apply hs; apply Fin.ext
      have : (a.val * 4 + s.val) % 4 = 3 := h'
      show s.val = 3
      omega
  rw [small_last m c t ht j, ← Fin.sum_mul_add_congr (F := fun (a : Fin 32) (s : Fin 4) =>
    if s = 3 then tileSum m c ⟨a.val * 4 + 3, by have := a.isLt; omega⟩ j else 0) (fun a s h => (step a s h).symm) hN]
  have hacc : ∀ (a : Fin 32) (r : Fin 512), (outsAt0 m c (a.val * 4 + 3) (by have := a.isLt; omega)).2.2 (ix2 r (j 1))
      = du (m ((c : Thread nD τ).loc main_arg0)) (m ((c : Thread nD τ).loc main_arg4)) ⟨a.val * 512 + r.val, by have := a.isLt; have := r.isLt; omega⟩ (j 1) :=
    fun a r => acc_last m c ⟨a.val * 4 + 3, by have := a.isLt; omega⟩ (by show (a.val * 4 + 3) % 4 = 3; omega) (ix2 r (j 1)) _
      (by show a.val * 512 + r.val = (a.val * 4 + 3) / 4 * 512 + r.val; omega)
  have h3 : ∀ a : Fin 32, (a.val * 4 + 3) % 4 = 3 := fun a => by omega
  simp only [Finset.sum_ite_eq', Finset.mem_univ, if_true]
  unfold tileSum tileRows rows
  by_cases h0 : (j 0).val = 0
  · simp only [h0, h3, if_true, hacc]
    refine Fin.sum_mul_add_congr fun a r hl => ?_
    have e := idx ⟨a.val * 4 + 3, by have := a.isLt; omega⟩
    blk_point [iblk, V, e]
  · by_cases h1 : (j 0).val = 1
    · simp only [h1, h3, if_true, hacc]
      exact Fin.sum_mul_add_congr fun a r hl => rfl
    · simp only [h0, h1, if_false, ite_self, Finset.sum_const_zero]

end Cert.InProjIdeal.Val
-- ==== Proof.InProj.Ref.lean ====
/- The reference's results read at an index. -/
module

public import proofs.«01_k».proof.Proof.Gen.InProjRefIdeal.Read
public import proofs.«01_k».proof.Proof.InProj.Step
public import Idealize.ShloMosaic.Lib.Pointwise

@[expose] public section

set_option maxRecDepth 16384

noncomputable section

namespace Cert.InProjRefIdeal.Val

open Cert.InProjRefIdeal Cert.InProjRefIdeal.Gen Cert.InProjRefIdeal.Read
open Idealize.ShloMosaic Idealize.ShloMosaic.TcCoe Idealize.SL.Sem
open scoped BigOperators

/-- The reference's gradient of the input at token `i 0`, channel `i 1`. -/
theorem dx_at (a : FVec Ideal S16384x5120 .bf16) (d₀ : FVec Ideal S16384x1024 .f32) (md : FVec Ideal S6x1024 .f32)
    (w : FVec Ideal S1024x5120 .f32) (i : S16384x1024.Idx) :
    val_main_v18 (F := Ideal) a d₀ md w i = Cert.InProjIdeal.Val.dx a d₀ md w (i 0) (i 1) := by
  pointwise [val_main_v18, val_main_v17, val_main_v16, val_main_v10, val_main_v9, val_main_v3, val_main_v2, val_main_v1, val_main_cst,
    Cert.InProjIdeal.Val.dx, Cert.InProjIdeal.Val.du]

/-- The reference's two rows of sums at an index. -/
theorem rows_at (a : FVec Ideal S16384x5120 .bf16) (x : FVec Ideal S16384x1024 .f32) (w : FVec Ideal S1024x5120 .f32)
    (i : S8x1024.Idx) :
    val_main_v20 (F := Ideal) a x w i = Cert.InProjIdeal.Val.rows a x w i := by
  pointwise [val_main_v20, val_main_v19, val_main_v15, val_main_v14, val_main_v13, val_main_v12, val_main_v11, val_main_v10, val_main_v9,
    val_main_cst_0, val_main_cst_1, val_main_cst_2,
    Cert.InProjIdeal.Val.rows, Cert.InProjIdeal.Val.du]
  by_cases h0 : (i 0).val = 0
  · rw [dif_pos (show (i 0).val < 1 by omega), if_pos h0]
    exact Fin.sum_fin_congr fun r => mul_comm (G := EReal) _ _
  · rw [dif_neg (show ¬(i 0).val < 1 by omega), if_neg h0]
    by_cases h1 : (i 0).val = 1
    · rw [dif_pos (show (i 0).val - 1 < 1 by omega), if_pos h1]
    · rw [dif_neg (show ¬(i 0).val - 1 < 1 by omega), if_neg h1]

end Cert.InProjRefIdeal.Val
-- ==== Proof.InProj.Final.lean ====
/- The kernel's arrays after the run, as the reference's. -/
module

public import proofs.«01_k».proof.Proof.InProj.Ref

@[expose] public section

set_option maxRecDepth 16384

noncomputable section

namespace Cert.InProjIdeal.Val

open Cert.InProjIdeal Cert.InProjIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The input's gradient after the run is the reference's. -/
theorem final_dx (c : Dev nD) : (dats m 0 c).arrAt 5 cfg0.N
    = Cert.InProjRefIdeal.Read.val_main_v18 (F := Ideal) (m ((c : Thread nD τ).loc main_arg0)) (m ((c : Thread nD τ).loc main_arg1))
        (m ((c : Thread nD τ).loc main_arg3)) (m ((c : Thread nD τ).loc main_arg4)) := by
  refine (dats m 0 c).arrAt_eq_of_covers 5 _ (by decide +kernel) fun t hf y => ?_
  have e := idx t
  blk_simp [e]
  rw [after0_5]
  refine (dx_last m c t ((flush0_5 t).mp hf) y (((win0_5.blk t).view.emb y) 0) (by blk_simp [e])).trans
    (Eq.trans ?_ (Cert.InProjRefIdeal.Val.dx_at _ _ _ _ _).symm)
  exact congrArg (dx _ _ _ _ _) (Fin.ext (by blk_simp [e]))

/-- The rows of sums after the run are the reference's. -/
theorem final_rows (c : Dev nD) : (dats m 0 c).arrAt 6 cfg0.N
    = Cert.InProjRefIdeal.Read.val_main_v20 (F := Ideal) (m ((c : Thread nD τ).loc main_arg0)) (m ((c : Thread nD τ).loc main_arg2))
        (m ((c : Thread nD τ).loc main_arg4)) := by
  refine (dats m 0 c).arrAt_eq_of_covers 6 _ (by decide +kernel) fun t hf y => ?_
  have e := idx t
  blk_simp [e]
  rw [after0_6]
  have hN : (cfg0.N : ℕ) = 128 := N_0
  refine (small_rows m c t (by have := (flush0_6 t).mp hf; have := t.isLt; omega) y).trans
    (Eq.trans ?_ (Cert.InProjRefIdeal.Val.rows_at _ _ _ _).symm)
  exact congrArg (rows _ _ _) (funext fun a => Fin.ext (by
    match a with
    | ⟨0, _⟩ => blk_simp [e]
    | ⟨1, _⟩ => blk_simp [e]))

end Cert.InProjIdeal.Val
-- ==== Proof.InProj.Claims.lean ====
/- The claims about the input projection's gradient. -/
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.InProj.Final
public import Idealize.ShloMosaic.Lib.Claim

@[expose] public section

set_option maxRecDepth 16384

noncomputable section

namespace Cert.Proof.InProj

open Idealize.ShloMosaic Idealize.SL.Sem

/-- The kernel over bits runs to its end and leaves its arguments as they were. -/
theorem frame_bits : Cert.quiescent_InProj := fun m g _ => Cert.InProj.Gen.frame m g

/-- So does the kernel over the extended reals. -/
theorem frame_ideal : Cert.quiescent_InProjIdeal := fun m g _ => Cert.InProjIdeal.Gen.frame m g

/-- So does the reference: it is host operations alone, and has no semaphore. -/
theorem frame_ref : Cert.quiescent_InProjRefIdeal := fun m g _ =>
  (θ_run Cert.InProjRefIdeal.defs _ _).mono
    (fun r h => ⟨fun c => (h c).2.2, sem_eq_zero_of_no_sems (by decide) r.2⟩)
    (Cert.InProjRefIdeal.Value.run (F := Ideal) m g)

open Cert.InProjRefIdeal.Read Cert.InProjIdeal.Value in
/-- The kernel's two arrays are the reference's: the derivative of the conditioned projection. -/
theorem value : Cert.algebraic_InProjIdeal_InProjRefIdeal := by
  intro m g m' g' _ ha
  refine ⟨_, _, (θ_run Cert.InProjIdeal.defs _ _).mono
      (fun r h c => ⟨(post5 m r h c).trans (Cert.InProjIdeal.Val.final_dx m c),
        (post6 m r h c).trans (Cert.InProjIdeal.Val.final_rows m c),
        kept_main_arg0 m r h c, kept_main_arg1 m r h c, kept_main_arg2 m r h c, kept_main_arg3 m r h c,
        kept_main_arg4 m r h c⟩) (Cert.InProjIdeal.Gen.run_main m g),
    (θ_run Cert.InProjRefIdeal.defs _ _).mono (fun r h c => ⟨(h c).1.trans ?_, (h c).2.1.trans ?_, (h c).2.2⟩)
      (Cert.InProjRefIdeal.Value.run (F := Ideal) m' g')⟩
  · obtain ⟨h0, h1, h2, h3, h4⟩ := ha c
    rw [h0, h1, h3, h4]
    exact val_main_v18_eq _ _ _ _
  · obtain ⟨h0, h1, h2, h3, h4⟩ := ha c
    rw [h0, h2, h4]
    exact val_main_v20_eq _ _ _

end Cert.Proof.InProj

end
-- ==== Proof.Norm.Grad.lean ====
/- The gradient of a row's normalisation, spelt two ways: the closed form, and the chain rule through the mean, the variance and the root. -/
module

public import Idealize.ShloMosaic.PureOps.Ideal
public import Mathlib.Tactic.FieldSimp
public import Mathlib.Tactic.Ring
public import Mathlib.Tactic.Positivity
public import Mathlib.Algebra.BigOperators.Fin

@[expose] public section

noncomputable section

namespace Cert.Norm

open Idealize.ShloMosaic
open scoped BigOperators

/-- An extended real that is a real number. -/
def IsReal (x : EReal) : Prop := ∃ a : ℝ, x = (a : EReal)

theorem IsReal.coe (a : ℝ) : IsReal (a : EReal) := ⟨a, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, taken in the extended reals, is their sum. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ k, IsReal (f k)) : IsReal (∑ k ∈ s, f k) := by
  choose g hg using h
  exact ⟨∑ k ∈ s, g k, by rw [← sum_coe]; exact Finset.sum_congr rfl fun k _ => hg k⟩

/-- An extended real whose size is below infinity is a real number. -/
theorem IsReal.of_ne {x : EReal} (h1 : x ≠ ⊥) (h2 : x ≠ ⊤) : IsReal x := ⟨x.toReal, (EReal.coe_toReal h2 h1).symm⟩

/-- The logistic function is a real number everywhere, at the two infinities too. -/
theorem IsReal.logistic (x : EReal) : IsReal (Ideal.logistic x) := by
  induction x using EReal.rec with
  | bot => exact ⟨0, by simp [Ideal.logistic_bot]⟩
  | top => exact ⟨1, by simp [Ideal.logistic_top]⟩
  | coe r => exact ⟨_, Ideal.logistic_coe r⟩

variable {n : ℕ}

/-- A row's distance from its mean. -/
def dev (R : Fin n → EReal) (N : EReal) (k : Fin n) : EReal := R k - Ideal.div (∑ l, R l) N

/-- A row's variance with the constant that keeps it away from zero. -/
def var (R : Fin n → EReal) (N E : EReal) : EReal := Ideal.div (∑ k, dev R N k * dev R N k) N + E

/-- The reciprocal of a row's standard deviation. -/
def rstd (R : Fin n → EReal) (N E : EReal) : EReal := Ideal.rsqrt (var R N E)

/-- A row normalised. -/
def hat (R : Fin n → EReal) (N E : EReal) (k : Fin n) : EReal := dev R N k * rstd R N E

/-- What the chain rule sends back through the variance, before the factor of the distance. -/
def viaVar (R G : Fin n → EReal) (N E C : EReal) : EReal :=
  Ideal.div ((∑ k, dev R N k * G k) * (C * Ideal.div (rstd R N E) (var R N E))) N

/-- The gradient by the chain rule, through the distance, the variance and the mean. -/
def chain (R G : Fin n → EReal) (N E C T : EReal) (j : Fin n) : EReal :=
  (G j * rstd R N E + viaVar R G N E C * (T * dev R N j))
    + Ideal.div ((∑ k, -(G k * rstd R N E)) + ∑ k, -(viaVar R G N E C * (T * dev R N k))) N

/-- The gradient in closed form. -/
def closed (R G : Fin n → EReal) (N E : EReal) (j : Fin n) : EReal :=
  rstd R N E * ((G j - Ideal.div (∑ k, G k) N) - hat R N E j * Ideal.div (∑ k, G k * hat R N E k) N)

/-- The two spellings over the reals. -/
theorem grad_real (g d : Fin n → ℝ) (s v N : ℝ) (hd : ∑ k, d k = 0) (hs : s * s * v = 1) (j : Fin n) :
    s * ((g j - (∑ k, g k) * (1 / N)) - d j * s * ((∑ k, g k * (d k * s)) * (1 / N)))
      = (g j * s + (∑ k, d k * g k) * (-(1 / 2) * (s * (1 / v))) * (1 / N) * (2 * d j))
        + ((∑ k, -(g k * s)) + ∑ k, -((∑ l, d l * g l) * (-(1 / 2) * (s * (1 / v))) * (1 / N) * (2 * d k))) * (1 / N) := by
  have hv : v ≠ 0 := fun h => by rw [h, mul_zero] at hs; exact zero_ne_one hs
  have h1 : (1 : ℝ) / v = s * s := by rw [div_eq_iff hv, hs]
  have h2 : ∑ k, g k * (d k * s) = (∑ k, d k * g k) * s := by
    rw [Finset.sum_mul]; exact Finset.sum_congr rfl fun k _ => by ring
  have h3 : ∑ k, -(g k * s) = -((∑ k, g k) * s) := by rw [Finset.sum_neg_distrib, Finset.sum_mul]
  have h4 (c : ℝ) : ∑ k, -(c * (2 * d k)) = 0 := by
    rw [Finset.sum_neg_distrib, ← Finset.mul_sum, ← Finset.mul_sum, hd, mul_zero, mul_zero, neg_zero]
  rw [h1, h2, h3, h4]
  ring

/-- The closed form is the chain rule on a row of real numbers. -/
theorem closed_eq_chain (R G : Fin n → EReal) (N E C T : EReal) (ε : ℝ) (hn : 0 < n) (hN : N = ((n : ℝ) : EReal))
    (hE : E = (ε : EReal)) (hε : 0 < ε) (hC : C = ((-(1 / 2) : ℝ) : EReal)) (hT : T = ((2 : ℝ) : EReal))
    (hR : ∀ k, IsReal (R k)) (hG : ∀ k, IsReal (G k)) (j : Fin n) :
    closed R G N E j = chain R G N E C T j := by
  choose r hr using hR
  choose g hg using hG
  obtain rfl : R = fun k => (r k : EReal) := funext hr
  obtain rfl : G = fun k => (g k : EReal) := funext hg
  subst hN hE hC hT
  have hn' : (n : ℝ) ≠ 0 := by positivity
  have hdev (k : Fin n) : dev (fun k => (r k : EReal)) ((n : ℝ) : EReal) k = ((r k - (∑ l, r l) * (1 / n) : ℝ) : EReal) := by
    rw [dev, sum_coe, Ideal.div_coe hn', ← EReal.coe_mul, ← EReal.coe_sub]
  generalize hd : (fun k => r k - (∑ l, r l) * (1 / (n : ℝ))) = d at *
  have hdev (k : Fin n) : dev (fun k => (r k : EReal)) ((n : ℝ) : EReal) k = (d k : EReal) := by rw [hdev, ← hd]
  have hsum : ∑ k, d k = 0 := by
    rw [← hd, Finset.sum_sub_distrib, Finset.sum_const, Finset.card_univ, Fintype.card_fin, nsmul_eq_mul]
    field_simp
    ring
  have hvar : var (fun k => (r k : EReal)) ((n : ℝ) : EReal) (ε : EReal) = (((∑ k, d k * d k) * (1 / n) + ε : ℝ) : EReal) := by
    simp only [var, hdev, ← EReal.coe_mul]
    rw [sum_coe, Ideal.div_coe hn', ← EReal.coe_mul, ← EReal.coe_add]
  have hpos : 0 < (∑ k, d k * d k) * (1 / (n : ℝ)) + ε := by
    have : 0 ≤ ∑ k, d k * d k := Finset.sum_nonneg fun k _ => mul_self_nonneg _
    positivity
  generalize (∑ k, d k * d k) * (1 / (n : ℝ)) + ε = v at *
  have hrstd : rstd (fun k => (r k : EReal)) ((n : ℝ) : EReal) (ε : EReal) = (((Real.sqrt v)⁻¹ : ℝ) : EReal) := by
    rw [rstd, hvar, Ideal.rsqrt_coe, if_neg (not_lt.mpr hpos.le), if_neg hpos.ne']
  have hs : (Real.sqrt v)⁻¹ * (Real.sqrt v)⁻¹ * v = 1 := by
    rw [← mul_inv, Real.mul_self_sqrt hpos.le, inv_mul_cancel₀ hpos.ne']
  generalize (Real.sqrt v)⁻¹ = s at *
  simp only [closed, chain, viaVar, hat, hrstd, hvar, hdev, ← EReal.coe_mul, sum_coe, Ideal.div_coe hn', Ideal.div_coe hpos.ne',
    ← EReal.coe_sub, ← EReal.coe_add, ← EReal.coe_neg]
  exact congrArg _ (grad_real g d s v n hsum hs j)

end Cert.Norm

end
-- ==== Proof.Mix.Spec.lean ====
/- The gated mix's gradient written with its arithmetic: every array the kernel leaves, at a token and a channel. -/
module

public import proofs.«01_k».proof.Proof.Norm.Grad
public import Idealize.ShloMosaic.PureOps
public import Idealize.ShloMosaic.Lib.Pointwise

@[expose] public section

set_option maxRecDepth 16384

noncomputable section

namespace Cert.Mix.Spec

open Idealize.ShloMosaic Idealize.ShloMosaic.TcCoe
open Cert.Norm
open scoped BigOperators

/-- The arrays the gradient is taken of, and the gradient of the layer norm's output. -/
structure Args where
  dxm : FVec Ideal ⟨2, ![16384, 1024]⟩ .f32
  x : FVec Ideal ⟨2, ![16384, 1024]⟩ .f32
  gates : FVec Ideal ⟨2, ![16384, 2048]⟩ .f32
  ya : FVec Ideal ⟨2, ![16384, 512]⟩ .f32
  yb : FVec Ideal ⟨2, ![16384, 256]⟩ .f32
  md : FVec Ideal ⟨2, ![6, 1024]⟩ .f32
  ln : FVec Ideal ⟨2, ![4, 1024]⟩ .f32
  wa : FVec Ideal ⟨2, ![512, 1024]⟩ .f32
  wb : FVec Ideal ⟨2, ![256, 1024]⟩ .f32
  wo : FVec Ideal ⟨2, ![1024, 1024]⟩ .f32

/-- The row length, as the programs write it. -/
def len : EReal := Ideal.ofBits .f32 0x44800000#32

/-- The constant added to the variance. -/
def eps : EReal := Ideal.ofBits .f32 0x3727C5AC#32

/-- The residual's weight. -/
def alpha : EReal := Ideal.ofBits .f32 0x3FD744FD#32

/-- The factor the derivative of the reciprocal root carries. -/
def negHalf : EReal := Ideal.ofBits .f32 0xBF000000#32

/-- The factor the derivative of a square carries. -/
def two : EReal := Ideal.ofBits .f32 0x40000000#32

theorem len_eq : len = (((1024 : ℕ) : ℝ) : EReal) := by
  simp [len, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem two_eq : two = ((2 : ℝ) : EReal) := by
  simp [two, Ideal.ofBits, Ideal.ieee, -EReal.coe_mul]; norm_num

theorem eps_eq : ∃ ε : ℝ, eps = (ε : EReal) ∧ 0 < ε := by
  refine ⟨_, by simp only [eps, Ideal.ofBits, Ideal.ieee]; simp [-EReal.coe_mul]; rfl, by norm_num⟩

theorem alpha_real : IsReal alpha := by
  refine ⟨_, by simp only [alpha, Ideal.ofBits, Ideal.ieee]; simp [-EReal.coe_mul]; rfl⟩

variable (a : Args)

/-- The first branch's product. -/
def za (r : Fin 16384) (j : Fin 1024) : EReal := ∑ l : Fin 512, a.ya (ix2 r l) * a.wa (ix2 l j)

/-- The second branch's product. -/
def zb (r : Fin 16384) (j : Fin 1024) : EReal := ∑ l : Fin 256, a.yb (ix2 r l) * a.wb (ix2 l j)

/-- The first branch's gate. -/
def ga (r : Fin 16384) (j : Fin 1024) : EReal := Ideal.logistic (a.gates (ix2 r ⟨j.val, by omega⟩))

/-- The second branch's gate. -/
def gb (r : Fin 16384) (j : Fin 1024) : EReal := Ideal.logistic (a.gates (ix2 r ⟨1024 + j.val, by omega⟩))

/-- The gated mix. -/
def merged (r : Fin 16384) (j : Fin 1024) : EReal := ga a r j * za a r j + gb a r j * zb a r j

/-- The mix after its output projection. -/
def t (r : Fin 16384) (j : Fin 1024) : EReal := ∑ l : Fin 1024, merged a r l * a.wo (ix2 l j)

/-- The row the layer norm normalises. -/
def row (r : Fin 16384) (j : Fin 1024) : EReal := alpha * a.x (ix2 r j) + a.md (ix2 2 j) * t a r j

/-- The gradient of the normalised row. -/
def dy (r : Fin 16384) (j : Fin 1024) : EReal := a.dxm (ix2 r j) * a.ln (ix2 0 j)

/-- The normalised row. -/
def xhat (r : Fin 16384) (j : Fin 1024) : EReal := hat (row a r) len eps j

/-- The reciprocal of the row's standard deviation. -/
def rs (r : Fin 16384) : EReal := rstd (row a r) len eps

/-- The gradient of the row. -/
def dr (r : Fin 16384) (j : Fin 1024) : EReal := closed (row a r) (dy a r) len eps j

/-- The gradient of the layer's input. -/
def dx (r : Fin 16384) (j : Fin 1024) : EReal := alpha * dr a r j

/-- The gradient of the mix after its projection. -/
def dt (r : Fin 16384) (j : Fin 1024) : EReal := a.md (ix2 2 j) * dr a r j

/-- The gradient of the mix. -/
def dm (r : Fin 16384) (j : Fin 1024) : EReal := ∑ l : Fin 1024, dt a r l * a.wo (ix2 j l)

/-- The gradient of the first branch's product. -/
def dza (r : Fin 16384) (j : Fin 1024) : EReal := dm a r j * ga a r j

/-- The gradient of the second branch's product. -/
def dzb (r : Fin 16384) (j : Fin 1024) : EReal := dm a r j * gb a r j

/-- The gradient of the first gate's argument. -/
def dga (r : Fin 16384) (j : Fin 1024) : EReal := dm a r j * za a r j * (ga a r j * (1 - ga a r j))

/-- The gradient of the second gate's argument. -/
def dgb (r : Fin 16384) (j : Fin 1024) : EReal := dm a r j * zb a r j * (gb a r j * (1 - gb a r j))

/-- The gradient of both gates' arguments, side by side. -/
def dgates (r : Fin 16384) (j : Fin 2048) : EReal :=
  if h : j.val < 1024 then dga a r ⟨j.val, h⟩ else dgb a r ⟨j.val - 1024, by omega⟩

/-- The gradient of the first branch. -/
def dya (r : Fin 16384) (j : Fin 512) : EReal := ∑ l : Fin 1024, dza a r l * a.wa (ix2 j l)

/-- The gradient of the second branch. -/
def dyb (r : Fin 16384) (j : Fin 256) : EReal := ∑ l : Fin 1024, dzb a r l * a.wb (ix2 j l)

/-- The rows of sums: the layer norm's scale, its shift and the conditioning's gate; the other rows nothing. -/
def sums (j : Fin 8) (d : Fin 1024) : EReal :=
  if j.val = 0 then ∑ r, a.dxm (ix2 r d) * xhat a r d
  else if j.val = 1 then ∑ r, a.dxm (ix2 r d)
  else if j.val = 2 then ∑ r, dr a r d * t a r d
  else 0

/-- Every array the layer norm's gradient reads is finite, and what makes them. -/
structure Finite : Prop where
  dxm : ∀ r j, IsReal (a.dxm (ix2 r j))
  x : ∀ r j, IsReal (a.x (ix2 r j))
  ya : ∀ r j, IsReal (a.ya (ix2 r j))
  yb : ∀ r j, IsReal (a.yb (ix2 r j))
  md : ∀ j, IsReal (a.md (ix2 2 j))
  ln : ∀ j, IsReal (a.ln (ix2 0 j))
  wa : ∀ r j, IsReal (a.wa (ix2 r j))
  wb : ∀ r j, IsReal (a.wb (ix2 r j))
  wo : ∀ r j, IsReal (a.wo (ix2 r j))

variable {a}

theorem Finite.row (h : Finite a) (r : Fin 16384) (j : Fin 1024) : IsReal (row a r j) :=
  (alpha_real.mul (h.x r j)).add ((h.md j).mul (IsReal.sum _ fun l =>
    (((IsReal.logistic _).mul (IsReal.sum _ fun k => (h.ya r k).mul (h.wa k l))).add
      ((IsReal.logistic _).mul (IsReal.sum _ fun k => (h.yb r k).mul (h.wb k l)))).mul (h.wo l j)))

/-- The closed form is the chain rule on the rows of finite arrays. -/
theorem Finite.dr_eq (h : Finite a) (r : Fin 16384) (j : Fin 1024) :
    dr a r j = chain (Spec.row a r) (dy a r) len eps negHalf two j := by
  obtain ⟨ε, he, hε⟩ := eps_eq
  exact closed_eq_chain _ _ _ _ _ _ ε (by norm_num) len_eq he hε negHalf_eq two_eq (h.row r) (fun k => (h.dxm r k).mul (h.ln k)) j

end Cert.Mix.Spec

end
-- ==== Proof.Mix.Ref.lean ====
/- The reference's results read at an index. -/
module

public import proofs.«01_k».proof.Proof.Gen.MixRefIdeal.Read
public import proofs.«01_k».proof.Proof.Mix.Spec

@[expose] public section

set_option maxRecDepth 16384

noncomputable section

namespace Cert.MixRefIdeal.Val

open Cert.MixRefIdeal Cert.MixRefIdeal.Gen Cert.MixRefIdeal.Read
open Idealize.ShloMosaic Idealize.ShloMosaic.TcCoe Idealize.SL.Sem
open Cert.Mix.Spec Cert.Norm
open scoped BigOperators

variable (a : Args)

theorem za_at (i : S16384x1024.Idx) : val_main_v2 (F := Ideal) a.ya a.wa i = za a (i 0) (i 1) := by
  pointwise [val_main_v2, za]

theorem zb_at (i : S16384x1024.Idx) : val_main_v3 (F := Ideal) a.yb a.wb i = zb a (i 0) (i 1) := by
  pointwise [val_main_v3, zb]

theorem ga_at (i : S16384x1024.Idx) : val_main_v9 (F := Ideal) a.gates i = ga a (i 0) (i 1) := by
  pointwise [val_main_v9, val_main_v8, val_main_v7, val_main_v6, val_main_v5, val_main_v4, val_main_v0, val_main_cst, val_main_cst_0, ga,
    Ideal.logistic]

theorem gb_at (i : S16384x1024.Idx) : val_main_v19 (F := Ideal) a.gates i = gb a (i 0) (i 1) := by
  pointwise [val_main_v19, val_main_v18, val_main_v17, val_main_v16, val_main_v15, val_main_v14, val_main_v1, val_main_cst_2,
    val_main_cst_3, gb, Ideal.logistic]

theorem merged_at (i : S16384x1024.Idx) :
    val_main_v24 (F := Ideal) a.gates a.ya a.yb a.wa a.wb i = merged a (i 0) (i 1) := by
  pointwise [val_main_v24, val_main_v23, val_main_v13, za_at, zb_at, ga_at, gb_at, merged]

theorem t_at (i : S16384x1024.Idx) :
    val_main_v25 (F := Ideal) a.gates a.ya a.yb a.wa a.wb a.wo i = t a (i 0) (i 1) := by
  pointwise [val_main_v25, merged_at, t]

theorem row_at (i : S16384x1024.Idx) :
    val_main_v35 (F := Ideal) a.x a.gates a.ya a.yb a.md a.wa a.wb a.wo i = row a (i 0) (i 1) := by
  pointwise [val_main_v35, val_main_v34, val_main_v33, val_main_v32, val_main_v31, val_main_v26, val_main_cst_5, t_at, row, alpha]

theorem dev_at (i : S16384x1024.Idx) :
    val_main_v50 (F := Ideal) a.x a.gates a.ya a.yb a.md a.wa a.wb a.wo i = dev (row a (i 0)) len (i 1) := by
  pointwise [val_main_v50, val_main_v49, val_main_v39, val_main_v38, val_main_v37, val_main_v36, val_main_cst_6, val_main_cst_7,
    row_at, dev, len]

theorem dev'_at (i : S16384x1024.Idx) :
    val_main_v41 (F := Ideal) a.x a.gates a.ya a.yb a.md a.wa a.wb a.wo i = dev (row a (i 0)) len (i 1) := dev_at a i

theorem var_at (i : S16384x1.Idx) :
    val_main_v52 (F := Ideal) a.x a.gates a.ya a.yb a.md a.wa a.wb a.wo i = var (row a (i 0)) len eps := by
  pointwise [val_main_v52, val_main_v51, val_main_v48, val_main_v47, val_main_v46, val_main_v45, val_main_v42, val_main_cst_9,
    val_main_cst_10, val_main_cst_11, dev'_at, var, len, eps]

theorem rs_at (i : S16384x1.Idx) :
    val_main_v53 (F := Ideal) a.x a.gates a.ya a.yb a.md a.wa a.wb a.wo i = rs a (i 0) := by
  pointwise [val_main_v53, var_at, rs, rstd]

theorem xhat_at (i : S16384x1024.Idx) :
    val_main_v58 (F := Ideal) a.x a.gates a.ya a.yb a.md a.wa a.wb a.wo i = xhat a (i 0) (i 1) := by
  pointwise [val_main_v58, val_main_v57, dev_at, rs_at, xhat, hat, rs]

theorem dy_at (i : S16384x1024.Idx) : val_main_v73 (F := Ideal) a.dxm a.ln i = dy a (i 0) (i 1) := by
  pointwise [val_main_v73, val_main_v72, val_main_v65, val_main_v59, val_main_v28, val_main_v27, dy]

theorem gs_at (i : S16384x1024.Idx) :
    val_main_v79 (F := Ideal) a.dxm a.x a.gates a.ya a.yb a.md a.ln a.wa a.wb a.wo i = dy a (i 0) (i 1) * rs a (i 0) := by
  pointwise [val_main_v79, val_main_v78, dy_at, rs_at]

theorem viaVar_at (i : S16384x1.Idx) :
    val_main_v85 (F := Ideal) a.dxm a.x a.gates a.ya a.yb a.md a.ln a.wa a.wb a.wo i
      = viaVar (row a (i 0)) (dy a (i 0)) len eps negHalf := by
  pointwise [val_main_v85, val_main_v84, val_main_v80, val_main_v77, val_main_v76, val_main_v75, val_main_v56, val_main_v55,
    val_main_v54, val_main_cst_12, val_main_cst_17, val_main_cst_19, dev_at, dy_at, rs_at, var_at, viaVar, rs, negHalf, len]

theorem vd_at (i : S16384x1024.Idx) :
    val_main_v88 (F := Ideal) a.dxm a.x a.gates a.ya a.yb a.md a.ln a.wa a.wb a.wo i
      = viaVar (row a (i 0)) (dy a (i 0)) len eps negHalf * (two * dev (row a (i 0)) len (i 1)) := by
  pointwise [val_main_v88, val_main_v87, val_main_v86, val_main_v44, val_main_v43, val_main_cst_8, val_main_cst_20, viaVar_at, dev'_at,
    two]
  exact congrArg (· * _) (Fin.sum_univ_one _)

/-- The reference's gradient of the row: the chain rule. -/
theorem chain_at (i : S16384x1024.Idx) :
    val_main_v98 (F := Ideal) a.dxm a.x a.gates a.ya a.yb a.md a.ln a.wa a.wb a.wo i
      = chain (row a (i 0)) (dy a (i 0)) len eps negHalf two (i 1) := by
  pointwise [val_main_v98, val_main_v97, val_main_v96, val_main_v95, val_main_v94, val_main_v93, val_main_v92, val_main_v91,
    val_main_v90, val_main_v89, val_main_v83, val_main_v82, val_main_v81, val_main_cst_18, val_main_cst_21, val_main_cst_22,
    val_main_cst_23, gs_at, vd_at, chain, rs, len]
  exact congrArg (_ + ·) (Fin.sum_univ_one _)

variable {a} (h : Finite a)
include h

theorem dr_at (i : S16384x1024.Idx) :
    val_main_v98 (F := Ideal) a.dxm a.x a.gates a.ya a.yb a.md a.ln a.wa a.wb a.wo i = dr a (i 0) (i 1) :=
  (chain_at a i).trans (h.dr_eq (i 0) (i 1)).symm

theorem dx_at (i : S16384x1024.Idx) :
    val_main_v105 (F := Ideal) a.dxm a.x a.gates a.ya a.yb a.md a.ln a.wa a.wb a.wo i = dx a (i 0) (i 1) := by
  pointwise [val_main_v105, val_main_v104, val_main_cst_25, dr_at h, dx, alpha]

theorem dt_at (i : S16384x1024.Idx) :
    val_main_v100 (F := Ideal) a.dxm a.x a.gates a.ya a.yb a.md a.ln a.wa a.wb a.wo i = dt a (i 0) (i 1) := by
  pointwise [val_main_v100, val_main_v99, val_main_v26, dr_at h, dt]

theorem dm_at (i : S16384x1024.Idx) :
    val_main_v106 (F := Ideal) a.dxm a.x a.gates a.ya a.yb a.md a.ln a.wa a.wb a.wo i = dm a (i 0) (i 1) := by
  pointwise [val_main_v106, dt_at h, dm]

theorem dza_at (i : S16384x1024.Idx) :
    val_main_v110 (F := Ideal) a.dxm a.x a.gates a.ya a.yb a.md a.ln a.wa a.wb a.wo i = dza a (i 0) (i 1) := by
  pointwise [val_main_v110, dm_at h, ga_at, dza]
  exact mul_comm (G := EReal) _ _

theorem dzb_at (i : S16384x1024.Idx) :
    val_main_v107 (F := Ideal) a.dxm a.x a.gates a.ya a.yb a.md a.ln a.wa a.wb a.wo i = dzb a (i 0) (i 1) := by
  pointwise [val_main_v107, dm_at h, gb_at, dzb]
  exact mul_comm (G := EReal) _ _

theorem dga_at (i : S16384x1024.Idx) :
    val_main_v112 (F := Ideal) a.dxm a.x a.gates a.ya a.yb a.md a.ln a.wa a.wb a.wo i = dga a (i 0) (i 1) := by
  pointwise [val_main_v112, val_main_v111, val_main_v12, val_main_v11, val_main_v10, val_main_cst_1, dm_at h, za_at, ga_at, dga]

theorem dgb_at (i : S16384x1024.Idx) :
    val_main_v109 (F := Ideal) a.dxm a.x a.gates a.ya a.yb a.md a.ln a.wa a.wb a.wo i = dgb a (i 0) (i 1) := by
  pointwise [val_main_v109, val_main_v108, val_main_v22, val_main_v21, val_main_v20, val_main_cst_4, dm_at h, zb_at, gb_at, dgb]

/-- The reference's first result: the gradient of the layer's input. -/
theorem out0_at (i : S16384x1024.Idx) :
    val_main_v105 (F := Ideal) a.dxm a.x a.gates a.ya a.yb a.md a.ln a.wa a.wb a.wo i = dx a (i 0) (i 1) := dx_at h i

theorem out1_at (i : S16384x1024.Idx) :
    val_main_v119 (F := Ideal) a.dxm a.x a.gates a.ya a.yb a.md a.ln a.wa a.wb a.wo i = dt a (i 0) (i 1) := by
  pointwise [val_main_v119, dt_at h]

omit h in
theorem out2_at (i : S16384x1024.Idx) :
    val_main_v120 (F := Ideal) a.gates a.ya a.yb a.wa a.wb i = merged a (i 0) (i 1) := by
  pointwise [val_main_v120, merged_at]

theorem out3_at (i : S16384x1024.Idx) :
    val_main_v121 (F := Ideal) a.dxm a.x a.gates a.ya a.yb a.md a.ln a.wa a.wb a.wo i = dza a (i 0) (i 1) := by
  pointwise [val_main_v121, dza_at h]

theorem out4_at (i : S16384x1024.Idx) :
    val_main_v122 (F := Ideal) a.dxm a.x a.gates a.ya a.yb a.md a.ln a.wa a.wb a.wo i = dzb a (i 0) (i 1) := by
  pointwise [val_main_v122, dzb_at h]

theorem out5_at (i : S16384x2048.Idx) :
    val_main_v124 (F := Ideal) a.dxm a.x a.gates a.ya a.yb a.md a.ln a.wa a.wb a.wo i = dgates a (i 0) (i 1) := by
  pointwise [val_main_v124, val_main_v123, dga_at h, dgb_at h, dgates]

theorem out6_at (i : S16384x512.Idx) :
    val_main_v125 (F := Ideal) a.dxm a.x a.gates a.ya a.yb a.md a.ln a.wa a.wb a.wo i = dya a (i 0) (i 1) := by
  pointwise [val_main_v125, val_main_v113, dza_at h, dya]

theorem out7_at (i : S16384x256.Idx) :
    val_main_v114 (F := Ideal) a.dxm a.x a.gates a.ya a.yb a.md a.ln a.wa a.wb a.wo i = dyb a (i 0) (i 1) := by
  pointwise [val_main_v114, dzb_at h, dyb]

/-- The reference's rows of sums. -/
theorem out8_at (i : S8x1024.Idx) :
    val_main_v118 (F := Ideal) a.dxm a.x a.gates a.ya a.yb a.md a.ln a.wa a.wb a.wo i = sums a (i 0) (i 1) := by
  pointwise [val_main_v118, val_main_v117, val_main_v116, val_main_v115, val_main_v103, val_main_v102, val_main_v101, val_main_v74,
    val_main_v71, val_main_v70, val_main_v69, val_main_v68, val_main_v67, val_main_v66, val_main_v65, val_main_cst_13, val_main_cst_14,
    val_main_cst_15, val_main_cst_16, val_main_cst_24, val_main_cst_26, xhat_at, dr_at h, t_at, sums]
  by_cases h0 : (i 0).val = 0
  · rw [dif_pos (show (i 0).val < 1 by omega), if_pos h0]
    exact (Fin.sum_univ_one _).trans (Finset.sum_congr rfl fun r _ => mul_comm (G := EReal) _ _)
  · rw [dif_neg (show ¬(i 0).val < 1 by omega), if_neg h0]
    by_cases h1 : (i 0).val = 1
    · rw [dif_pos (show (i 0).val - 1 < 1 by omega), if_pos h1]
      exact Fin.sum_univ_one _
    · rw [dif_neg (show ¬(i 0).val - 1 < 1 by omega), if_neg h1]
      by_cases h2 : (i 0).val = 2
      · rw [dif_pos (show (i 0).val - 1 - 1 < 1 by omega), if_pos h2]
      · rw [dif_neg (show ¬(i 0).val - 1 - 1 < 1 by omega), if_neg h2]

end Cert.MixRefIdeal.Val

end
-- ==== Proof.Mix.Host.lean ====
/- The arrays the host prepares for the gated mix's gradient, as the arithmetic's. -/
module

public import proofs.«01_k».proof.Proof.Gen.MixIdeal.Frame
public import proofs.«01_k».proof.Proof.Mix.Ref
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MixIdeal.Val

open Cert.MixIdeal Cert.MixIdeal.Gen
open Idealize.ShloMosaic Idealize.ShloMosaic.TcCoe Idealize.SL.Sem
open Idealize.ShloMosaic.Pipeline (Dat)
open Cert.Mix.Spec
open scoped BigOperators

variable (m : (ℓ : Loc nD τ sig) → Buf (Elt Ideal) ℓ)

/-- The arrays a device starts with. -/
def args (c : Dev nD) : Args where
  dxm := m ((c : Thread nD τ).loc main_arg0)
  x := m ((c : Thread nD τ).loc main_arg1)
  gates := m ((c : Thread nD τ).loc main_arg2)
  ya := m ((c : Thread nD τ).loc main_arg3)
  yb := m ((c : Thread nD τ).loc main_arg4)
  md := m ((c : Thread nD τ).loc main_arg5)
  ln := m ((c : Thread nD τ).loc main_arg6)
  wa := m ((c : Thread nD τ).loc main_arg7)
  wb := m ((c : Thread nD τ).loc main_arg8)
  wo := m ((c : Thread nD τ).loc main_arg9)

/-- The block each window holds at a grid point: a token window the point's tile, any other the one block it has. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0, 0] ∧ win0_10.index t = ![0, 0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![0, 0] :=
  (by decide +kernel : ∀ t : Fin grid0.N, _)

/-- The normalised rows the host prepares are the reference's. -/
theorem host_xhat (c : Dev nD) (i : S16384x1024.Idx) : (V m c main_v43 i : EReal) = xhat (args m c) (i 0) (i 1) := by
  entry_read
  pointwise [xhat, Cert.Norm.hat, Cert.Norm.rstd, Cert.Norm.var, Cert.Norm.dev, row, t, merged, ga, gb, za, zb, Ideal.logistic,
    len, eps, alpha, args]

/-- The reciprocal deviations the host prepares, repeated over the lanes. -/
theorem host_rs (c : Dev nD) (i : S16384x128.Idx) : (V m c main_v48 i : EReal) = rs (args m c) (i 0) := by
  entry_read
  pointwise [rs, Cert.Norm.rstd, Cert.Norm.var, Cert.Norm.dev, row, t, merged, ga, gb, za, zb, Ideal.logistic, len, eps, alpha, args]

/-- The projected mix the host prepares. -/
theorem host_t (c : Dev nD) (i : S16384x1024.Idx) : (V m c main_v49 i : EReal) = t (args m c) (i 0) (i 1) := by
  entry_read
  pointwise [t, merged, ga, gb, za, zb, Ideal.logistic, args]

theorem host_ya (c : Dev nD) (i : S16384x512.Idx) : (V m c main_v50 i : EReal) = (args m c).ya i := by
  entry_read
  pointwise
  rfl

theorem host_yb (c : Dev nD) (i : S16384x256.Idx) : (V m c main_v51 i : EReal) = (args m c).yb i := by
  entry_read
  pointwise
  rfl

theorem host_md (c : Dev nD) (d : Fin 1024) : (V m c main_v45 (ix2 2 d) : EReal) = (args m c).md (ix2 2 d) := by
  entry_read
  pointwise
  rfl

theorem host_ln (c : Dev nD) (d : Fin 1024) : (V m c main_v47 (ix2 0 d) : EReal) = (args m c).ln (ix2 0 d) := by
  entry_read
  pointwise
  rfl

theorem host_wa (c : Dev nD) (p : Fin 4) (l : Fin 512) (d : Fin 256) :
    (V m c main_v54 (ix3 p l d) : EReal) = (args m c).wa (ix2 l ⟨p.val * 256 + d.val, by omega⟩) := by
  entry_read
  pointwise
  rfl

theorem host_wb (c : Dev nD) (p : Fin 4) (l : Fin 256) (d : Fin 256) :
    (V m c main_v57 (ix3 p l d) : EReal) = (args m c).wb (ix2 l ⟨p.val * 256 + d.val, by omega⟩) := by
  entry_read
  pointwise
  rfl

theorem host_wo (c : Dev nD) (i : S1024x1024.Idx) : (V m c main_v58 i : EReal) = (args m c).wo i := by
  entry_read
  pointwise
  rfl

end Cert.MixIdeal.Val

end
-- ==== Proof.Mix.Step.lean ====
/- What each grid point of the gated mix's gradient reads: the arrays its windows hold, as the arithmetic's. -/
module

public import proofs.«01_k».proof.Proof.Mix.Host
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MixIdeal.Val

open Cert.MixIdeal Cert.MixIdeal.Gen
open Idealize.ShloMosaic Idealize.ShloMosaic.TcCoe Idealize.SL.Sem
open Idealize.ShloMosaic.Pipeline (Dat)
open Cert.Mix.Spec
open scoped BigOperators

variable (m : (ℓ : Loc nD τ sig) → Buf (Elt Ideal) ℓ)

/-- The token row a tile's row is. -/
def tok (t : Fin cfg0.N) (i : Fin 256) : Fin 16384 := ⟨t.val * 256 + i.val, by have := t.isLt; have h : (cfg0.N : ℕ) = 64 := N_0; omega⟩

/-- One tile of an array given at a token and a channel. -/
def tile {w : ℕ} (f : Fin 16384 → Fin w → EReal) (t : Fin cfg0.N) (j : (⟨2, ![256, w]⟩ : Shape).Idx) : EReal := f (tok t (j 0)) (j 1)

theorem b0 (c : Dev nD) (t : Fin cfg0.N) : iblk m c 0 t = tile (fun r j => (args m c).dxm (ix2 r j)) t := by
  funext j
  have e := idx t
  blk_point [iblk, V, e, tile, tok, args]

theorem b1 (c : Dev nD) (t : Fin cfg0.N) : iblk m c 1 t = tile (xhat (args m c)) t := by
  funext j
  have e := idx t
  refine Eq.trans ?_ (host_xhat m c (ix2 (tok t (j 0)) (j 1)))
  blk_ext [iblk, e, tok]

theorem b3 (c : Dev nD) (t : Fin cfg0.N) : iblk m c 3 t = tile (Cert.Mix.Spec.t (args m c)) t := by
  funext j
  have e := idx t
  refine Eq.trans ?_ (host_t m c (ix2 (tok t (j 0)) (j 1)))
  blk_ext [iblk, e, tok]

theorem b5 (c : Dev nD) (t : Fin cfg0.N) : iblk m c 5 t = tile (fun r j => (args m c).ya (ix2 r j)) t := by
  funext j
  have e := idx t
  refine Eq.trans ?_ (host_ya m c (ix2 (tok t (j 0)) (j 1)))
  blk_ext [iblk, e, tok]

theorem b6 (c : Dev nD) (t : Fin cfg0.N) : iblk m c 6 t = tile (fun r j => (args m c).yb (ix2 r j)) t := by
  funext j
  have e := idx t
  refine Eq.trans ?_ (host_yb m c (ix2 (tok t (j 0)) (j 1)))
  blk_ext [iblk, e, tok]

theorem b11 (c : Dev nD) (t : Fin cfg0.N) (j : S1024x1024.Idx) : (iblk m c 11 t j : EReal) = (args m c).wo j := by
  have e := idx t
  refine Eq.trans ?_ (host_wo m c j)
  blk_ext [iblk, e]

theorem b2 (c : Dev nD) (t : Fin cfg0.N) (i : Fin 256) (l : Fin 128) : (iblk m c 2 t (ix2 i l) : EReal) = rs (args m c) (tok t i) := by
  have e := idx t
  refine Eq.trans ?_ (host_rs m c (ix2 (tok t i) l))
  blk_ext [iblk, e, tok]

theorem b4 (c : Dev nD) (t : Fin cfg0.N) (i : Fin 256) (l : Fin 2048) :
    (iblk m c 4 t (ix2 i l) : EReal) = (args m c).gates (ix2 (tok t i) l) := by
  have e := idx t
  blk_point [iblk, V, e, tok, args]

theorem b7 (c : Dev nD) (t : Fin cfg0.N) (d : Fin 1024) : (iblk m c 7 t (ix2 2 d) : EReal) = (args m c).md (ix2 2 d) := by
  have e := idx t
  refine Eq.trans ?_ (host_md m c d)
  blk_ext [iblk, e]

theorem b8 (c : Dev nD) (t : Fin cfg0.N) (d : Fin 1024) : (iblk m c 8 t (ix2 0 d) : EReal) = (args m c).ln (ix2 0 d) := by
  have e := idx t
  refine Eq.trans ?_ (host_ln m c d)
  blk_ext [iblk, e]

theorem b9 (c : Dev nD) (t : Fin cfg0.N) (p : Fin 4) (l : Fin 512) (d : Fin 256) (k : Fin 1024) (hk : k.val = p.val * 256 + d.val) :
    (iblk m c 9 t (ix3 p l d) : EReal) = (args m c).wa (ix2 l k) := by
  have e := idx t
  rw [show k = ⟨p.val * 256 + d.val, by omega⟩ from Fin.ext hk]
  refine Eq.trans ?_ (host_wa m c p l d)
  blk_ext [iblk, e]

theorem b10 (c : Dev nD) (t : Fin cfg0.N) (p : Fin 4) (l : Fin 256) (d : Fin 256) (k : Fin 1024) (hk : k.val = p.val * 256 + d.val) :
    (iblk m c 10 t (ix3 p l d) : EReal) = (args m c).wb (ix2 l k) := by
  have e := idx t
  rw [show k = ⟨p.val * 256 + d.val, by omega⟩ from Fin.ext hk]
  refine Eq.trans ?_ (host_wb m c p l d)
  blk_ext [iblk, e]

end Cert.MixIdeal.Val

end
-- ==== Proof.Mix.Tile.lean ====
/- What each grid point of the gated mix's gradient leaves, as a tile of the arithmetic's arrays. -/
module

public import proofs.«01_k».proof.Proof.Mix.Step

@[expose] public section

set_option maxRecDepth 16384

noncomputable section

namespace Cert.MixIdeal.Val

open Cert.MixIdeal Cert.MixIdeal.Gen
open Idealize.ShloMosaic Idealize.ShloMosaic.TcCoe Idealize.SL.Sem
open Idealize.ShloMosaic.Pipeline (Dat)
open Cert.Mix.Spec
open scoped BigOperators

variable (m : (ℓ : Loc nD τ sig) → Buf (Elt Ideal) ℓ)

/-- The gradient of the row on a tile. -/
theorem p3 (c : Dev nD) (t : Fin cfg0.N) (q2 q8) :
    k0_pay3 (F := Ideal) (iblk m c 0 t) (iblk m c 1 t) (View.ld (iblk m c 2 t) (Rect.unit ![0, 0] ![256, 1] q2))
        (View.ld (iblk m c 8 t) (Rect.unit ![0, 0] ![1, 1024] q8)) = tile (dr (args m c)) t := by
  funext j
  pointwise [k0_pay3, k0_pay2, b2, b8, b0, b1, tile, dr, Cert.Norm.closed, dy, len, rs, xhat]

/-- The gradient of the projected mix on a tile. -/
theorem p8 (c : Dev nD) (t : Fin cfg0.N) (q7) :
    k0_pay8 (F := Ideal) (tile (dr (args m c)) t) (View.ld (iblk m c 7 t) (Rect.unit ![2, 0] ![1, 1024] q7)) = tile (dt (args m c)) t := by
  funext j
  pointwise [k0_pay8, b7, tile, dt]

/-- The gradient of the mix on a tile. -/
theorem p9 (c : Dev nD) (t : Fin cfg0.N) (q7) :
    k0_pay9 (F := Ideal) (tile (dr (args m c)) t) (View.ld (iblk m c 7 t) (Rect.unit ![2, 0] ![1, 1024] q7)) (iblk m c 11 t)
      = tile (dm (args m c)) t := by
  funext j
  pointwise [k0_pay9, p8, b11, tile, dm]

/-- The first branch's product on a tile, its four column panels side by side. -/
theorem p12 (c : Dev nD) (t : Fin cfg0.N) (a0 a1 a2 a3) :
    k0_pay12 (F := Ideal) (k0_pay10 (iblk m c 5 t)) (View.ld (iblk m c 9 t) (Rect.unit ![0, 0, 0] ![1, 512, 256] a0))
        (View.ld (iblk m c 9 t) (Rect.unit ![1, 0, 0] ![1, 512, 256] a1)) (View.ld (iblk m c 9 t) (Rect.unit ![2, 0, 0] ![1, 512, 256] a2))
        (View.ld (iblk m c 9 t) (Rect.unit ![3, 0, 0] ![1, 512, 256] a3)) = tile (za (args m c)) t := by
  funext j
  have key (p : Fin 4) (d : Fin 256) (h : (j 1).val = p.val * 256 + d.val) :
      ∑ x : Fin 512, (args m c).ya (ix2 (tok t (j 0)) x) * (iblk m c 9 t (ix3 p x d) : EReal) = tile (za (args m c)) t j :=
    Finset.sum_congr rfl fun l _ => congrArg (_ * ·) (b9 m c t p l d (j 1) h)
  have hj : (j 1).val < 1024 := (j 1).isLt
  generalize hz : (tile (za (args m c)) t j : EReal) = z at *
  pointwise [k0_pay12, k0_pay10, b5, tile]
  by_cases c0 : (j 1).val < 256
  · rw [dif_pos c0]
    exact key 0 ⟨(j 1).val, c0⟩ (Nat.zero_add _).symm
  rw [dif_neg c0]
  by_cases c1 : (j 1).val - 256 < 256
  · rw [dif_pos c1]
    exact key 1 ⟨(j 1).val - 256, c1⟩ (show (j 1).val = 1 * 256 + ((j 1).val - 256) by omega)
  rw [dif_neg c1]
  by_cases c2 : (j 1).val - 256 - 256 < 256
  · rw [dif_pos c2]
    exact key 2 ⟨(j 1).val - 256 - 256, c2⟩ (show (j 1).val = 2 * 256 + ((j 1).val - 256 - 256) by omega)
  rw [dif_neg c2]
  exact key 3 ⟨(j 1).val - 256 - 256 - 256, by omega⟩ (show (j 1).val = 3 * 256 + ((j 1).val - 256 - 256 - 256) by omega)

/-- The second branch's product on a tile. -/
theorem p13 (c : Dev nD) (t : Fin cfg0.N) (a0 a1 a2 a3) :
    k0_pay13 (F := Ideal) (k0_pay11 (iblk m c 6 t)) (View.ld (iblk m c 10 t) (Rect.unit ![0, 0, 0] ![1, 256, 256] a0))
        (View.ld (iblk m c 10 t) (Rect.unit ![1, 0, 0] ![1, 256, 256] a1)) (View.ld (iblk m c 10 t) (Rect.unit ![2, 0, 0] ![1, 256, 256] a2))
        (View.ld (iblk m c 10 t) (Rect.unit ![3, 0, 0] ![1, 256, 256] a3)) = tile (zb (args m c)) t := by
  funext j
  have key (p : Fin 4) (d : Fin 256) (h : (j 1).val = p.val * 256 + d.val) :
      ∑ x : Fin 256, (args m c).yb (ix2 (tok t (j 0)) x) * (iblk m c 10 t (ix3 p x d) : EReal) = tile (zb (args m c)) t j :=
    Finset.sum_congr rfl fun l _ => congrArg (_ * ·) (b10 m c t p l d (j 1) h)
  have hj : (j 1).val < 1024 := (j 1).isLt
  generalize hz : (tile (zb (args m c)) t j : EReal) = z at *
  pointwise [k0_pay13, k0_pay11, b6, tile]
  by_cases c0 : (j 1).val < 256
  · rw [dif_pos c0]
    exact key 0 ⟨(j 1).val, c0⟩ (Nat.zero_add _).symm
  rw [dif_neg c0]
  by_cases c1 : (j 1).val - 256 < 256
  · rw [dif_pos c1]
    exact key 1 ⟨(j 1).val - 256, c1⟩ (show (j 1).val = 1 * 256 + ((j 1).val - 256) by omega)
  rw [dif_neg c1]
  by_cases c2 : (j 1).val - 256 - 256 < 256
  · rw [dif_pos c2]
    exact key 2 ⟨(j 1).val - 256 - 256, c2⟩ (show (j 1).val = 2 * 256 + ((j 1).val - 256 - 256) by omega)
  rw [dif_neg c2]
  exact key 3 ⟨(j 1).val - 256 - 256 - 256, by omega⟩ (show (j 1).val = 3 * 256 + ((j 1).val - 256 - 256 - 256) by omega)

/-- The first gate on a tile. -/
theorem p14 (c : Dev nD) (t : Fin cfg0.N) (qa) :
    k0_pay14 (F := Ideal) (View.ld (iblk m c 4 t) (Rect.unit ![0, 0] ![256, 1024] qa)) = tile (ga (args m c)) t := by
  funext j
  pointwise [k0_pay14, b4, tile, ga]

/-- The second gate on a tile. -/
theorem p15 (c : Dev nD) (t : Fin cfg0.N) (qb) :
    k0_pay15 (F := Ideal) (View.ld (iblk m c 4 t) (Rect.unit ![0, 1024] ![256, 1024] qb)) = tile (gb (args m c)) t := by
  funext j
  pointwise [k0_pay15, b4, tile, gb]

/-- The gated mix on a tile. -/
theorem p16 (c : Dev nD) (t : Fin cfg0.N) (qa qb) :
    k0_pay16 (F := Ideal) (tile (za (args m c)) t) (tile (zb (args m c)) t) (View.ld (iblk m c 4 t) (Rect.unit ![0, 0] ![256, 1024] qa))
      (View.ld (iblk m c 4 t) (Rect.unit ![0, 1024] ![256, 1024] qb)) = tile (merged (args m c)) t := by
  funext j
  pointwise [k0_pay16, p14, p15, tile, merged]

/-- The gradient of the first branch's product on a tile. -/
theorem p17 (c : Dev nD) (t : Fin cfg0.N) (qa) :
    k0_pay17 (F := Ideal) (tile (dm (args m c)) t) (View.ld (iblk m c 4 t) (Rect.unit ![0, 0] ![256, 1024] qa)) = tile (dza (args m c)) t := by
  funext j
  pointwise [k0_pay17, p14, tile, dza]

/-- The gradient of the second branch's product on a tile. -/
theorem p18 (c : Dev nD) (t : Fin cfg0.N) (qb) :
    k0_pay18 (F := Ideal) (tile (dm (args m c)) t) (View.ld (iblk m c 4 t) (Rect.unit ![0, 1024] ![256, 1024] qb)) = tile (dzb (args m c)) t := by
  funext j
  pointwise [k0_pay18, p15, tile, dzb]

/-- The gradient of the first gate's argument on a tile. -/
theorem p19 (c : Dev nD) (t : Fin cfg0.N) (qa) :
    k0_pay19 (F := Ideal) (tile (dm (args m c)) t) (tile (za (args m c)) t) (View.ld (iblk m c 4 t) (Rect.unit ![0, 0] ![256, 1024] qa)) = tile (dga (args m c)) t := by
  funext j
  pointwise [k0_pay19, p14, tile, dga]

/-- The gradient of the second gate's argument on a tile. -/
theorem p20 (c : Dev nD) (t : Fin cfg0.N) (qb) :
    k0_pay20 (F := Ideal) (tile (dm (args m c)) t) (tile (zb (args m c)) t) (View.ld (iblk m c 4 t) (Rect.unit ![0, 1024] ![256, 1024] qb)) = tile (dgb (args m c)) t := by
  funext j
  pointwise [k0_pay20, p15, tile, dgb]

/-- The gradient of the first branch on a tile: the four panels' products added up. -/
theorem p24 (c : Dev nD) (t : Fin cfg0.N) (q a0 a1 a2 a3) :
    k0_pay24 (F := Ideal) (tile (dza (args m c)) t) (k0_pay21 (tile (dm (args m c)) t) (View.ld (iblk m c 4 t) (Rect.unit ![0, 0] ![256, 1024] q)) (View.ld (iblk m c 9 t) (Rect.unit ![0, 0, 0] ![1, 512, 256] a0)))
        (View.ld (iblk m c 9 t) (Rect.unit ![1, 0, 0] ![1, 512, 256] a1)) (View.ld (iblk m c 9 t) (Rect.unit ![2, 0, 0] ![1, 512, 256] a2))
        (View.ld (iblk m c 9 t) (Rect.unit ![3, 0, 0] ![1, 512, 256] a3)) = tile (dya (args m c)) t := by
  funext j
  refine Eq.trans ?_ (Fin.sum_mul_add_congr (S := 4) (n := 256)
    (F := fun p k => dza (args m c) (tok t (j 0)) ⟨p.val * 256 + k.val, by omega⟩ * (iblk m c 9 t (ix3 p (j 1) k) : EReal)) fun p k h =>
      congrArg (_ * ·) (b9 m c t p (j 1) k ⟨p.val * 256 + k.val, h⟩ rfl))
  rw [Fin.sum_univ_four]
  pointwise [k0_pay24, k0_pay21, p17, tile]

/-- The gradient of the second branch on a tile. -/
theorem p23 (c : Dev nD) (t : Fin cfg0.N) (q a0 a1 a2 a3) :
    k0_pay23 (F := Ideal) (tile (dzb (args m c)) t) (k0_pay22 (tile (dm (args m c)) t) (View.ld (iblk m c 4 t) (Rect.unit ![0, 1024] ![256, 1024] q))) (View.ld (iblk m c 10 t) (Rect.unit ![0, 0, 0] ![1, 256, 256] a0))
        (View.ld (iblk m c 10 t) (Rect.unit ![1, 0, 0] ![1, 256, 256] a1)) (View.ld (iblk m c 10 t) (Rect.unit ![2, 0, 0] ![1, 256, 256] a2))
        (View.ld (iblk m c 10 t) (Rect.unit ![3, 0, 0] ![1, 256, 256] a3)) = tile (dyb (args m c)) t := by
  funext j
  refine Eq.trans ?_ (Fin.sum_mul_add_congr (S := 4) (n := 256)
    (F := fun p k => dzb (args m c) (tok t (j 0)) ⟨p.val * 256 + k.val, by omega⟩ * (iblk m c 10 t (ix3 p (j 1) k) : EReal)) fun p k h =>
      congrArg (_ * ·) (b10 m c t p (j 1) k ⟨p.val * 256 + k.val, h⟩ rfl))
  rw [Fin.sum_univ_four]
  pointwise [k0_pay23, k0_pay22, p18, tile]

end Cert.MixIdeal.Val

end
-- ==== Proof.Mix.Leave.lean ====
/- What each grid point of the gated mix's gradient leaves in its outputs. -/
module

public import proofs.«01_k».proof.Proof.Mix.Tile

@[expose] public section

set_option maxRecDepth 16384

noncomputable section

namespace Cert.MixIdeal.Val

open Cert.MixIdeal Cert.MixIdeal.Gen
open Idealize.ShloMosaic Idealize.ShloMosaic.TcCoe Idealize.SL.Sem
open Idealize.ShloMosaic.Pipeline (Dat)
open Cert.Mix.Spec
open scoped BigOperators

variable (m : (ℓ : Loc nD τ sig) → Buf (Elt Ideal) ℓ)

/-- The residual's weight times the gradient of the row. -/
theorem p7 (c : Dev nD) (t : Fin cfg0.N) : k0_pay7 (F := Ideal) (tile (dr (args m c)) t) = tile (dx (args m c)) t := by
  funext j
  pointwise [k0_pay7, tile, dx, alpha]

/-- The gradient of the layer's input. -/
theorem out0 (c : Dev nD) (t : Fin cfg0.N) : (outsAt0 m c t.val t.isLt).1 = tile (dx (args m c)) t := by
  by_cases h0 : t.val % 64 = 0
  · rw [outsAt0_A m c t h0]; frame_out; rw [p3, p7]
  · rw [outsAt0_B m c t h0]; frame_out; rw [p3, p7]

/-- The gradient of the projected mix. -/
theorem out1 (c : Dev nD) (t : Fin cfg0.N) : (outsAt0 m c t.val t.isLt).2.1 = tile (dt (args m c)) t := by
  by_cases h0 : t.val % 64 = 0
  · rw [outsAt0_A m c t h0]; frame_out; rw [p3, p8]
  · rw [outsAt0_B m c t h0]; frame_out; rw [p3, p8]

/-- The gated mix. -/
theorem out2 (c : Dev nD) (t : Fin cfg0.N) : (outsAt0 m c t.val t.isLt).2.2.1 = tile (merged (args m c)) t := by
  by_cases h0 : t.val % 64 = 0
  · rw [outsAt0_A m c t h0]; frame_out; rw [p12, p13, p16]
  · rw [outsAt0_B m c t h0]; frame_out; rw [p12, p13, p16]

/-- The gradient of the first branch's product. -/
theorem out3 (c : Dev nD) (t : Fin cfg0.N) : (outsAt0 m c t.val t.isLt).2.2.2.1 = tile (dza (args m c)) t := by
  by_cases h0 : t.val % 64 = 0
  · rw [outsAt0_A m c t h0]; frame_out; rw [p3, p9, p17]
  · rw [outsAt0_B m c t h0]; frame_out; rw [p3, p9, p17]

/-- The gradient of the second branch's product. -/
theorem out4 (c : Dev nD) (t : Fin cfg0.N) : (outsAt0 m c t.val t.isLt).2.2.2.2.1 = tile (dzb (args m c)) t := by
  by_cases h0 : t.val % 64 = 0
  · rw [outsAt0_A m c t h0]; frame_out; rw [p3, p9, p18]
  · rw [outsAt0_B m c t h0]; frame_out; rw [p3, p9, p18]

/-- The gradient of the first branch. -/
theorem out6 (c : Dev nD) (t : Fin cfg0.N) : (outsAt0 m c t.val t.isLt).2.2.2.2.2.2.1 = tile (dya (args m c)) t := by
  by_cases h0 : t.val % 64 = 0
  · rw [outsAt0_A m c t h0]; frame_out; rw [p3, p9, p17, p3, p9, p24]
  · rw [outsAt0_B m c t h0]; frame_out; rw [p3, p9, p17, p3, p9, p24]

/-- The gradient of the second branch. -/
theorem out7 (c : Dev nD) (t : Fin cfg0.N) : (outsAt0 m c t.val t.isLt).2.2.2.2.2.2.2.1 = tile (dyb (args m c)) t := by
  by_cases h0 : t.val % 64 = 0
  · rw [outsAt0_A m c t h0]; frame_out; rw [p3, p9, p18, p3, p9, p23]
  · rw [outsAt0_B m c t h0]; frame_out; rw [p3, p9, p18, p3, p9, p23]

/-- Two column pieces of one block read at an index: the second half's piece there, the first half's before it. -/
theorem halves (u v : FVec Ideal S256x1024 .bf16) (h0 h1) (j : S256x2048.Idx) :
    View.canon (Val := Elt Ideal) (s := S256x2048) (e := .bf16) [⟨Rect.unit ![0, 1024] ![256, 1024] h1, v⟩, ⟨Rect.unit ![0, 0] ![256, 1024] h0, u⟩] j
      = if h : (j 1).val < 1024 then u (ix2 (j 0) ⟨(j 1).val, h⟩)
        else v (ix2 (j 0) ⟨(j 1).val - 1024, by have : (j 1).val < 2048 := (j 1).isLt; omega⟩) := by
  have hj : (j 1).val < 2048 := (j 1).isLt
  by_cases h : (j 1).val < 1024
  · have e : (Rect.unit (s := S256x2048) ![0, 0] ![256, 1024] h0).emb (ix2 (j 0) ⟨(j 1).val, h⟩) = j :=
      funext fun a => Fin.ext (by
        match a with
        | ⟨0, _⟩ => show 0 + 1 * (j 0).val = (j 0).val; omega
        | ⟨1, _⟩ => show 0 + 1 * (j 1).val = (j 1).val; omega)
    rw [dif_pos h, View.canon_cons_of_not_mem _ _ (by
      intro hm
      have : 1024 ≤ (j 1).val := (((Rect.mem_set_unit (inb := h1)).1 hm) 1).1
      omega)]
    exact (congrArg _ e.symm).trans (View.canon_cons_emb (Val := Elt Ideal) (s := S256x2048) (e := .bf16)
      (Rect.unit ![0, 0] ![256, 1024] h0) u [] (ix2 (j 0) ⟨(j 1).val, h⟩))
  · have e : (Rect.unit (s := S256x2048) ![0, 1024] ![256, 1024] h1).emb (ix2 (j 0) ⟨(j 1).val - 1024, by omega⟩) = j :=
      funext fun a => Fin.ext (by
        match a with
        | ⟨0, _⟩ => show 0 + 1 * (j 0).val = (j 0).val; omega
        | ⟨1, _⟩ => show 1024 + 1 * ((j 1).val - 1024) = (j 1).val; omega)
    rw [dif_neg h]
    exact (congrArg _ e.symm).trans (View.canon_cons_emb (Val := Elt Ideal) (s := S256x2048) (e := .bf16)
      (Rect.unit ![0, 1024] ![256, 1024] h1) v _ (ix2 (j 0) ⟨(j 1).val - 1024, by omega⟩))

/-- The gradient of both gates' arguments. -/
theorem out5 (c : Dev nD) (t : Fin cfg0.N) : (outsAt0 m c t.val t.isLt).2.2.2.2.2.1 = tile (dgates (args m c)) t := by
  funext j
  by_cases h0 : t.val % 64 = 0
  · rw [outsAt0_A m c t h0]; frame_out; rw [p3, p9, p12, p13, p20, p3, p9, p19, halves]; rfl
  · rw [outsAt0_B m c t h0]; frame_out; rw [p3, p9, p12, p13, p20, p3, p9, p19, halves]; rfl

/-- A one-row piece last stored, read on its row. -/
theorem row_hit (k : ℕ) (h) (v : FVec Ideal S1x1024 .f32) (L : List (View.Piece (Elt Ideal) S8x1024 .f32)) (j : S8x1024.Idx) (hj : (j 0).val = k) :
    View.canon (Val := Elt Ideal) (s := S8x1024) (e := .f32) (⟨Rect.unit ![k, 0] ![1, 1024] h, v⟩ :: L) j = v (ix2 0 (j 1)) := by
  have e : (Rect.unit (s := S8x1024) ![k, 0] ![1, 1024] h).emb (ix2 0 (j 1)) = j :=
    funext fun a => Fin.ext (by
      match a with
      | ⟨0, _⟩ => show k + 1 * 0 = (j 0).val; omega
      | ⟨1, _⟩ => show 0 + 1 * (j 1).val = (j 1).val; omega)
  exact (congrArg _ e.symm).trans (View.canon_cons_emb (Val := Elt Ideal) (s := S8x1024) (e := .f32)
    (Rect.unit ![k, 0] ![1, 1024] h) v L (ix2 0 (j 1)))

/-- A one-row piece last stored, read off its row. -/
theorem row_miss (k : ℕ) (h) (v : FVec Ideal S1x1024 .f32) (L : List (View.Piece (Elt Ideal) S8x1024 .f32)) (j : S8x1024.Idx) (hj : ¬(j 0).val = k) :
    View.canon (Val := Elt Ideal) (s := S8x1024) (e := .f32) (⟨Rect.unit ![k, 0] ![1, 1024] h, v⟩ :: L) j
      = View.canon (Val := Elt Ideal) (s := S8x1024) (e := .f32) L j :=
  View.canon_cons_of_not_mem _ _ (by
    intro hm
    have h1 : k ≤ (j 0).val ∧ (j 0).val < k + 1 := ((Rect.mem_set_unit (inb := h)).1 hm) 0
    omega)

/-- A loaded row reads the buffer's row. -/
theorem row_ld (k : ℕ) (h) (X : FVec Ideal S8x1024 .f32) (j : S8x1024.Idx) (hj : (j 0).val = k) :
    (View.ld (Val := Elt Ideal) (S := S8x1024) (e' := .f32) X (Rect.unit ![k, 0] ![1, 1024] h) : FVec Ideal S1x1024 .f32) (ix2 0 (j 1)) = X j :=
  View.ld_unit_apply_of _ _ _ _ _ j (fun a => by
    match a with
    | ⟨0, _⟩ => exact hj
    | ⟨1, _⟩ => exact (Nat.zero_add _).symm)

theorem p1 (j) : k0_pay1 (F := Ideal) j = 0 := by pointwise [k0_pay1]

theorem p4 (f g : Fin 16384 → Fin 1024 → EReal) (t : Fin cfg0.N) (v) (d : Fin 1024) :
    k0_pay4 (F := Ideal) (tile f t) (tile g t) v (ix2 0 d) = v (ix2 0 d) + ∑ i : Fin 256, f (tok t i) d * g (tok t i) d := by
  pointwise [k0_pay4, k0_pay2, tile]

theorem p5 (f : Fin 16384 → Fin 1024 → EReal) (t : Fin cfg0.N) (v) (d : Fin 1024) :
    k0_pay5 (F := Ideal) (tile f t) v (ix2 0 d) = v (ix2 0 d) + ∑ i : Fin 256, f (tok t i) d := by
  pointwise [k0_pay5, tile]

theorem p6 (f g : Fin 16384 → Fin 1024 → EReal) (t : Fin cfg0.N) (v) (d : Fin 1024) :
    k0_pay6 (F := Ideal) (tile f t) v (tile g t) (ix2 0 d) = v (ix2 0 d) + ∑ i : Fin 256, f (tok t i) d * g (tok t i) d := by
  pointwise [k0_pay6, tile]

/-- What one tile adds to the rows of sums. -/
def part (a : Args) (t : Fin cfg0.N) (j : S8x1024.Idx) : EReal :=
  if (j 0).val = 0 then ∑ i : Fin 256, a.dxm (ix2 (tok t i) (j 1)) * xhat a (tok t i) (j 1)
  else if (j 0).val = 1 then ∑ i : Fin 256, a.dxm (ix2 (tok t i) (j 1))
  else if (j 0).val = 2 then ∑ i : Fin 256, dr a (tok t i) (j 1) * Cert.Mix.Spec.t a (tok t i) (j 1)
  else 0

/-- The first tile's rows of sums start from nothing. -/
theorem small_A (c : Dev nD) (t : Fin cfg0.N) (h0 : t.val % 64 = 0) (j : S8x1024.Idx) :
    (outsAt0 m c t.val t.isLt).2.2.2.2.2.2.2.2 j = part (args m c) t j := by
  rw [outsAt0_A m c t h0]; frame_out
  simp (disch := decide) only [View.readCov_skip, View.readCov_fill]
  rw [p3, b0, b1, b3, part]
  by_cases h2 : (j 0).val = 2
  · refine (row_hit 2 _ _ _ j h2).trans ((p6 _ _ t _ (j 1)).trans ?_)
    rw [if_neg (by omega), if_neg (by omega), if_pos h2]
    exact (congrArg (· + _) ((row_ld 2 _ _ j h2).trans (p1 j))).trans (zero_add _)
  · rw [row_miss 2 _ _ _ j h2]
    by_cases h1 : (j 0).val = 1
    · refine (row_hit 1 _ _ _ j h1).trans ((p5 _ t _ (j 1)).trans ?_)
      rw [if_neg (by omega), if_pos h1]
      exact (congrArg (· + _) ((row_ld 1 _ _ j h1).trans (p1 j))).trans (zero_add _)
    · rw [row_miss 1 _ _ _ j h1]
      by_cases h0 : (j 0).val = 0
      · refine (row_hit 0 _ _ _ j h0).trans ((p4 _ _ t _ (j 1)).trans ?_)
        rw [if_pos h0]
        exact (congrArg (· + _) ((row_ld 0 _ _ j h0).trans (p1 j))).trans (zero_add _)
      · rw [row_miss 0 _ _ _ j h0, if_neg h0, if_neg h1, if_neg h2, View.canon_cons_unit_lit _ _ _ (by decide)]
        exact p1 j

/-- Every later tile adds its own. -/
theorem small_B (c : Dev nD) (t : Fin cfg0.N) (h0 : ¬t.val % 64 = 0) (j : S8x1024.Idx) :
    (outsAt0 m c t.val t.isLt).2.2.2.2.2.2.2.2 j
      = (outsAt0 m c (t.val - 1) (Nat.lt_of_le_of_lt (Nat.sub_le _ _) t.isLt)).2.2.2.2.2.2.2.2 j + part (args m c) t j := by
  rw [outsAt0_B m c t h0]; frame_out
  generalize (outsAt0 m c (t.val - 1) _).2.2.2.2.2.2.2.2 = X
  rw [p3, b0, b1, b3, part]
  by_cases h2 : (j 0).val = 2
  · refine (View.read_writes_cons_unit_of_mem _ _ _ _ _ j (ix2 0 (j 1)) rfl (fun a => by
      match a with
      | ⟨0, _⟩ => exact h2
      | ⟨1, _⟩ => exact (Nat.zero_add _).symm)).trans ?_
    rw [if_neg (by omega), if_neg (by omega), if_pos h2]
    exact (p6 _ _ t _ (j 1)).trans (congrArg (· + _) (row_ld 2 _ X j h2))
  · rw [View.read_writes_cons_unit_of_not_mem _ _ _ _ _ j rfl 0 (by
      show (j 0).val < 2 ∨ 2 + 1 ≤ (j 0).val; omega)]
    by_cases h1 : (j 0).val = 1
    · refine (View.read_writes_cons_unit_of_mem _ _ _ _ _ j (ix2 0 (j 1)) rfl (fun a => by
        match a with
        | ⟨0, _⟩ => exact h1
        | ⟨1, _⟩ => exact (Nat.zero_add _).symm)).trans ?_
      rw [if_neg (by omega), if_pos h1]
      exact (p5 _ t _ (j 1)).trans (congrArg (· + _) (row_ld 1 _ X j h1))
    · rw [View.read_writes_cons_unit_of_not_mem _ _ _ _ _ j rfl 0 (by
        show (j 0).val < 1 ∨ 1 + 1 ≤ (j 0).val; omega)]
      by_cases h0 : (j 0).val = 0
      · refine (View.read_writes_cons_unit_of_mem _ _ _ _ _ j (ix2 0 (j 1)) rfl (fun a => by
          match a with
          | ⟨0, _⟩ => exact h0
          | ⟨1, _⟩ => exact (Nat.zero_add _).symm)).trans ?_
        rw [if_pos h0]
        exact (p4 _ _ t _ (j 1)).trans (congrArg (· + _) (row_ld 0 _ X j h0))
      · rw [View.read_writes_cons_unit_of_not_mem _ _ _ _ _ j rfl 0 (by
          show (j 0).val < 0 ∨ 0 + 1 ≤ (j 0).val; omega), if_neg h0, if_neg h1, if_neg h2, add_zero]
        exact congrFun (Memref.IsWhole.read_unread _ _) j

/-- The rows of sums after the last tile are the column sums over every token. -/
theorem small_last (c : Dev nD) (t : Fin cfg0.N) (ht : t.val + 1 = cfg0.N) (j : S8x1024.Idx) :
    (outsAt0 m c t.val t.isLt).2.2.2.2.2.2.2.2 j = sums (args m c) (j 0) (j 1) := by
  have hN : (cfg0.N : ℕ) = 64 := N_0
  rw [Pipeline.eq_sum_fin_of_reset_step_apply_last (fun n h => (outsAt0 m c n h).2.2.2.2.2.2.2.2) 64 (fun _ => (0 : EReal))
    (part (args m c))
    (fun t h j => (small_A m c t h j).trans (zero_add _).symm)
    (fun t h j => small_B m c t h j)
    (le_of_eq N_0) t ht j, zero_add]
  unfold part sums
  by_cases h0 : (j 0).val = 0
  · simp only [h0, if_true]
    exact Fin.sum_mul_add_congr fun a i hl => rfl
  · by_cases h1 : (j 0).val = 1
    · simp only [h1, if_true]
      exact Fin.sum_mul_add_congr fun a i hl => rfl
    · by_cases h2 : (j 0).val = 2
      · simp only [h2, if_true]
        exact Fin.sum_mul_add_congr fun a i hl => rfl
      · simp only [h0, h1, h2, if_false, Finset.sum_const_zero]

end Cert.MixIdeal.Val

end
-- ==== Proof.Mix.Final.lean ====
/- The gated mix's gradient after the run: the reference's arrays. -/
module

public import proofs.«01_k».proof.Proof.Mix.Leave
public import proofs.«01_k».proof.Proof.Mix.Ref

@[expose] public section

set_option maxRecDepth 16384

noncomputable section

namespace Cert.MixIdeal.Val

open Cert.MixIdeal Cert.MixIdeal.Gen
open Idealize.ShloMosaic Idealize.ShloMosaic.TcCoe Idealize.SL.Sem
open Idealize.ShloMosaic.Pipeline (Dat)
open Cert.Mix.Spec
open scoped BigOperators

variable (m : (ℓ : Loc nD τ sig) → Buf (Elt Ideal) ℓ)

/-- The arguments, named as the reference takes them. -/
abbrev whole {α : Sort*} (a : Args)
    (f : FVec Ideal ⟨2, ![16384, 1024]⟩ .f32 → FVec Ideal ⟨2, ![16384, 1024]⟩ .f32 → FVec Ideal ⟨2, ![16384, 2048]⟩ .f32 →
      FVec Ideal ⟨2, ![16384, 512]⟩ .f32 → FVec Ideal ⟨2, ![16384, 256]⟩ .f32 → FVec Ideal ⟨2, ![6, 1024]⟩ .f32 →
      FVec Ideal ⟨2, ![4, 1024]⟩ .f32 → FVec Ideal ⟨2, ![512, 1024]⟩ .f32 → FVec Ideal ⟨2, ![256, 1024]⟩ .f32 →
      FVec Ideal ⟨2, ![1024, 1024]⟩ .f32 → α) : α :=
  f a.dxm a.x a.gates a.ya a.yb a.md a.ln a.wa a.wb a.wo

/-- The gradient of the layer's input after the run is the reference's. -/
theorem final0 (c : Dev nD) (h : Finite (args m c)) : (dats m 0 c).arrAt 12 cfg0.N
    = whole (args m c) (Cert.MixRefIdeal.Read.val_main_v105 (F := Ideal)) := by
  refine (dats m 0 c).arrAt_eq_of_covers 12 _ (by decide +kernel) fun t hf y => ?_
  have e := idx t
  blk_simp [e]
  rw [after0_12, out0]
  refine Eq.trans ?_ (Cert.MixRefIdeal.Val.out0_at h _).symm
  exact congrArg₂ (dx (args m c)) (Fin.ext (by blk_simp [e, tok])) (Fin.ext (by blk_simp [e]))

/-- The gradient of the projected mix after the run is the reference's. -/
theorem final1 (c : Dev nD) (h : Finite (args m c)) : (dats m 0 c).arrAt 13 cfg0.N
    = whole (args m c) (Cert.MixRefIdeal.Read.val_main_v119 (F := Ideal)) := by
  refine (dats m 0 c).arrAt_eq_of_covers 13 _ (by decide +kernel) fun t hf y => ?_
  have e := idx t
  blk_simp [e]
  rw [after0_13, out1]
  refine Eq.trans ?_ (Cert.MixRefIdeal.Val.out1_at h _).symm
  exact congrArg₂ (dt (args m c)) (Fin.ext (by blk_simp [e, tok])) (Fin.ext (by blk_simp [e]))

/-- The gated mix after the run is the reference's. -/
theorem final2 (c : Dev nD) : (dats m 0 c).arrAt 14 cfg0.N
    = Cert.MixRefIdeal.Read.val_main_v120 (F := Ideal) (args m c).gates (args m c).ya (args m c).yb (args m c).wa (args m c).wb := by
  refine (dats m 0 c).arrAt_eq_of_covers 14 _ (by decide +kernel) fun t hf y => ?_
  have e := idx t
  blk_simp [e]
  rw [after0_14, out2]
  refine Eq.trans ?_ (Cert.MixRefIdeal.Val.out2_at (a := args m c) _).symm
  exact congrArg₂ (merged (args m c)) (Fin.ext (by blk_simp [e, tok])) (Fin.ext (by blk_simp [e]))

/-- The gradient of the first branch's product after the run is the reference's. -/
theorem final3 (c : Dev nD) (h : Finite (args m c)) : (dats m 0 c).arrAt 15 cfg0.N
    = whole (args m c) (Cert.MixRefIdeal.Read.val_main_v121 (F := Ideal)) := by
  refine (dats m 0 c).arrAt_eq_of_covers 15 _ (by decide +kernel) fun t hf y => ?_
  have e := idx t
  blk_simp [e]
  rw [after0_15, out3]
  refine Eq.trans ?_ (Cert.MixRefIdeal.Val.out3_at h _).symm
  exact congrArg₂ (dza (args m c)) (Fin.ext (by blk_simp [e, tok])) (Fin.ext (by blk_simp [e]))

/-- The gradient of the second branch's product after the run is the reference's. -/
theorem final4 (c : Dev nD) (h : Finite (args m c)) : (dats m 0 c).arrAt 16 cfg0.N
    = whole (args m c) (Cert.MixRefIdeal.Read.val_main_v122 (F := Ideal)) := by
  refine (dats m 0 c).arrAt_eq_of_covers 16 _ (by decide +kernel) fun t hf y => ?_
  have e := idx t
  blk_simp [e]
  rw [after0_16, out4]
  refine Eq.trans ?_ (Cert.MixRefIdeal.Val.out4_at h _).symm
  exact congrArg₂ (dzb (args m c)) (Fin.ext (by blk_simp [e, tok])) (Fin.ext (by blk_simp [e]))

/-- The gradient of the gates' arguments after the run is the reference's. -/
theorem final5 (c : Dev nD) (h : Finite (args m c)) : (dats m 0 c).arrAt 17 cfg0.N
    = whole (args m c) (Cert.MixRefIdeal.Read.val_main_v124 (F := Ideal)) := by
  refine (dats m 0 c).arrAt_eq_of_covers 17 _ (by decide +kernel) fun t hf y => ?_
  have e := idx t
  blk_simp [e]
  rw [after0_17, out5]
  refine Eq.trans ?_ (Cert.MixRefIdeal.Val.out5_at h _).symm
  exact congrArg₂ (dgates (args m c)) (Fin.ext (by blk_simp [e, tok])) (Fin.ext (by blk_simp [e]))

/-- The gradient of the first branch after the run is the reference's. -/
theorem final6 (c : Dev nD) (h : Finite (args m c)) : (dats m 0 c).arrAt 18 cfg0.N
    = whole (args m c) (Cert.MixRefIdeal.Read.val_main_v125 (F := Ideal)) := by
  refine (dats m 0 c).arrAt_eq_of_covers 18 _ (by decide +kernel) fun t hf y => ?_
  have e := idx t
  blk_simp [e]
  rw [after0_18, out6]
  refine Eq.trans ?_ (Cert.MixRefIdeal.Val.out6_at h _).symm
  exact congrArg₂ (dya (args m c)) (Fin.ext (by blk_simp [e, tok])) (Fin.ext (by blk_simp [e]))

/-- The gradient of the second branch after the run is the reference's. -/
theorem final7 (c : Dev nD) (h : Finite (args m c)) : (dats m 0 c).arrAt 19 cfg0.N
    = whole (args m c) (Cert.MixRefIdeal.Read.val_main_v114 (F := Ideal)) := by
  refine (dats m 0 c).arrAt_eq_of_covers 19 _ (by decide +kernel) fun t hf y => ?_
  have e := idx t
  blk_simp [e]
  rw [after0_19, out7]
  refine Eq.trans ?_ (Cert.MixRefIdeal.Val.out7_at h _).symm
  exact congrArg₂ (dyb (args m c)) (Fin.ext (by blk_simp [e, tok])) (Fin.ext (by blk_simp [e]))

/-- The rows of sums after the run are the reference's. -/
theorem final8 (c : Dev nD) (h : Finite (args m c)) : (dats m 0 c).arrAt 20 cfg0.N
    = whole (args m c) (Cert.MixRefIdeal.Read.val_main_v118 (F := Ideal)) := by
  refine (dats m 0 c).arrAt_eq_of_covers 20 _ (by decide +kernel) fun t hf y => ?_
  have e := idx t
  blk_simp [e]
  rw [after0_20]
  have hN : (cfg0.N : ℕ) = 64 := N_0
  refine (small_last m c t (by have := (flush0_20 t).mp hf; have := t.isLt; omega) y).trans
    (Eq.trans ?_ (Cert.MixRefIdeal.Val.out8_at h _).symm)
  exact congrArg₂ (sums (args m c)) (Fin.ext (by blk_simp [e])) (Fin.ext (by blk_simp [e]))

end Cert.MixIdeal.Val

end
-- ==== Proof.Mix.Pre.lean ====
/- What the precondition says of the gated mix's arguments: they are real numbers. -/
module

public import proofs.«01_k».proof.Pre_mix_finite
public import proofs.«01_k».proof.Proof.Mix.Spec
public import Idealize.ShloMosaic.Lib.Pipeline.ValueKit

@[expose] public section

set_option maxRecDepth 16384

noncomputable section

namespace Cert.Pre_mix_finite

open Idealize.ShloMosaic
open Cert.Norm Cert.Mix.Spec

/-- The shape relations the predicate's operations take. -/
theorem facts : Facts where
  concatenates_S16384x512_S16384x256_S16384x256_S16384x1024_d1 := by decide
  slices_S6x1024_S1x1024_2_0 := by decide
  slices_S4x1024_S1x1024_0_0 := by decide
  concatenates_S16384x1024_S16384x1024_S16384x1024_S1x1024_S1x1024_S512x1024_S256x1024_S1024x1024_S50946x1024_d0 := by decide
  bcast_S_S50946x1024 := by decide

variable [Facts] (a : Args)
open Facts

/-- The two branches side by side, as wide as the others. -/
def branches : FVec Ideal S16384x1024 .f32 :=
  concatenate S16384x1024 1 [⟨S16384x512, a.ya⟩, ⟨S16384x256, a.yb⟩, ⟨S16384x256, a.yb⟩] concatenates_S16384x512_S16384x256_S16384x256_S16384x1024_d1

/-- The conditioning's gate. -/
def gate : FVec Ideal S1x1024 .f32 := extractStridedSlice S1x1024 ![2, 0] a.md slices_S6x1024_S1x1024_2_0

/-- The layer norm's scale. -/
def scale : FVec Ideal S1x1024 .f32 := extractStridedSlice S1x1024 ![0, 0] a.ln slices_S4x1024_S1x1024_0_0

/-- Every array the predicate reads. -/
def pieces : List ((s : Shape) × (s.Idx → EReal)) :=
  [⟨S16384x1024, a.dxm⟩, ⟨S16384x1024, a.x⟩, ⟨S16384x1024, branches a⟩, ⟨S1x1024, gate a⟩, ⟨S1x1024, scale a⟩,
    ⟨S512x1024, a.wa⟩, ⟨S256x1024, a.wb⟩, ⟨S1024x1024, a.wo⟩]

/-- They stack to one array. -/
theorem pieces_concatenate : Shape.Concatenates ((pieces a).map (·.1)) S50946x1024 0 :=
  concatenates_S16384x1024_S16384x1024_S16384x1024_S1x1024_S1x1024_S512x1024_S256x1024_S1024x1024_S50946x1024_d0

/-- Them one above the other. -/
def stack : FVec Ideal S50946x1024 .f32 := concatenate S50946x1024 0 (pieces a) (pieces_concatenate a)

variable {a}

/-- The stack read inside one of its pieces. -/
theorem stack_piece (k : Fin (pieces a).length) (n : ℕ) (x : FVec Ideal ⟨2, ![n, 1024]⟩ .f32) (pre : ℕ) (r : Fin n) (d : Fin 1024) (hlt : pre + r.val < 50946)
    (hx : (pieces a)[k] = ⟨⟨2, ![n, 1024]⟩, x⟩)
    (hpre : ([16384, 16384, 16384, 1, 1, 512, 256, 1024].take k.val).sum = pre) :
    stack a (ix2 ⟨pre + r.val, hlt⟩ d) = x (ix2 r d) := by
  refine concatenate_apply_piece (t := S50946x1024) (0 : Fin 2) (pieces a) (pieces_concatenate a) _ k.val k.isLt ⟨2, ![n, 1024]⟩ x hx rfl pre ?_ (ix2 r d) (fun b hb => ?_) rfl
  · rw [← hpre]
    match k with
    | ⟨0, _⟩ | ⟨1, _⟩ | ⟨2, _⟩ | ⟨3, _⟩ | ⟨4, _⟩ | ⟨5, _⟩ | ⟨6, _⟩ | ⟨7, _⟩ => rfl
  · match b with
    | ⟨0, _⟩ => exact absurd rfl hb
    | ⟨1, _⟩ => rfl

/-- Where the predicate holds, every element of the stack is a real number. -/
theorem stack_real (h : fn (F := Ideal) a.dxm a.x a.gates a.ya a.yb a.md a.ln a.wa a.wb a.wo = fun _ => 1#1) (i : S50946x1024.Idx) :
    IsReal (stack a i) := by
  have hi : cmpf .olt (Host.absf (stack a)) (broadcastInDim S50946x1024 ![] bcast_S_S50946x1024 (constant (F := Ideal) S_ .f32 0x7F800000#32)) i = 1#1 :=
    congrFun h i
  generalize stack a = s at hi ⊢
  have e : cmpf .olt (Host.absf s) (broadcastInDim S50946x1024 ![] bcast_S_S50946x1024 (constant (F := Ideal) S_ .f32 0x7F800000#32)) i
      = BitVec.ofBool (decide (max (s i) (-s i) < Ideal.ofBits FTy.f32 0x7F800000#32)) := by
    pointwise []
    rfl
  rw [e] at hi
  have top : ∀ x : EReal, max (s i) (-s i) = ⊤ → False := fun x ht => by
    rw [ht, decide_eq_false not_top_lt] at hi
    exact absurd hi (by decide)
  refine IsReal.of_ne (fun hb => top 0 ?_) (fun ht => top 0 ?_)
  · rw [hb]; simp
  · rw [ht]; simp

/-- Where the predicate holds, every array the gradient reads but the gates' arguments is finite. -/
theorem finite (h : fn (F := Ideal) a.dxm a.x a.gates a.ya a.yb a.md a.ln a.wa a.wb a.wo = fun _ => 1#1) : Finite a where
  dxm r d := stack_piece ⟨0, by show _ < 8; omega⟩ 16384 a.dxm 0 r d (by omega) rfl rfl ▸ stack_real h _
  x r d := stack_piece ⟨1, by show _ < 8; omega⟩ 16384 a.x 16384 r d (by omega) rfl rfl ▸ stack_real h _
  ya r d := by
    have e : branches a (ix2 r ⟨d.val, by omega⟩) = a.ya (ix2 r d) := by pointwise [branches]
    exact e ▸ stack_piece ⟨2, by show _ < 8; omega⟩ 16384 (branches a) 32768 r _ (by omega) rfl rfl ▸ stack_real h _
  yb r d := by
    have e : branches a (ix2 r ⟨512 + d.val, by omega⟩) = a.yb (ix2 r d) := by pointwise [branches]
    exact e ▸ stack_piece ⟨2, by show _ < 8; omega⟩ 16384 (branches a) 32768 r _ (by omega) rfl rfl ▸ stack_real h _
  md d := by
    have e : gate a (ix2 0 d) = a.md (ix2 2 d) := by pointwise [gate]
    exact e ▸ stack_piece ⟨3, by show _ < 8; omega⟩ 1 (gate a) 49152 0 d (by omega) rfl rfl ▸ stack_real h _
  ln d := by
    have e : scale a (ix2 0 d) = a.ln (ix2 0 d) := by pointwise [scale]
    exact e ▸ stack_piece ⟨4, by show _ < 8; omega⟩ 1 (scale a) 49153 0 d (by omega) rfl rfl ▸ stack_real h _
  wa r d := stack_piece ⟨5, by show _ < 8; omega⟩ 512 a.wa 49154 r d (by omega) rfl rfl ▸ stack_real h _
  wb r d := stack_piece ⟨6, by show _ < 8; omega⟩ 256 a.wb 49666 r d (by omega) rfl rfl ▸ stack_real h _
  wo r d := stack_piece ⟨7, by show _ < 8; omega⟩ 1024 a.wo 49922 r d (by omega) rfl rfl ▸ stack_real h _

end Cert.Pre_mix_finite

end
-- ==== Proof.Mix.Claims.lean ====
/- The claims about the gated mix's gradient. -/
module

public import proofs.«01_k».proof.Defs
public import proofs.«01_k».proof.Proof.Gen.Mix.Frame
public import proofs.«01_k».proof.Proof.Gen.MixIdeal.Value
public import proofs.«01_k».proof.Proof.Gen.MixRefIdeal.Run
public import proofs.«01_k».proof.Proof.Mix.Final
public import proofs.«01_k».proof.Proof.Mix.Pre
public import Idealize.ShloMosaic.Lib.Claim

@[expose] public section

set_option maxRecDepth 16384

noncomputable section

namespace Cert.Proof.Mix

open Idealize.ShloMosaic Idealize.ShloMosaic.TcCoe Idealize.SL.Sem Idealize.ShloMosaic.StableHlo

/-- The kernel over bits runs to its end and leaves its arguments as they were. -/
theorem frame_bits : Cert.quiescent_Mix := fun m g _ => Cert.Mix.Gen.frame m g

/-- So does the kernel over the extended reals. -/
theorem frame_ideal : Cert.quiescent_MixIdeal := fun m g _ => Cert.MixIdeal.Gen.frame m g

/-- So it does under the precondition. -/
theorem frame_ideal_pre [Cert.Pre_mix_finite.Facts] : Cert.quiescent_MixIdeal_pre_mix_finite := fun m g _ => Cert.MixIdeal.Gen.frame m g

/-- So does the reference: it is host operations alone, and has no semaphore. -/
theorem frame_ref : Cert.quiescent_MixRefIdeal := fun m g _ =>
  (θ_run Cert.MixRefIdeal.defs _ _).mono
    (fun r h => ⟨fun c => (h c).2.2.2.2.2.2.2.2.2, sem_eq_zero_of_no_sems (by decide) r.2⟩)
    (Cert.MixRefIdeal.Value.run (F := Ideal) m g)

/-- So it does under the precondition. -/
theorem frame_ref_pre [Cert.Pre_mix_finite.Facts] : Cert.quiescent_MixRefIdeal_pre_mix_finite := fun m g _ => frame_ref m g trivial

/-- The precondition of the kernel's arguments makes every array but the gates' arguments finite. -/
theorem pre_finite [Cert.Pre_mix_finite.Facts] (m : (ℓ : Loc Cert.MixIdeal.nD Cert.MixIdeal.τ Cert.MixIdeal.sig) → Buf (Elt Ideal) ℓ)
    (h : Cert.Pre_MixIdeal_mix_finite m) (c : Dev Cert.MixIdeal.nD) : Cert.Mix.Spec.Finite (Cert.MixIdeal.Val.args m c) :=
  Cert.Pre_mix_finite.finite (a := Cert.MixIdeal.Val.args m c) (h c)

open Cert.MixRefIdeal.Read Cert.MixIdeal.Value Cert.MixIdeal.Val in
/-- The kernel's nine arrays are the reference's: the derivative of the gated mix and of the layer norm after it. -/
theorem value [Cert.Pre_mix_finite.Facts] : Cert.algebraic_MixIdeal_MixRefIdeal_pre_mix_finite := by
  intro m g m' g' hp ha
  refine ⟨_, _, _, _, _, _, _, _, _, (θ_run Cert.MixIdeal.defs _ _).mono
      (fun r h c => ⟨(post12 m r h c).trans (final0 m c (pre_finite m hp c)), (post13 m r h c).trans (final1 m c (pre_finite m hp c)),
        (post14 m r h c).trans (final2 m c), (post15 m r h c).trans (final3 m c (pre_finite m hp c)),
        (post16 m r h c).trans (final4 m c (pre_finite m hp c)), (post17 m r h c).trans (final5 m c (pre_finite m hp c)),
        (post18 m r h c).trans (final6 m c (pre_finite m hp c)), (post19 m r h c).trans (final7 m c (pre_finite m hp c)),
        (post20 m r h c).trans (final8 m c (pre_finite m hp c)),
        kept_main_arg0 m r h c, kept_main_arg1 m r h c, kept_main_arg2 m r h c, kept_main_arg3 m r h c, kept_main_arg4 m r h c,
        kept_main_arg5 m r h c, kept_main_arg6 m r h c, kept_main_arg7 m r h c, kept_main_arg8 m r h c, kept_main_arg9 m r h c⟩)
      (Cert.MixIdeal.Gen.run_main m g),
    (θ_run Cert.MixRefIdeal.defs _ _).mono (fun r h c => by
      obtain ⟨r0, r1, r2, r3, r4, r5, r6, r7, r8, rk⟩ := h c
      refine ⟨r0.trans ((val_main_v105_eq (launchContents m' c)).trans ?_), r1.trans ((val_main_v119_eq (launchContents m' c)).trans ?_),
        r2.trans ((val_main_v120_eq (launchContents m' c)).trans ?_), r3.trans ((val_main_v121_eq (launchContents m' c)).trans ?_),
        r4.trans ((val_main_v122_eq (launchContents m' c)).trans ?_), r5.trans ((val_main_v124_eq (launchContents m' c)).trans ?_),
        r6.trans ((val_main_v125_eq (launchContents m' c)).trans ?_), r7.trans ((val_main_v114_eq (launchContents m' c)).trans ?_),
        r8.trans ((val_main_v118_eq (launchContents m' c)).trans ?_), rk⟩
      all_goals
        obtain ⟨h0, h1, h2, h3, h4, h5, h6, h7, h8, h9⟩ := ha c
        simp only [whole, args, ← h0, ← h1, ← h2, ← h3, ← h4, ← h5, ← h6, ← h7, ← h8, ← h9])
      (Cert.MixRefIdeal.Value.run (F := Ideal) m' g')⟩

end Cert.Proof.Mix

end
-- ==== Proof.DwGate.Value.lean ====
/- The gradient of a feed-forward input weight: the panels the kernel leaves, and the reference's. -/
module

public import proofs.«01_k».proof.Proof.Gen.DwGateIdeal.Frame
public import proofs.«01_k».proof.Proof.Gen.DwGateRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwGateIdeal.Val

open Cert.DwGateIdeal Cert.DwGateIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val % 32, 0]
    ∧ win0_1.index t = ![t.val / 32, t.val % 32, 0]
    ∧ win0_2.index t = ![t.val / 32, 0, 0] :=
  (by decide +kernel : ∀ t : Fin grid0.N, _)

/-- The weight's gradient in panel `p`, at channel `d` and hidden column `q`: a sum over every token. -/
def dw (u : FVec Ideal S16384x1024 .bf16) (g : FVec Ideal S4x16384x704 .bf16) (p : Fin 4) (d : Fin 1024) (q : Fin 704) :
    EReal :=
  ∑ l : Fin 16384, u (ix2 l d) * g (ix3 p l q)

/-- The cleared accumulator is zero. -/
theorem pay1_at (j : S1024x704.Idx) : k0_pay1 (F := Ideal) j = (0 : EReal) := by
  pointwise [k0_pay1]

/-- One tile's step adds the product over the tile's tokens. -/
theorem pay2_at (acc : FVec Ideal S1024x704 .f32) (u : FVec Ideal S512x1024 .bf16) (g : FVec Ideal S1x512x704 .bf16)
    (j : S1024x704.Idx) :
    k0_pay2 (F := Ideal) acc u g j = acc j + ∑ k : Fin 512, u (ix2 k (j 0)) * g (ix3 0 k (j 1)) := by
  pointwise [k0_pay2]

/-- The last tile's step writes the accumulator out. -/
theorem pay3_at (acc : FVec Ideal S1024x704 .f32) (j : S1x1024x704.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S1024x704.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x1024x704.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwGateRefIdeal.Read in
/-- The reference's gradient at an index. -/
theorem ref_at (u : FVec Ideal S16384x1024 .bf16) (g : FVec Ideal S4x16384x704 .bf16) (i : S4x1024x704.Idx) :
    val_main_v10 (F := Ideal) u g i = dw u g (i 0) (i 1) (i 2) := by
  pointwise [val_main_v10, val_main_v9, val_main_v8, val_main_v7, val_main_v6, val_main_v4, val_main_v2, val_main_v1, val_main_v0, dw]
  exact Finset.sum_congr rfl fun l _ => mul_comm (G := EReal) _ _

/-- The kernel's array after the run is the reference's. -/
theorem final (c : Dev nD) : (dats m 0 c).arrAt 2 cfg0.N
    = Cert.DwGateRefIdeal.Read.val_main_v10 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwGateIdeal.Val

end
-- ==== Proof.DwDown.Value.lean ====
/- The gradient of the feed-forward output weight: the panels the kernel leaves, and the reference's. -/
module

public import proofs.«01_k».proof.Proof.Gen.DwDownIdeal.Frame
public import proofs.«01_k».proof.Proof.Gen.DwDownRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwDownIdeal.Val

open Cert.DwDownIdeal Cert.DwDownIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val / 32, t.val % 32, 0]
    ∧ win0_1.index t = ![t.val % 32, 0]
    ∧ win0_2.index t = ![t.val / 32, 0, 0] :=
  (by decide +kernel : ∀ t : Fin grid0.N, _)

/-- The weight's gradient in panel `p`, at hidden row `q` and channel `d`: a sum over every token. -/
def dw (u : FVec Ideal S4x16384x704 .bf16) (g : FVec Ideal S16384x1024 .bf16) (p : Fin 4) (q : Fin 704) (d : Fin 1024) :
    EReal :=
  ∑ l : Fin 16384, u (ix3 p l q) * g (ix2 l d)

/-- The cleared accumulator is zero. -/
theorem pay1_at (j : S704x1024.Idx) : k0_pay1 (F := Ideal) j = (0 : EReal) := by
  pointwise [k0_pay1]

/-- One tile's step adds the product over the tile's tokens. -/
theorem pay2_at (acc : FVec Ideal S704x1024 .f32) (u : FVec Ideal S1x512x704 .bf16) (g : FVec Ideal S512x1024 .bf16)
    (j : S704x1024.Idx) :
    k0_pay2 (F := Ideal) acc u g j = acc j + ∑ k : Fin 512, u (ix3 0 k (j 0)) * g (ix2 k (j 1)) := by
  pointwise [k0_pay2]

/-- The last tile's step writes the accumulator out. -/
theorem pay3_at (acc : FVec Ideal S704x1024 .f32) (j : S1x704x1024.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S704x1024.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x704x1024.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwDownRefIdeal.Read in
/-- The reference's gradient at an index. -/
theorem ref_at (u : FVec Ideal S4x16384x704 .bf16) (g : FVec Ideal S16384x1024 .bf16) (i : S4x704x1024.Idx) :
    val_main_v9 (F := Ideal) u g i = dw u g (i 0) (i 1) (i 2) := by
  pointwise [val_main_v9, val_main_v8, val_main_v7, val_main_v6, val_main_v5, val_main_v2, val_main_v1, val_main_v0, dw]
  exact Finset.sum_congr rfl fun l _ => mul_comm (G := EReal) _ _

/-- The kernel's array after the run is the reference's. -/
theorem final (c : Dev nD) : (dats m 0 c).arrAt 2 cfg0.N
    = Cert.DwDownRefIdeal.Read.val_main_v9 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwDownIdeal.Val

end
-- ==== Proof.DwIn.Value.lean ====
/- The gradient of the input projection's weight: the panels the kernel leaves, and the reference's. -/
module

public import proofs.«01_k».proof.Proof.Gen.DwInIdeal.Frame
public import proofs.«01_k».proof.Proof.Gen.DwInRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwInIdeal.Val

open Cert.DwInIdeal Cert.DwInIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val % 32, 0]
    ∧ win0_1.index t = ![t.val % 32, t.val / 32]
    ∧ win0_2.index t = ![t.val / 32, 0, 0] :=
  (by decide +kernel : ∀ t : Fin grid0.N, _)

/-- The weight's gradient in panel `p`, at channel `d` and the panel's column `q`: a sum over every token. -/
def dw (u : FVec Ideal S16384x1024 .bf16) (g : FVec Ideal S16384x5120 .bf16) (p : Fin 4) (d : Fin 1024) (q : Fin 1280) :
    EReal :=
  ∑ l : Fin 16384, u (ix2 l d) * g (ix2 l ⟨p.val * 1280 + q.val, by have := p.isLt; have := q.isLt; omega⟩)

/-- The cleared accumulator is zero. -/
theorem pay1_at (j : S1024x1280.Idx) : k0_pay1 (F := Ideal) j = (0 : EReal) := by
  pointwise [k0_pay1]

/-- One tile's step adds the product over the tile's tokens. -/
theorem pay2_at (acc : FVec Ideal S1024x1280 .f32) (u : FVec Ideal S512x1024 .bf16) (g : FVec Ideal S512x1280 .bf16)
    (j : S1024x1280.Idx) :
    k0_pay2 (F := Ideal) acc u g j = acc j + ∑ k : Fin 512, u (ix2 k (j 0)) * g (ix2 k (j 1)) := by
  pointwise [k0_pay2]

/-- The last tile's step writes the accumulator out. -/
theorem pay3_at (acc : FVec Ideal S1024x1280 .f32) (j : S1x1024x1280.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S1024x1280.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x1024x1280.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwInRefIdeal.Read in
/-- The reference's gradient at an index. -/
theorem ref_at (u : FVec Ideal S16384x1024 .bf16) (g : FVec Ideal S16384x5120 .bf16) (i : S4x1024x1280.Idx) :
    val_main_v8 (F := Ideal) u g i = dw u g (i 0) (i 1) (i 2) := by
  pointwise [val_main_v8, val_main_v7, val_main_v6, val_main_v5, val_main_v4, val_main_v3, val_main_v1, dw]
  exact Finset.sum_congr rfl fun l _ => mul_comm (G := EReal) _ _

/-- The kernel's array after the run is the reference's. -/
theorem final (c : Dev nD) : (dats m 0 c).arrAt 2 cfg0.N
    = Cert.DwInRefIdeal.Read.val_main_v8 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwInIdeal.Val

end
-- ==== Proof.DwOut.Value.lean ====
/- The gradient of the merged output's weight: the panels the kernel leaves, and the reference's. -/
module

public import proofs.«01_k».proof.Proof.Gen.DwOutIdeal.Frame
public import proofs.«01_k».proof.Proof.Gen.DwOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwOutIdeal.Val

open Cert.DwOutIdeal Cert.DwOutIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val % 32, t.val / 32]
    ∧ win0_1.index t = ![t.val % 32, 0]
    ∧ win0_2.index t = ![t.val / 32, 0, 0] :=
  (by decide +kernel : ∀ t : Fin grid0.N, _)

/-- The weight's gradient in panel `p`, at the panel's row `q` and channel `d`: a sum over every token. -/
def dw (u g : FVec Ideal S16384x1024 .bf16) (p : Fin 4) (q : Fin 256) (d : Fin 1024) :
    EReal :=
  ∑ l : Fin 16384, u (ix2 l ⟨p.val * 256 + q.val, by have := p.isLt; have := q.isLt; omega⟩) * g (ix2 l d)

/-- The cleared accumulator is zero. -/
theorem pay1_at (j : S256x1024.Idx) : k0_pay1 (F := Ideal) j = (0 : EReal) := by
  pointwise [k0_pay1]

/-- One tile's step adds the product over the tile's tokens. -/
theorem pay2_at (acc : FVec Ideal S256x1024 .f32) (u : FVec Ideal S512x256 .bf16) (g : FVec Ideal S512x1024 .bf16)
    (j : S256x1024.Idx) :
    k0_pay2 (F := Ideal) acc u g j = acc j + ∑ k : Fin 512, u (ix2 k (j 0)) * g (ix2 k (j 1)) := by
  pointwise [k0_pay2]

/-- The last tile's step writes the accumulator out. -/
theorem pay3_at (acc : FVec Ideal S256x1024 .f32) (j : S1x256x1024.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S256x1024.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x256x1024.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwOutRefIdeal.Read in
/-- The reference's gradient at an index. -/
theorem ref_at (u : FVec Ideal S16384x1024 .bf16) (g : FVec Ideal S16384x1024 .bf16) (i : S4x256x1024.Idx) :
    val_main_v7 (F := Ideal) u g i = dw u g (i 0) (i 1) (i 2) := by
  pointwise [val_main_v7, val_main_v6, val_main_v5, val_main_v4, val_main_v3, val_main_v1, dw]
  exact Finset.sum_congr rfl fun l _ => mul_comm (G := EReal) _ _

/-- The kernel's array after the run is the reference's. -/
theorem final (c : Dev nD) : (dats m 0 c).arrAt 2 cfg0.N
    = Cert.DwOutRefIdeal.Read.val_main_v7 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwOutIdeal.Val

end
-- ==== Proof.DwA.Value.lean ====
/- The gradient of the first mixer's output weight: the panels the kernel leaves, and the reference's. -/
module

public import proofs.«01_k».proof.Proof.Gen.DwAIdeal.Frame
public import proofs.«01_k».proof.Proof.Gen.DwARefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwAIdeal.Val

open Cert.DwAIdeal Cert.DwAIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val % 32, 0]
    ∧ win0_1.index t = ![t.val % 32, t.val / 32]
    ∧ win0_2.index t = ![t.val / 32, 0, 0] :=
  (by decide +kernel : ∀ t : Fin grid0.N, _)

/-- The weight's gradient in panel `p`, at row `d` and the panel's column `q`: a sum over every token. -/
def dw (u : FVec Ideal S16384x512 .bf16) (g : FVec Ideal S16384x1024 .bf16) (p : Fin 4) (d : Fin 512) (q : Fin 256) :
    EReal :=
  ∑ l : Fin 16384, u (ix2 l d) * g (ix2 l ⟨p.val * 256 + q.val, by have := p.isLt; have := q.isLt; omega⟩)

/-- The cleared accumulator is zero. -/
theorem pay1_at (j : S512x256.Idx) : k0_pay1 (F := Ideal) j = (0 : EReal) := by
  pointwise [k0_pay1]

/-- One tile's step adds the product over the tile's tokens. -/
theorem pay2_at (acc : FVec Ideal S512x256 .f32) (u : FVec Ideal S512x512 .bf16) (g : FVec Ideal S512x256 .bf16)
    (j : S512x256.Idx) :
    k0_pay2 (F := Ideal) acc u g j = acc j + ∑ k : Fin 512, u (ix2 k (j 0)) * g (ix2 k (j 1)) := by
  pointwise [k0_pay2]

/-- The last tile's step writes the accumulator out. -/
theorem pay3_at (acc : FVec Ideal S512x256 .f32) (j : S1x512x256.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S512x256.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x512x256.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwARefIdeal.Read in
/-- The reference's gradient at an index. -/
theorem ref_at (u : FVec Ideal S16384x512 .bf16) (g : FVec Ideal S16384x1024 .bf16) (i : S4x512x256.Idx) :
    val_main_v8 (F := Ideal) u g i = dw u g (i 0) (i 1) (i 2) := by
  pointwise [val_main_v8, val_main_v7, val_main_v6, val_main_v5, val_main_v4, val_main_v3, val_main_v1, dw]
  exact Finset.sum_congr rfl fun l _ => mul_comm (G := EReal) _ _

/-- The kernel's array after the run is the reference's. -/
theorem final (c : Dev nD) : (dats m 0 c).arrAt 2 cfg0.N
    = Cert.DwARefIdeal.Read.val_main_v8 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwAIdeal.Val

end
-- ==== Proof.DwB.Value.lean ====
/- The gradient of the second mixer's output weight: the panels the kernel leaves, and the reference's. -/
module

public import proofs.«01_k».proof.Proof.Gen.DwBIdeal.Frame
public import proofs.«01_k».proof.Proof.Gen.DwBRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwBIdeal.Val

open Cert.DwBIdeal Cert.DwBIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the panel is the point over thirty-two, the token tile its remainder. -/
theorem idx : ∀ t : Fin cfg0.N, win0_0.index t = ![t.val % 32, 0]
    ∧ win0_1.index t = ![t.val % 32, t.val / 32]
    ∧ win0_2.index t = ![t.val / 32, 0, 0] :=
  (by decide +kernel : ∀ t : Fin grid0.N, _)

/-- The weight's gradient in panel `p`, at row `d` and the panel's column `q`: a sum over every token. -/
def dw (u : FVec Ideal S16384x256 .bf16) (g : FVec Ideal S16384x1024 .bf16) (p : Fin 4) (d : Fin 256) (q : Fin 256) :
    EReal :=
  ∑ l : Fin 16384, u (ix2 l d) * g (ix2 l ⟨p.val * 256 + q.val, by have := p.isLt; have := q.isLt; omega⟩)

/-- The cleared accumulator is zero. -/
theorem pay1_at (j : S256x256.Idx) : k0_pay1 (F := Ideal) j = (0 : EReal) := by
  pointwise [k0_pay1]

/-- One tile's step adds the product over the tile's tokens. -/
theorem pay2_at (acc : FVec Ideal S256x256 .f32) (u : FVec Ideal S512x256 .bf16) (g : FVec Ideal S512x256 .bf16)
    (j : S256x256.Idx) :
    k0_pay2 (F := Ideal) acc u g j = acc j + ∑ k : Fin 512, u (ix2 k (j 0)) * g (ix2 k (j 1)) := by
  pointwise [k0_pay2]

/-- The last tile's step writes the accumulator out. -/
theorem pay3_at (acc : FVec Ideal S256x256 .f32) (j : S1x256x256.Idx) :
    k0_pay3 (F := Ideal) acc j = acc (ix2 (j 1) (j 2)) := by
  pointwise [k0_pay3]

/-- What the accumulator holds after a panel's last tile: the whole sum. -/
theorem acc_last (c : Dev nD) (t : Fin cfg0.N) (ht : t.val % 32 = 31) (j : S256x256.Idx) (p : Fin 4)
    (hp : p.val = t.val / 32) :
    (outsAt0 m c t.val t.isLt).2 j
      = dw (m ((c : Thread nD τ).loc main_arg0)) (m ((c : Thread nD τ).loc main_arg1)) p (j 0) (j 1) := by
  rw [Pipeline.eq_sum_fin_of_reset_step_apply_of_flush (fun n h => (outsAt0 m c n h).2) 32 (fun _ => (0 : EReal)) _
    (fun t h j => by rw [outsAt0_A m c t h (by omega)]; frame_out; rw [pay2_at, pay1_at])
    (fun t h j => by
      by_cases h2 : t.val % 32 = 31
      · rw [outsAt0_C m c t h h2]; frame_out; rw [read_unread_whole, pay2_at]
      · rw [outsAt0_B m c t h h2]; frame_out; rw [read_unread_whole, pay2_at]) t ht j, zero_add]
  refine Fin.sum_mul_add_congr fun s k hl => ?_
  have e := idx ⟨_, Pipeline.run_point_lt_of_flush t ht s⟩
  blk_point [iblk, V, e]

/-- The panel written out after its last tile. -/
theorem out_last (c : Dev nD) (t : Fin cfg0.N) (ht : t.val % 32 = 31) (j : S1x256x256.Idx) (p : Fin 4)
    (hp : p.val = t.val / 32) :
    (outsAt0 m c t.val t.isLt).1 j
      = dw (m ((c : Thread nD τ).loc main_arg0)) (m ((c : Thread nD τ).loc main_arg1)) p (j 1) (j 2) := by
  refine Eq.trans ?_ (acc_last m c t ht (ix2 (j 1) (j 2)) p hp)
  rw [outsAt0_C m c t (by omega) ht]; frame_out
  rw [pay3_at, read_unread_whole]

open Cert.DwBRefIdeal.Read in
/-- The reference's gradient at an index. -/
theorem ref_at (u : FVec Ideal S16384x256 .bf16) (g : FVec Ideal S16384x1024 .bf16) (i : S4x256x256.Idx) :
    val_main_v8 (F := Ideal) u g i = dw u g (i 0) (i 1) (i 2) := by
  pointwise [val_main_v8, val_main_v7, val_main_v6, val_main_v5, val_main_v4, val_main_v3, val_main_v1, dw]
  exact Finset.sum_congr rfl fun l _ => mul_comm (G := EReal) _ _

/-- The kernel's array after the run is the reference's. -/
theorem final (c : Dev nD) : (dats m 0 c).arrAt 2 cfg0.N
    = Cert.DwBRefIdeal.Read.val_main_v8 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  refine (out_last m c t ((flush0_2 t).mp hf) y (((win0_2.blk t).view.emb y) 0) (by blk_simp [e])).trans
    (Eq.trans ?_ (ref_at _ _ _).symm)
  exact congrArg₂ (dw _ _ _) (Fin.ext (by blk_simp [e])) (Fin.ext (by blk_simp [e]))

end Cert.DwBIdeal.Val

end
-- ==== Proof.Weights.Claims.lean ====
/- The claims about the weights' gradients. -/
module

public import proofs.«01_k».proof.Defs
public import proofs.«01_k».proof.Proof.Gen.DwGate.Frame
public import proofs.«01_k».proof.Proof.Gen.DwGateIdeal.Value
public import proofs.«01_k».proof.Proof.Gen.DwGateRefIdeal.Run
public import proofs.«01_k».proof.Proof.DwGate.Value
public import proofs.«01_k».proof.Proof.Gen.DwDown.Frame
public import proofs.«01_k».proof.Proof.Gen.DwDownIdeal.Value
public import proofs.«01_k».proof.Proof.Gen.DwDownRefIdeal.Run
public import proofs.«01_k».proof.Proof.DwDown.Value
public import proofs.«01_k».proof.Proof.Gen.DwIn.Frame
public import proofs.«01_k».proof.Proof.Gen.DwInIdeal.Value
public import proofs.«01_k».proof.Proof.Gen.DwInRefIdeal.Run
public import proofs.«01_k».proof.Proof.DwIn.Value
public import proofs.«01_k».proof.Proof.Gen.DwOut.Frame
public import proofs.«01_k».proof.Proof.Gen.DwOutIdeal.Value
public import proofs.«01_k».proof.Proof.Gen.DwOutRefIdeal.Run
public import proofs.«01_k».proof.Proof.DwOut.Value
public import proofs.«01_k».proof.Proof.Gen.DwA.Frame
public import proofs.«01_k».proof.Proof.Gen.DwAIdeal.Value
public import proofs.«01_k».proof.Proof.Gen.DwARefIdeal.Run
public import proofs.«01_k».proof.Proof.DwA.Value
public import proofs.«01_k».proof.Proof.Gen.DwB.Frame
public import proofs.«01_k».proof.Proof.Gen.DwBIdeal.Value
public import proofs.«01_k».proof.Proof.Gen.DwBRefIdeal.Run
public import proofs.«01_k».proof.Proof.DwB.Value
public import Idealize.ShloMosaic.Lib.Claim

@[expose] public section

set_option maxRecDepth 16384

noncomputable section

open Idealize.ShloMosaic Idealize.SL.Sem

namespace Cert.Proof.DwGate

/-- The kernel over bits runs to its end and leaves its arguments as they were. -/
theorem frame_bits : Cert.quiescent_DwGate := fun m g _ => Cert.DwGate.Gen.frame m g

/-- So does the kernel over the extended reals. -/
theorem frame_ideal : Cert.quiescent_DwGateIdeal := fun m g _ => Cert.DwGateIdeal.Gen.frame m g

/-- So does the reference, which has no semaphore. -/
theorem frame_ref : Cert.quiescent_DwGateRefIdeal := fun m g _ =>
  (θ_run Cert.DwGateRefIdeal.defs _ _).mono (fun r h => ⟨fun c => (h c).2, sem_eq_zero_of_no_sems (by decide) r.2⟩)
    (Cert.DwGateRefIdeal.Value.run (F := Ideal) m g)

open Cert.DwGateRefIdeal.Read Cert.DwGateIdeal.Value in
/-- The kernel's panels are the derivative of the product by a feed-forward input weight. -/
theorem value : Cert.algebraic_DwGateIdeal_DwGateRefIdeal := by
  intro m g m' g' _ ha
  refine ⟨_, (θ_run Cert.DwGateIdeal.defs _ _).mono
      (fun r h c => ⟨(post2 m r h c).trans (Cert.DwGateIdeal.Val.final m c), kept_main_arg0 m r h c, kept_main_arg1 m r h c⟩)
      (Cert.DwGateIdeal.Gen.run_main m g),
    (θ_run Cert.DwGateRefIdeal.defs _ _).mono (fun r h c => ⟨(h c).1.trans ?_, (h c).2⟩)
      (Cert.DwGateRefIdeal.Value.run (F := Ideal) m' g')⟩
  obtain ⟨h0, h1⟩ := ha c
  rw [h0, h1]
  exact val_main_v10_eq _ _

end Cert.Proof.DwGate

namespace Cert.Proof.DwDown

/-- The kernel over bits runs to its end and leaves its arguments as they were. -/
theorem frame_bits : Cert.quiescent_DwDown := fun m g _ => Cert.DwDown.Gen.frame m g

/-- So does the kernel over the extended reals. -/
theorem frame_ideal : Cert.quiescent_DwDownIdeal := fun m g _ => Cert.DwDownIdeal.Gen.frame m g

/-- So does the reference, which has no semaphore. -/
theorem frame_ref : Cert.quiescent_DwDownRefIdeal := fun m g _ =>
  (θ_run Cert.DwDownRefIdeal.defs _ _).mono (fun r h => ⟨fun c => (h c).2, sem_eq_zero_of_no_sems (by decide) r.2⟩)
    (Cert.DwDownRefIdeal.Value.run (F := Ideal) m g)

open Cert.DwDownRefIdeal.Read Cert.DwDownIdeal.Value in
/-- The kernel's panels are the derivative of the product by the feed-forward output weight. -/
theorem value : Cert.algebraic_DwDownIdeal_DwDownRefIdeal := by
  intro m g m' g' _ ha
  refine ⟨_, (θ_run Cert.DwDownIdeal.defs _ _).mono
      (fun r h c => ⟨(post2 m r h c).trans (Cert.DwDownIdeal.Val.final m c), kept_main_arg0 m r h c, kept_main_arg1 m r h c⟩)
      (Cert.DwDownIdeal.Gen.run_main m g),
    (θ_run Cert.DwDownRefIdeal.defs _ _).mono (fun r h c => ⟨(h c).1.trans ?_, (h c).2⟩)
      (Cert.DwDownRefIdeal.Value.run (F := Ideal) m' g')⟩
  obtain ⟨h0, h1⟩ := ha c
  rw [h0, h1]
  exact val_main_v9_eq _ _

end Cert.Proof.DwDown

namespace Cert.Proof.DwIn

/-- The kernel over bits runs to its end and leaves its arguments as they were. -/
theorem frame_bits : Cert.quiescent_DwIn := fun m g _ => Cert.DwIn.Gen.frame m g

/-- So does the kernel over the extended reals. -/
theorem frame_ideal : Cert.quiescent_DwInIdeal := fun m g _ => Cert.DwInIdeal.Gen.frame m g

/-- So does the reference, which has no semaphore. -/
theorem frame_ref : Cert.quiescent_DwInRefIdeal := fun m g _ =>
  (θ_run Cert.DwInRefIdeal.defs _ _).mono (fun r h => ⟨fun c => (h c).2, sem_eq_zero_of_no_sems (by decide) r.2⟩)
    (Cert.DwInRefIdeal.Value.run (F := Ideal) m g)

open Cert.DwInRefIdeal.Read Cert.DwInIdeal.Value in
/-- The kernel's panels are the derivative of the product by the input projection's weight. -/
theorem value : Cert.algebraic_DwInIdeal_DwInRefIdeal := by
  intro m g m' g' _ ha
  refine ⟨_, (θ_run Cert.DwInIdeal.defs _ _).mono
      (fun r h c => ⟨(post2 m r h c).trans (Cert.DwInIdeal.Val.final m c), kept_main_arg0 m r h c, kept_main_arg1 m r h c⟩)
      (Cert.DwInIdeal.Gen.run_main m g),
    (θ_run Cert.DwInRefIdeal.defs _ _).mono (fun r h c => ⟨(h c).1.trans ?_, (h c).2⟩)
      (Cert.DwInRefIdeal.Value.run (F := Ideal) m' g')⟩
  obtain ⟨h0, h1⟩ := ha c
  rw [h0, h1]
  exact val_main_v8_eq _ _

end Cert.Proof.DwIn

namespace Cert.Proof.DwOut

/-- The kernel over bits runs to its end and leaves its arguments as they were. -/
theorem frame_bits : Cert.quiescent_DwOut := fun m g _ => Cert.DwOut.Gen.frame m g

/-- So does the kernel over the extended reals. -/
theorem frame_ideal : Cert.quiescent_DwOutIdeal := fun m g _ => Cert.DwOutIdeal.Gen.frame m g

/-- So does the reference, which has no semaphore. -/
theorem frame_ref : Cert.quiescent_DwOutRefIdeal := fun m g _ =>
  (θ_run Cert.DwOutRefIdeal.defs _ _).mono (fun r h => ⟨fun c => (h c).2, sem_eq_zero_of_no_sems (by decide) r.2⟩)
    (Cert.DwOutRefIdeal.Value.run (F := Ideal) m g)

open Cert.DwOutRefIdeal.Read Cert.DwOutIdeal.Value in
/-- The kernel's panels are the derivative of the product by the merged output's weight. -/
theorem value : Cert.algebraic_DwOutIdeal_DwOutRefIdeal := by
  intro m g m' g' _ ha
  refine ⟨_, (θ_run Cert.DwOutIdeal.defs _ _).mono
      (fun r h c => ⟨(post2 m r h c).trans (Cert.DwOutIdeal.Val.final m c), kept_main_arg0 m r h c, kept_main_arg1 m r h c⟩)
      (Cert.DwOutIdeal.Gen.run_main m g),
    (θ_run Cert.DwOutRefIdeal.defs _ _).mono (fun r h c => ⟨(h c).1.trans ?_, (h c).2⟩)
      (Cert.DwOutRefIdeal.Value.run (F := Ideal) m' g')⟩
  obtain ⟨h0, h1⟩ := ha c
  rw [h0, h1]
  exact val_main_v7_eq _ _

end Cert.Proof.DwOut

namespace Cert.Proof.DwA

/-- The kernel over bits runs to its end and leaves its arguments as they were. -/
theorem frame_bits : Cert.quiescent_DwA := fun m g _ => Cert.DwA.Gen.frame m g

/-- So does the kernel over the extended reals. -/
theorem frame_ideal : Cert.quiescent_DwAIdeal := fun m g _ => Cert.DwAIdeal.Gen.frame m g

/-- So does the reference, which has no semaphore. -/
theorem frame_ref : Cert.quiescent_DwARefIdeal := fun m g _ =>
  (θ_run Cert.DwARefIdeal.defs _ _).mono (fun r h => ⟨fun c => (h c).2, sem_eq_zero_of_no_sems (by decide) r.2⟩)
    (Cert.DwARefIdeal.Value.run (F := Ideal) m g)

open Cert.DwARefIdeal.Read Cert.DwAIdeal.Value in
/-- The kernel's panels are the derivative of the product by the first mixer's output weight. -/
theorem value : Cert.algebraic_DwAIdeal_DwARefIdeal := by
  intro m g m' g' _ ha
  refine ⟨_, (θ_run Cert.DwAIdeal.defs _ _).mono
      (fun r h c => ⟨(post2 m r h c).trans (Cert.DwAIdeal.Val.final m c), kept_main_arg0 m r h c, kept_main_arg1 m r h c⟩)
      (Cert.DwAIdeal.Gen.run_main m g),
    (θ_run Cert.DwARefIdeal.defs _ _).mono (fun r h c => ⟨(h c).1.trans ?_, (h c).2⟩)
      (Cert.DwARefIdeal.Value.run (F := Ideal) m' g')⟩
  obtain ⟨h0, h1⟩ := ha c
  rw [h0, h1]
  exact val_main_v8_eq _ _

end Cert.Proof.DwA

namespace Cert.Proof.DwB

/-- The kernel over bits runs to its end and leaves its arguments as they were. -/
theorem frame_bits : Cert.quiescent_DwB := fun m g _ => Cert.DwB.Gen.frame m g

/-- So does the kernel over the extended reals. -/
theorem frame_ideal : Cert.quiescent_DwBIdeal := fun m g _ => Cert.DwBIdeal.Gen.frame m g

/-- So does the reference, which has no semaphore. -/
theorem frame_ref : Cert.quiescent_DwBRefIdeal := fun m g _ =>
  (θ_run Cert.DwBRefIdeal.defs _ _).mono (fun r h => ⟨fun c => (h c).2, sem_eq_zero_of_no_sems (by decide) r.2⟩)
    (Cert.DwBRefIdeal.Value.run (F := Ideal) m g)

open Cert.DwBRefIdeal.Read Cert.DwBIdeal.Value in
/-- The kernel's panels are the derivative of the product by the second mixer's output weight. -/
theorem value : Cert.algebraic_DwBIdeal_DwBRefIdeal := by
  intro m g m' g' _ ha
  refine ⟨_, (θ_run Cert.DwBIdeal.defs _ _).mono
      (fun r h c => ⟨(post2 m r h c).trans (Cert.DwBIdeal.Val.final m c), kept_main_arg0 m r h c, kept_main_arg1 m r h c⟩)
      (Cert.DwBIdeal.Gen.run_main m g),
    (θ_run Cert.DwBRefIdeal.defs _ _).mono (fun r h c => ⟨(h c).1.trans ?_, (h c).2⟩)
      (Cert.DwBRefIdeal.Value.run (F := Ideal) m' g')⟩
  obtain ⟨h0, h1⟩ := ha c
  rw [h0, h1]
  exact val_main_v8_eq _ _

end Cert.Proof.DwB

end
-- ==== Proof.Qkv.Value.lean ====
/- The forward projection onto the queries, keys and values: what the run leaves in its array, and the reference's. -/
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise

@[expose] public section

set_option maxRecDepth 16384

noncomputable section

namespace Cert.QkvIdeal.Val

open Cert.QkvIdeal Cert.QkvIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the token tile is the point over twelve, the column tile its remainder. -/
theorem idx : ∀ t : Fin cfg0.N, win0_0.index t = ![t.val / 12, 0]
    ∧ win0_1.index t = ![(t.val % 12 + 0) / 5, 0, (t.val % 12 + 0) % 5]
    ∧ win0_2.index t = ![t.val / 12, t.val % 12] :=
  (by decide +kernel : ∀ t : Fin grid0.N, _)

/-- The projection at token `r`, column `j`. -/
def proj (u : FVec Ideal S16384x1024 .bf16) (w : FVec Ideal S1024x5120 .f32) (r : Fin 16384) (j : Fin 5120) : EReal :=
  ∑ l : Fin 1024, u (ix2 r l) * w (ix2 l j)

/-- One tile's product. -/
theorem pay1_at (u : FVec Ideal S1024x1024 .bf16) (w : FVec Ideal S1x1024x256 .bf16) (j : S1024x256.Idx) :
    k0_pay1 (F := Ideal) u w j = ∑ k : Fin 1024, u (ix2 (j 0) k) * w (ix3 0 k (j 1)) := by
  pointwise [k0_pay1]

/-- The weight's four column panels, read at a panel, a row and a column of the panel. -/
theorem host_w (c : Dev nD) (p : Fin 4) (l : Fin 1024) (q : Fin 1280) :
    (V m c main_v2 (ix3 p l q) : EReal) = m ((c : Thread nD τ).loc main_arg1) (ix2 l ⟨p.val * 1280 + q.val, by omega⟩) := by
  entry_read
  pointwise

/-- The activations' block at a grid point. -/
theorem b0 (c : Dev nD) (t : Fin cfg0.N) (i l : Fin 1024) (r : Fin 16384) (hr : r.val = t.val / 12 * 1024 + i.val) :
    (iblk m c 0 t (ix2 i l) : EReal) = m ((c : Thread nD τ).loc main_arg0) (ix2 r l) := by
  have e := idx t
  blk_point [iblk, V, e, hr]

/-- The weight's block at a grid point. -/
theorem b1 (c : Dev nD) (t : Fin cfg0.N) (l : Fin 1024) (q : Fin 256) (j : Fin 5120)
    (hj : j.val = (t.val % 12 + 0) * 256 + q.val) :
    (iblk m c 1 t (ix3 0 l q) : EReal) = m ((c : Thread nD τ).loc main_arg1) (ix2 l j) := by
  have e := idx t
  have hq := q.isLt
  have hj' := j.isLt
  refine Eq.trans ?_ ((host_w m c ⟨(t.val % 12 + 0) / 5, by omega⟩ l ⟨(t.val % 12 + 0) % 5 * 256 + q.val, by omega⟩).trans ?_)
  · blk_ext [iblk, e]
  · exact congrArg (fun k => m ((c : Thread nD τ).loc main_arg1) (ix2 l k)) (Fin.ext (by
      show (t.val % 12 + 0) / 5 * 1280 + ((t.val % 12 + 0) % 5 * 256 + q.val) = j.val
      omega))

open Cert.QkvRefIdeal.Read in
/-- The reference's columns at an index. -/
theorem ref_at (u : FVec Ideal S16384x1024 .bf16) (w : FVec Ideal S1024x5120 .f32) (i : S16384x3072.Idx) :
    val_main_v3 (F := Ideal) u w i = proj u w (i 0) ⟨0 + (i 1).val, by have := (i 1).isLt; change (i 1).val < 3072 at this; omega⟩ := by
  pointwise [val_main_v3, val_main_v2, val_main_v1, val_main_v0, proj]

/-- The kernel's array after the run is the reference's. -/
theorem final (c : Dev nD) : (dats m 0 c).arrAt 2 cfg0.N
    = Cert.QkvRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  frame_out
  rw [pay1_at]
  refine Eq.trans ?_ (ref_at _ _ _).symm
  refine Finset.sum_congr (M := EReal) rfl fun l _ => congrArg₂ (fun a b : EReal => a * b) (b0 m c t _ l _ ?_) (b1 m c t l _ _ ?_)
  · blk_simp [e]
  · blk_simp [e]

end Cert.QkvIdeal.Val

end
-- ==== Proof.Gates.Value.lean ====
/- The forward projection onto the gates' arguments: what the run leaves in its array, and the reference's. -/
module

public import proofs.«01_k».proof.Proof.Gen.GatesIdeal.Frame
public import proofs.«01_k».proof.Proof.Gen.GatesRefIdeal.Read
public import Idealize.ShloMosaic.Lib.Pipeline.ValueKit
public import Idealize.ShloMosaic.Lib.Pointwise

@[expose] public section

set_option maxRecDepth 16384

noncomputable section

namespace Cert.GatesIdeal.Val

open Cert.GatesIdeal Cert.GatesIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The block each window holds at a grid point: the token tile is the point over eight, the column tile its remainder. -/
theorem idx : ∀ t : Fin cfg0.N, win0_0.index t = ![t.val / 8, 0]
    ∧ win0_1.index t = ![(t.val % 8 + 12) / 5, 0, (t.val % 8 + 12) % 5]
    ∧ win0_2.index t = ![t.val / 8, t.val % 8] :=
  (by decide +kernel : ∀ t : Fin grid0.N, _)

/-- The projection at token `r`, column `j`. -/
def proj (u : FVec Ideal S16384x1024 .bf16) (w : FVec Ideal S1024x5120 .f32) (r : Fin 16384) (j : Fin 5120) : EReal :=
  ∑ l : Fin 1024, u (ix2 r l) * w (ix2 l j)

/-- One tile's product. -/
theorem pay1_at (u : FVec Ideal S1024x1024 .bf16) (w : FVec Ideal S1x1024x256 .bf16) (j : S1024x256.Idx) :
    k0_pay1 (F := Ideal) u w j = ∑ k : Fin 1024, u (ix2 (j 0) k) * w (ix3 0 k (j 1)) := by
  pointwise [k0_pay1]

/-- The weight's four column panels, read at a panel, a row and a column of the panel. -/
theorem host_w (c : Dev nD) (p : Fin 4) (l : Fin 1024) (q : Fin 1280) :
    (V m c main_v2 (ix3 p l q) : EReal) = m ((c : Thread nD τ).loc main_arg1) (ix2 l ⟨p.val * 1280 + q.val, by omega⟩) := by
  entry_read
  pointwise

/-- The activations' block at a grid point. -/
theorem b0 (c : Dev nD) (t : Fin cfg0.N) (i l : Fin 1024) (r : Fin 16384) (hr : r.val = t.val / 8 * 1024 + i.val) :
    (iblk m c 0 t (ix2 i l) : EReal) = m ((c : Thread nD τ).loc main_arg0) (ix2 r l) := by
  have e := idx t
  blk_point [iblk, V, e, hr]

/-- The weight's block at a grid point. -/
theorem b1 (c : Dev nD) (t : Fin cfg0.N) (l : Fin 1024) (q : Fin 256) (j : Fin 5120)
    (hj : j.val = (t.val % 8 + 12) * 256 + q.val) :
    (iblk m c 1 t (ix3 0 l q) : EReal) = m ((c : Thread nD τ).loc main_arg1) (ix2 l j) := by
  have e := idx t
  have hq := q.isLt
  have hj' := j.isLt
  refine Eq.trans ?_ ((host_w m c ⟨(t.val % 8 + 12) / 5, by omega⟩ l ⟨(t.val % 8 + 12) % 5 * 256 + q.val, by omega⟩).trans ?_)
  · blk_ext [iblk, e]
  · exact congrArg (fun k => m ((c : Thread nD τ).loc main_arg1) (ix2 l k)) (Fin.ext (by
      show (t.val % 8 + 12) / 5 * 1280 + ((t.val % 8 + 12) % 5 * 256 + q.val) = j.val
      omega))

open Cert.GatesRefIdeal.Read in
/-- The reference's columns at an index. -/
theorem ref_at (u : FVec Ideal S16384x1024 .bf16) (w : FVec Ideal S1024x5120 .f32) (i : S16384x2048.Idx) :
    val_main_v2 (F := Ideal) u w i = proj u w (i 0) ⟨3072 + (i 1).val, by have := (i 1).isLt; change (i 1).val < 2048 at this; omega⟩ := by
  pointwise [val_main_v2, val_main_v1, val_main_v0, proj]

/-- The kernel's array after the run is the reference's. -/
theorem final (c : Dev nD) : (dats m 0 c).arrAt 2 cfg0.N
    = Cert.GatesRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have e := idx t
  blk_simp [e]
  rw [after0_2]
  frame_out
  rw [pay1_at]
  refine Eq.trans ?_ (ref_at _ _ _).symm
  refine Finset.sum_congr (M := EReal) rfl fun l _ => congrArg₂ (fun a b : EReal => a * b) (b0 m c t _ l _ ?_) (b1 m c t l _ _ ?_)
  · blk_simp [e]
  · blk_simp [e]
    show 3072 + (t.val % 8 * 256 + (y 1).val) = _
    omega

end Cert.GatesIdeal.Val

end
-- ==== Proof.Ffn.Spec.lean ====
/- The feed-forward sub-layer written with its arithmetic: every array its two passes leave, at a token and a channel. -/
module

public import proofs.«01_k».proof.Proof.Mix.Spec

@[expose] public section

set_option maxRecDepth 16384

noncomputable section

namespace Cert.Ffn.Spec

open Idealize.ShloMosaic Idealize.ShloMosaic.TcCoe
open Cert.Norm
open Cert.Mix.Spec (len eps alpha negHalf two len_eq eps_eq alpha_real negHalf_eq two_eq)
open scoped BigOperators

/-- The arrays the sub-layer reads in both passes. -/
structure Args where
  x : FVec Ideal ⟨2, ![16384, 1024]⟩ .f32
  md : FVec Ideal ⟨2, ![6, 1024]⟩ .f32
  ln : FVec Ideal ⟨2, ![4, 1024]⟩ .f32
  wg : FVec Ideal ⟨2, ![1024, 2816]⟩ .f32
  wu : FVec Ideal ⟨2, ![1024, 2816]⟩ .f32
  wd : FVec Ideal ⟨2, ![2816, 1024]⟩ .f32

variable (a : Args)

/-- The conditioned input. -/
def u (r : Fin 16384) (j : Fin 1024) : EReal := a.x (ix2 r j) * (1 + a.md (ix2 4 j)) + a.md (ix2 3 j)

/-- The gate's product. -/
def gate (r : Fin 16384) (h : Fin 2816) : EReal := ∑ l : Fin 1024, u a r l * a.wg (ix2 l h)

/-- The product the gate multiplies. -/
def up (r : Fin 16384) (h : Fin 2816) : EReal := ∑ l : Fin 1024, u a r l * a.wu (ix2 l h)

/-- The gate. -/
def silu (r : Fin 16384) (h : Fin 2816) : EReal := gate a r h * Ideal.logistic (gate a r h)

/-- The hidden activations. -/
def hid (r : Fin 16384) (h : Fin 2816) : EReal := silu a r h * up a r h

/-- The sub-layer's output. -/
def t (r : Fin 16384) (j : Fin 1024) : EReal := ∑ h : Fin 2816, hid a r h * a.wd (ix2 h j)

/-- The row the layer norm normalises. -/
def row (r : Fin 16384) (j : Fin 1024) : EReal := alpha * a.x (ix2 r j) + a.md (ix2 5 j) * t a r j

/-- The normalised row. -/
def xhat (r : Fin 16384) (j : Fin 1024) : EReal := hat (row a r) len eps j

/-- The reciprocal of the row's standard deviation. -/
def rs (r : Fin 16384) : EReal := rstd (row a r) len eps

/-- The layer's output. -/
def y (r : Fin 16384) (j : Fin 1024) : EReal := xhat a r j * a.ln (ix2 2 j) + a.ln (ix2 3 j)

/-- The next layer's conditioned input. -/
def next (mn : FVec Ideal ⟨2, ![6, 1024]⟩ .f32) (r : Fin 16384) (j : Fin 1024) : EReal :=
  y a r j * (1 + mn (ix2 1 j)) + mn (ix2 0 j)

/-- The hidden column a panel's column is. -/
def col (p : Fin 4) (q : Fin 704) : Fin 2816 := ⟨p.val * 704 + q.val, by omega⟩

end Cert.Ffn.Spec

end
-- ==== Proof.FfnFwd.Step.lean ====
/- What each grid point of the forward feed-forward pass reads, and what it leaves, written with its arithmetic. -/
module

public import proofs.«01_k».proof.Proof.Gen.FfnFwdIdeal.Frame
public import proofs.«01_k».proof.Proof.Ffn.Spec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FfnFwdIdeal.Val

open Cert.FfnFwdIdeal Cert.FfnFwdIdeal.Gen
open Idealize.ShloMosaic Idealize.ShloMosaic.TcCoe Idealize.SL.Sem
open Idealize.ShloMosaic.Pipeline (Dat)
open Cert.Ffn.Spec
open Cert.Mix.Spec (len eps alpha)
open scoped BigOperators

variable (m : (ℓ : Loc nD τ sig) → Buf (Elt Ideal) ℓ)

/-- The arrays a device starts with. -/
def args (c : Dev nD) : Args where
  x := m ((c : Thread nD τ).loc main_arg0)
  md := m ((c : Thread nD τ).loc main_arg1)
  ln := m ((c : Thread nD τ).loc main_arg3)
  wg := m ((c : Thread nD τ).loc main_arg4)
  wu := m ((c : Thread nD τ).loc main_arg5)
  wd := m ((c : Thread nD τ).loc main_arg6)

/-- The next layer's conditioning a device starts with. -/
def nxt (c : Dev nD) : FVec Ideal S6x1024 .f32 := m ((c : Thread nD τ).loc main_arg2)

/-- The block each window holds at a grid point: the token tile is the point over four, the hidden panel its remainder. -/
theorem idx : ∀ t : Fin cfg0.N, win0_0.index t = ![t.val / 4, 0] ∧ win0_1.index t = ![t.val / 4, 0] ∧ win0_2.index t = ![0, 0]
    ∧ win0_3.index t = ![0, 0] ∧ win0_4.index t = ![0, 0] ∧ win0_5.index t = ![t.val % 4, 0, 0] ∧ win0_6.index t = ![t.val % 4, 0, 0]
    ∧ win0_7.index t = ![t.val % 4, 0, 0] ∧ win0_8.index t = ![t.val % 4, t.val / 4, 0] ∧ win0_9.index t = ![t.val % 4, t.val / 4, 0]
    ∧ win0_10.index t = ![t.val / 4, 0] ∧ win0_11.index t = ![t.val / 4, 0] ∧ win0_12.index t = ![t.val / 4, 0]
    ∧ win0_13.index t = ![t.val / 4, 0] ∧ win0_14.index t = ![t.val / 4, 0] :=
  (by decide +kernel : ∀ t : Fin grid0.N, _)

/-- The token row a tile's row is. -/
def tok (t : Fin cfg0.N) (i : Fin 512) : Fin 16384 :=
  ⟨t.val / 4 * 512 + i.val, by have := t.isLt; have h : (cfg0.N : ℕ) = 128 := N_0; omega⟩

/-- The hidden panel of a grid point. -/
def pan (t : Fin cfg0.N) : Fin 4 := ⟨t.val % 4, by omega⟩

/-- One tile of an array given at a token and a channel. -/
def tile {w : ℕ} (f : Fin 16384 → Fin w → EReal) (t : Fin cfg0.N) (j : (⟨2, ![512, w]⟩ : Shape).Idx) : EReal := f (tok t (j 0)) (j 1)

/-- One tile of one panel of an array given at a token and a hidden column. -/
def htile (f : Fin 16384 → Fin 2816 → EReal) (t : Fin cfg0.N) (j : S512x704.Idx) : EReal := f (tok t (j 0)) (col (pan t) (j 1))

theorem host_u (c : Dev nD) (i : S16384x1024.Idx) : (V m c main_v8 i : EReal) = u (args m c) (i 0) (i 1) := by
  entry_read
  pointwise [u, args]

theorem host_md (c : Dev nD) (d : Fin 1024) : (V m c main_v10 (ix2 5 d) : EReal) = (args m c).md (ix2 5 d) := by
  entry_read
  pointwise
  rfl

theorem host_ln2 (c : Dev nD) (d : Fin 1024) : (V m c main_v12 (ix2 2 d) : EReal) = (args m c).ln (ix2 2 d) := by
  entry_read
  pointwise
  rfl

theorem host_ln3 (c : Dev nD) (d : Fin 1024) : (V m c main_v12 (ix2 3 d) : EReal) = (args m c).ln (ix2 3 d) := by
  entry_read
  pointwise
  rfl

theorem host_n0 (c : Dev nD) (d : Fin 1024) : (V m c main_v14 (ix2 0 d) : EReal) = nxt m c (ix2 0 d) := by
  entry_read
  pointwise
  rfl

theorem host_n1 (c : Dev nD) (d : Fin 1024) : (V m c main_v14 (ix2 1 d) : EReal) = nxt m c (ix2 1 d) := by
  entry_read
  pointwise
  rfl

theorem host_wg (c : Dev nD) (p : Fin 4) (l : Fin 1024) (q : Fin 704) :
    (V m c main_v17 (ix3 p l q) : EReal) = (args m c).wg (ix2 l (col p q)) := by
  entry_read
  pointwise
  rfl

theorem host_wu (c : Dev nD) (p : Fin 4) (l : Fin 1024) (q : Fin 704) :
    (V m c main_v20 (ix3 p l q) : EReal) = (args m c).wu (ix2 l (col p q)) := by
  entry_read
  pointwise
  rfl

theorem host_wd (c : Dev nD) (p : Fin 4) (q : Fin 704) (d : Fin 1024) :
    (V m c main_v22 (ix3 p q d) : EReal) = (args m c).wd (ix2 (col p q) d) := by
  entry_read
  pointwise
  rfl

theorem b0 (c : Dev nD) (t : Fin cfg0.N) : iblk m c 0 t = tile (u (args m c)) t := by
  funext j
  have e := idx t
  refine Eq.trans ?_ (host_u m c (ix2 (tok t (j 0)) (j 1)))
  blk_ext [iblk, e, tok]

theorem b1 (c : Dev nD) (t : Fin cfg0.N) : iblk m c 1 t = tile (fun r j => (args m c).x (ix2 r j)) t := by
  funext j
  have e := idx t
  blk_point [iblk, V, e, tile, tok, args]

theorem b2 (c : Dev nD) (t : Fin cfg0.N) (d : Fin 1024) : (iblk m c 2 t (ix2 5 d) : EReal) = (args m c).md (ix2 5 d) := by
  have e := idx t
  refine Eq.trans ?_ (host_md m c d)
  blk_ext [iblk, e]

theorem b3 (c : Dev nD) (t : Fin cfg0.N) (d : Fin 1024) : (iblk m c 3 t (ix2 2 d) : EReal) = (args m c).ln (ix2 2 d) := by
  have e := idx t
  refine Eq.trans ?_ (host_ln2 m c d)
  blk_ext [iblk, e]

theorem b3' (c : Dev nD) (t : Fin cfg0.N) (d : Fin 1024) : (iblk m c 3 t (ix2 3 d) : EReal) = (args m c).ln (ix2 3 d) := by
  have e := idx t
  refine Eq.trans ?_ (host_ln3 m c d)
  blk_ext [iblk, e]

theorem b4 (c : Dev nD) (t : Fin cfg0.N) (d : Fin 1024) : (iblk m c 4 t (ix2 0 d) : EReal) = nxt m c (ix2 0 d) := by
  have e := idx t
  refine Eq.trans ?_ (host_n0 m c d)
  blk_ext [iblk, e]

theorem b4' (c : Dev nD) (t : Fin cfg0.N) (d : Fin 1024) : (iblk m c 4 t (ix2 1 d) : EReal) = nxt m c (ix2 1 d) := by
  have e := idx t
  refine Eq.trans ?_ (host_n1 m c d)
  blk_ext [iblk, e]

theorem b5 (c : Dev nD) (t : Fin cfg0.N) (l : Fin 1024) (q : Fin 704) :
    (iblk m c 5 t (ix3 0 l q) : EReal) = (args m c).wg (ix2 l (col (pan t) q)) := by
  have e := idx t
  refine Eq.trans ?_ (host_wg m c (pan t) l q)
  blk_ext [iblk, e, pan]

theorem b6 (c : Dev nD) (t : Fin cfg0.N) (l : Fin 1024) (q : Fin 704) :
    (iblk m c 6 t (ix3 0 l q) : EReal) = (args m c).wu (ix2 l (col (pan t) q)) := by
  have e := idx t
  refine Eq.trans ?_ (host_wu m c (pan t) l q)
  blk_ext [iblk, e, pan]

theorem b7 (c : Dev nD) (t : Fin cfg0.N) (q : Fin 704) (d : Fin 1024) :
    (iblk m c 7 t (ix3 0 q d) : EReal) = (args m c).wd (ix2 (col (pan t) q) d) := by
  have e := idx t
  refine Eq.trans ?_ (host_wd m c (pan t) q d)
  blk_ext [iblk, e, pan]

/-- The gate's product on a tile. -/
theorem p10 (c : Dev nD) (t : Fin cfg0.N) : k0_pay10 (F := Ideal) (iblk m c 0 t) (iblk m c 5 t) = htile (gate (args m c)) t := by
  funext j
  pointwise [k0_pay10, k0_pay9, b0, b5, tile, htile, gate]

/-- The product the gate multiplies on a tile. -/
theorem p11 (c : Dev nD) (t : Fin cfg0.N) : k0_pay11 (F := Ideal) (iblk m c 0 t) (iblk m c 6 t) = htile (up (args m c)) t := by
  funext j
  pointwise [k0_pay11, k0_pay9, b0, b6, tile, htile, up]

/-- The cleared accumulator is zero. -/
theorem p8 (j : S512x1024.Idx) : k0_pay8 (F := Ideal) j = (0 : EReal) := by
  pointwise [k0_pay8]

/-- One panel's step adds the panel's part of the output. -/
theorem p14 (c : Dev nD) (t : Fin cfg0.N) (acc : FVec Ideal S512x1024 .f32) (j : S512x1024.Idx) :
    k0_pay14 (F := Ideal) (iblk m c 0 t) (iblk m c 5 t) (iblk m c 6 t) acc (iblk m c 7 t) j
      = acc j + ∑ q : Fin 704, hid (args m c) (tok t (j 0)) (col (pan t) q) * (args m c).wd (ix2 (col (pan t) q) (j 1)) := by
  pointwise [k0_pay14, p10, p11, b7, htile, hid, silu]

/-- What the accumulator holds after a tile's last panel: the whole output. -/
theorem acc_last (c : Dev nD) (t : Fin cfg0.N) (ht : t.val % 4 = 3) (j : S512x1024.Idx) :
    (outsAt0 m c t.val t.isLt).2.2.2.2.2.2.2 j = tile (Cert.Ffn.Spec.t (args m c)) t j := by
  rw [Pipeline.eq_sum_fin_of_reset_step_apply_of_flush (fun n h => (outsAt0 m c n h).2.2.2.2.2.2.2) 4 (fun _ => (0 : EReal)) _
    (fun t h j => by rw [outsAt0_A m c t h (by omega)]; frame_out; rw [p14, p8])
    (fun t h j => by
      by_cases h2 : t.val % 4 = 3
      · rw [outsAt0_C m c t h h2]; frame_out; rw [read_unread_whole, p14]
      · rw [outsAt0_B m c t h h2]; frame_out; rw [read_unread_whole, p14]) t ht j, zero_add]
  refine Fin.sum_mul_add_congr fun s k hl => ?_
  have h1 : tok ⟨_, Pipeline.run_point_lt_of_flush t ht s⟩ (j 0) = tok t (j 0) := Fin.ext (by simp only [tok]; omega)
  have h2 : col (pan ⟨_, Pipeline.run_point_lt_of_flush t ht s⟩) k = ⟨s.val * 704 + k.val, hl⟩ := Fin.ext (by simp only [col, pan]; omega)
  rw [h1, h2]

/-- The last panel's step finishes the output. -/
theorem acc_eq (c : Dev nD) (t : Fin cfg0.N) (ht : t.val % 4 = 3) :
    k0_pay14 (F := Ideal) (iblk m c 0 t) (iblk m c 5 t) (iblk m c 6 t)
        (outsAt0 m c (t.val - 1) (Nat.lt_of_le_of_lt (Nat.sub_le _ _) t.isLt)).2.2.2.2.2.2.2 (iblk m c 7 t) = tile (Cert.Ffn.Spec.t (args m c)) t := by
  funext j
  rw [← acc_last m c t ht j, outsAt0_C m c t (by omega) ht]; frame_out; rw [read_unread_whole]

/-- The row's distance from its mean on a tile. -/
theorem p3 (c : Dev nD) (t : Fin cfg0.N) (q) :
    k0_pay3 (F := Ideal) (tile (Cert.Ffn.Spec.t (args m c)) t) (iblk m c 1 t) (View.ld (iblk m c 2 t) (Rect.unit ![5, 0] ![1, 1024] q))
      = tile (fun r => Cert.Norm.dev (row (args m c) r) len) t := by
  funext j
  pointwise [k0_pay3, b1, b2, tile, row, Cert.Norm.dev, len, alpha]

/-- The reciprocal of the row's deviation on a tile. -/
theorem p4 (c : Dev nD) (t : Fin cfg0.N) (q) (j : S512x1.Idx) :
    k0_pay4 (F := Ideal) (tile (Cert.Ffn.Spec.t (args m c)) t) (iblk m c 1 t) (View.ld (iblk m c 2 t) (Rect.unit ![5, 0] ![1, 1024] q)) j
      = rs (args m c) (tok t (j 0)) := by
  pointwise [k0_pay4, p3, tile, rs, Cert.Norm.rstd, Cert.Norm.var, len, eps]

/-- The normalised row on a tile. -/
theorem p5 (c : Dev nD) (t : Fin cfg0.N) (q) :
    k0_pay5 (F := Ideal) (tile (Cert.Ffn.Spec.t (args m c)) t) (iblk m c 1 t) (View.ld (iblk m c 2 t) (Rect.unit ![5, 0] ![1, 1024] q))
      = tile (xhat (args m c)) t := by
  funext j
  pointwise [k0_pay5, p3, p4, tile, xhat, Cert.Norm.hat, rs]

/-- The layer's output on a tile. -/
theorem p6 (c : Dev nD) (t : Fin cfg0.N) (q q2 q3) :
    k0_pay6 (F := Ideal) (tile (Cert.Ffn.Spec.t (args m c)) t) (iblk m c 1 t) (View.ld (iblk m c 2 t) (Rect.unit ![5, 0] ![1, 1024] q))
        (View.ld (iblk m c 3 t) (Rect.unit ![2, 0] ![1, 1024] q2)) (View.ld (iblk m c 3 t) (Rect.unit ![3, 0] ![1, 1024] q3))
      = tile (y (args m c)) t := by
  funext j
  pointwise [k0_pay6, p5, b3, b3', tile, y]

/-- The next layer's conditioned input on a tile. -/
theorem p1 (c : Dev nD) (t : Fin cfg0.N) (q q2) :
    k0_pay1 (F := Ideal) (tile (y (args m c)) t)
        (View.ld (iblk m c 4 t) (Rect.unit ![1, 0] ![1, 1024] q)) (View.ld (iblk m c 4 t) (Rect.unit ![0, 0] ![1, 1024] q2))
      = tile (next (args m c) (nxt m c)) t := by
  funext j
  pointwise [k0_pay1, b4, b4', tile, next]

/-- The reciprocal deviations on a tile, repeated over the lanes. -/
theorem p7 (c : Dev nD) (t : Fin cfg0.N) (q) :
    k0_pay7 (F := Ideal) (tile (Cert.Ffn.Spec.t (args m c)) t) (iblk m c 1 t) (View.ld (iblk m c 2 t) (Rect.unit ![5, 0] ![1, 1024] q))
      = tile (w := 128) (fun r _ => rs (args m c) r) t := by
  funext j
  pointwise [k0_pay7, p4, tile]

end Cert.FfnFwdIdeal.Val

end
-- ==== Proof.FfnFwd.Ref.lean ====
/- The reference's forward results read at an index. -/
module

public import proofs.«01_k».proof.Proof.Gen.FfnFwdRefIdeal.Read
public import proofs.«01_k».proof.Proof.Ffn.Spec

@[expose] public section

set_option maxRecDepth 16384

noncomputable section

namespace Cert.FfnFwdRefIdeal.Val

open Cert.FfnFwdRefIdeal Cert.FfnFwdRefIdeal.Gen Cert.FfnFwdRefIdeal.Read
open Idealize.ShloMosaic Idealize.ShloMosaic.TcCoe Idealize.SL.Sem
open Cert.Ffn.Spec Cert.Norm
open Cert.Mix.Spec (len eps alpha)
open scoped BigOperators

variable (a : Args) (mn : FVec Ideal S6x1024 .f32)

theorem u_at (i : S16384x1024.Idx) : val_main_v8 (F := Ideal) a.x a.md i = u a (i 0) (i 1) := by
  pointwise [val_main_v8, val_main_v7, val_main_v6, val_main_v5, val_main_v4, val_main_v3, val_main_v1, val_main_v0, val_main_cst, u]

theorem gate_at (i : S16384x2816.Idx) : val_main_v9 (F := Ideal) a.x a.md a.wg i = gate a (i 0) (i 1) := by
  pointwise [val_main_v9, u_at, gate]

theorem up_at (i : S16384x2816.Idx) : val_main_v10 (F := Ideal) a.x a.md a.wu i = up a (i 0) (i 1) := by
  pointwise [val_main_v10, u_at, up]

theorem silu_at (i : S16384x2816.Idx) : val_main_v11 (F := Ideal) a.x a.md a.wg i = silu a (i 0) (i 1) := by
  pointwise [val_main_v11, val_main_call0_v5, val_main_call0_v4, val_main_call0_v3, val_main_call0_v2, val_main_call0_v1, val_main_call0_v0,
    val_main_call0_cst, val_main_call0_cst_0, gate_at, silu, Ideal.logistic]

theorem t_at (i : S16384x1024.Idx) : val_main_v13 (F := Ideal) a.x a.md a.wg a.wu a.wd i = t a (i 0) (i 1) := by
  pointwise [val_main_v13, val_main_v12, silu_at, up_at, t, hid]

theorem row_at (i : S16384x1024.Idx) : val_main_v18 (F := Ideal) a.x a.md a.wg a.wu a.wd i = row a (i 0) (i 1) := by
  pointwise [val_main_v18, val_main_v17, val_main_v16, val_main_v15, val_main_v14, val_main_v2, val_main_cst_0, t_at, row, alpha]

theorem dev_at (i : S16384x1024.Idx) : val_main_v34 (F := Ideal) a.x a.md a.wg a.wu a.wd i = dev (row a (i 0)) len (i 1) := by
  pointwise [val_main_v34, val_main_v33, val_main_v22, val_main_v21, val_main_v20, val_main_v19, val_main_cst_1, val_main_cst_2,
    row_at, dev, len]

theorem dev'_at (i : S16384x1024.Idx) : val_main_v24 (F := Ideal) a.x a.md a.wg a.wu a.wd i = dev (row a (i 0)) len (i 1) := dev_at a i

theorem rs_at (i : S16384x1.Idx) : val_main_v32 (F := Ideal) a.x a.md a.wg a.wu a.wd i = rs a (i 0) := by
  pointwise [val_main_v32, val_main_v31, val_main_v30, val_main_v29, val_main_v28, val_main_v27, val_main_v26, val_main_v25, val_main_cst_3,
    val_main_cst_4, val_main_cst_5, dev'_at, rs, rstd, var, len, eps]

/-- The normalised rows. -/
theorem xhat_at (i : S16384x1024.Idx) : val_main_v36 (F := Ideal) a.x a.md a.wg a.wu a.wd i = xhat a (i 0) (i 1) := by
  pointwise [val_main_v36, val_main_v35, dev_at, rs_at, xhat, hat, rs]

/-- The layer's output. -/
theorem y_at (i : S16384x1024.Idx) : val_main_v46 (F := Ideal) a.x a.md a.ln a.wg a.wu a.wd i = y a (i 0) (i 1) := by
  pointwise [val_main_v46, val_main_v45, val_main_v44, val_main_v43, val_main_v42, val_main_v41, val_main_v40, val_main_v39, val_main_v38,
    val_main_v37, xhat_at, y]

/-- The next layer's conditioned input. -/
theorem next_at (i : S16384x1024.Idx) : val_main_v61 (F := Ideal) a.x a.md mn a.ln a.wg a.wu a.wd i = next a mn (i 0) (i 1) := by
  pointwise [val_main_v61, val_main_v54, val_main_v53, val_main_v52, val_main_v51, val_main_v50, val_main_v49, val_main_v48, val_main_v47,
    val_main_cst_6, y_at, next]

/-- The gate's product, panel by panel. -/
theorem gateP_at (i : S4x16384x704.Idx) : val_main_v56 (F := Ideal) a.x a.md a.wg i = gate a (i 1) (col (i 0) (i 2)) := by
  pointwise [val_main_v56, val_main_v55, gate_at, col]

/-- The product the gate multiplies, panel by panel. -/
theorem upP_at (i : S4x16384x704.Idx) : val_main_v58 (F := Ideal) a.x a.md a.wu i = up a (i 1) (col (i 0) (i 2)) := by
  pointwise [val_main_v58, val_main_v57, up_at, col]

/-- The sub-layer's output. -/
theorem tP_at (i : S16384x1024.Idx) : val_main_v59 (F := Ideal) a.x a.md a.wg a.wu a.wd i = t a (i 0) (i 1) := by
  pointwise [val_main_v59, t_at]

/-- The reciprocal deviations, repeated over the lanes. -/
theorem rsP_at (i : S16384x128.Idx) : val_main_v60 (F := Ideal) a.x a.md a.wg a.wu a.wd i = rs a (i 0) := by
  pointwise [val_main_v60, rs_at]

end Cert.FfnFwdRefIdeal.Val

end
-- ==== Proof.FfnFwd.Final.lean ====
/- The arrays the forward feed-forward pass leaves, read off its grid points. -/
module

public import proofs.«01_k».proof.Proof.FfnFwd.Step
public import proofs.«01_k».proof.Proof.FfnFwd.Ref

@[expose] public section

set_option maxRecDepth 16384

noncomputable section

namespace Cert.FfnFwdIdeal.Val

open Cert.FfnFwdIdeal Cert.FfnFwdIdeal.Gen
open Idealize.ShloMosaic Idealize.ShloMosaic.TcCoe Idealize.SL.Sem
open Idealize.ShloMosaic.Pipeline (Dat)
open Cert.Ffn.Spec
open scoped BigOperators

variable (m : (ℓ : Loc nD τ sig) → Buf (Elt Ideal) ℓ)

/-- Every point leaves its tile of the gate's product. -/
theorem out8 (c : Dev nD) (t : Fin cfg0.N) (j : S1x512x704.Idx) :
    (outsAt0 m c t.val t.isLt).1 j = gate (args m c) (tok t (j 1)) (col (pan t) (j 2)) := by
  by_cases h0 : t.val % 4 = 0
  · rw [outsAt0_A m c t h0 (by omega)]; frame_out; pointwise [k0_pay12, p10, htile]
  · by_cases h1 : t.val % 4 = 3
    · rw [outsAt0_C m c t h0 h1]; frame_out; pointwise [k0_pay12, p10, htile]
    · rw [outsAt0_B m c t h0 h1]; frame_out; pointwise [k0_pay12, p10, htile]

/-- Every point leaves its tile of the product the gate multiplies. -/
theorem out9 (c : Dev nD) (t : Fin cfg0.N) (j : S1x512x704.Idx) :
    (outsAt0 m c t.val t.isLt).2.1 j = up (args m c) (tok t (j 1)) (col (pan t) (j 2)) := by
  by_cases h0 : t.val % 4 = 0
  · rw [outsAt0_A m c t h0 (by omega)]; frame_out; pointwise [k0_pay13, p11, htile]
  · by_cases h1 : t.val % 4 = 3
    · rw [outsAt0_C m c t h0 h1]; frame_out; pointwise [k0_pay13, p11, htile]
    · rw [outsAt0_B m c t h0 h1]; frame_out; pointwise [k0_pay13, p11, htile]

/-- The last panel's point leaves the sub-layer's output. -/
theorem out10 (c : Dev nD) (t : Fin cfg0.N) (ht : t.val % 4 = 3) :
    (outsAt0 m c t.val t.isLt).2.2.1 = tile (Cert.Ffn.Spec.t (args m c)) t := by
  funext j
  rw [outsAt0_C m c t (by omega) ht]; frame_out; rw [read_unread_whole, acc_eq m c t ht]
  pointwise [k0_pay2]

/-- It leaves the normalised rows. -/
theorem out11 (c : Dev nD) (t : Fin cfg0.N) (ht : t.val % 4 = 3) :
    (outsAt0 m c t.val t.isLt).2.2.2.1 = tile (xhat (args m c)) t := by
  funext j
  rw [outsAt0_C m c t (by omega) ht]; frame_out; rw [read_unread_whole, acc_eq m c t ht, p5]

/-- It leaves the reciprocal deviations. -/
theorem out12 (c : Dev nD) (t : Fin cfg0.N) (ht : t.val % 4 = 3) :
    (outsAt0 m c t.val t.isLt).2.2.2.2.1 = tile (w := 128) (fun r _ => rs (args m c) r) t := by
  funext j
  rw [outsAt0_C m c t (by omega) ht]; frame_out; rw [read_unread_whole, acc_eq m c t ht, p7]

/-- It leaves the layer's output. -/
theorem out13 (c : Dev nD) (t : Fin cfg0.N) (ht : t.val % 4 = 3) :
    (outsAt0 m c t.val t.isLt).2.2.2.2.2.1 = tile (y (args m c)) t := by
  funext j
  rw [outsAt0_C m c t (by omega) ht]; frame_out; rw [read_unread_whole, acc_eq m c t ht, p6]

/-- It leaves the next layer's conditioned input. -/
theorem out14 (c : Dev nD) (t : Fin cfg0.N) (ht : t.val % 4 = 3) :
    (outsAt0 m c t.val t.isLt).2.2.2.2.2.2.1 = tile (next (args m c) (nxt m c)) t := by
  funext j
  rw [outsAt0_C m c t (by omega) ht]; frame_out; rw [read_unread_whole, acc_eq m c t ht, p6, p1]

/-- The gate's product after the run is the reference's. -/
theorem final8 (c : Dev nD) : (dats m 0 c).arrAt 8 cfg0.N
    = Cert.FfnFwdRefIdeal.Read.val_main_v56 (F := Ideal) (args m c).x (args m c).md (args m c).wg := by
  refine (dats m 0 c).arrAt_eq_of_covers 8 _ (by decide +kernel) fun t hf y => ?_
  have e := idx t
  blk_simp [e]
  rw [after0_8, out8 m c t]
  refine Eq.trans ?_ (Cert.FfnFwdRefIdeal.Val.gateP_at (args m c) _).symm
  exact congrArg₂ (gate (args m c)) (Fin.ext (by blk_simp [e, tok])) (Fin.ext (by blk_simp [e, col, pan]))

/-- The product the gate multiplies after the run is the reference's. -/
theorem final9 (c : Dev nD) : (dats m 0 c).arrAt 9 cfg0.N
    = Cert.FfnFwdRefIdeal.Read.val_main_v58 (F := Ideal) (args m c).x (args m c).md (args m c).wu := by
  refine (dats m 0 c).arrAt_eq_of_covers 9 _ (by decide +kernel) fun t hf y => ?_
  have e := idx t
  blk_simp [e]
  rw [after0_9, out9 m c t]
  refine Eq.trans ?_ (Cert.FfnFwdRefIdeal.Val.upP_at (args m c) _).symm
  exact congrArg₂ (up (args m c)) (Fin.ext (by blk_simp [e, tok])) (Fin.ext (by blk_simp [e, col, pan]))

/-- The sub-layer's output after the run is the reference's. -/
theorem final10 (c : Dev nD) : (dats m 0 c).arrAt 10 cfg0.N
    = Cert.FfnFwdRefIdeal.Read.val_main_v59 (F := Ideal) (args m c).x (args m c).md (args m c).wg (args m c).wu (args m c).wd := by
  refine (dats m 0 c).arrAt_eq_of_covers 10 _ (by decide +kernel) fun t hf y => ?_
  have e := idx t
  have ht := (flush0_10 t).mp hf
  blk_simp [e]
  rw [after0_10, out10 m c t ht]
  refine Eq.trans ?_ (Cert.FfnFwdRefIdeal.Val.tP_at (args m c) _).symm
  exact congrArg₂ (Cert.Ffn.Spec.t (args m c)) (Fin.ext (by blk_simp [e, tok])) (Fin.ext (by blk_simp [e]))

/-- The array of normalised rows after the run is the reference's. -/
theorem final11 (c : Dev nD) : (dats m 0 c).arrAt 11 cfg0.N
    = Cert.FfnFwdRefIdeal.Read.val_main_v36 (F := Ideal) (args m c).x (args m c).md (args m c).wg (args m c).wu (args m c).wd := by
  refine (dats m 0 c).arrAt_eq_of_covers 11 _ (by decide +kernel) fun t hf y => ?_
  have e := idx t
  have ht := (flush0_11 t).mp hf
  blk_simp [e]
  rw [after0_11, out11 m c t ht]
  refine Eq.trans ?_ (Cert.FfnFwdRefIdeal.Val.xhat_at (args m c) _).symm
  exact congrArg₂ (xhat (args m c)) (Fin.ext (by blk_simp [e, tok])) (Fin.ext (by blk_simp [e]))

/-- The array of reciprocal deviations after the run is the reference's. -/
theorem final12 (c : Dev nD) : (dats m 0 c).arrAt 12 cfg0.N
    = Cert.FfnFwdRefIdeal.Read.val_main_v60 (F := Ideal) (args m c).x (args m c).md (args m c).wg (args m c).wu (args m c).wd := by
  refine (dats m 0 c).arrAt_eq_of_covers 12 _ (by decide +kernel) fun t hf y => ?_
  have e := idx t
  have ht := (flush0_12 t).mp hf
  blk_simp [e]
  rw [after0_12, out12 m c t ht]
  refine Eq.trans ?_ (Cert.FfnFwdRefIdeal.Val.rsP_at (args m c) _).symm
  exact congrArg (rs (args m c)) (Fin.ext (by blk_simp [e, tok]))

/-- The layer's output after the run is the reference's. -/
theorem final13 (c : Dev nD) : (dats m 0 c).arrAt 13 cfg0.N
    = Cert.FfnFwdRefIdeal.Read.val_main_v46 (F := Ideal) (args m c).x (args m c).md (args m c).ln (args m c).wg (args m c).wu (args m c).wd := by
  refine (dats m 0 c).arrAt_eq_of_covers 13 _ (by decide +kernel) fun t hf y => ?_
  have e := idx t
  have ht := (flush0_13 t).mp hf
  blk_simp [e]
  rw [after0_13, out13 m c t ht]
  refine Eq.trans ?_ (Cert.FfnFwdRefIdeal.Val.y_at (args m c) _).symm
  exact congrArg₂ (Cert.Ffn.Spec.y (args m c)) (Fin.ext (by blk_simp [e, tok])) (Fin.ext (by blk_simp [e]))

/-- The next layer's conditioned input after the run is the reference's. -/
theorem final14 (c : Dev nD) : (dats m 0 c).arrAt 14 cfg0.N
    = Cert.FfnFwdRefIdeal.Read.val_main_v61 (F := Ideal) (args m c).x (args m c).md (nxt m c) (args m c).ln (args m c).wg (args m c).wu (args m c).wd := by
  refine (dats m 0 c).arrAt_eq_of_covers 14 _ (by decide +kernel) fun t hf y => ?_
  have e := idx t
  have ht := (flush0_14 t).mp hf
  blk_simp [e]
  rw [after0_14, out14 m c t ht]
  refine Eq.trans ?_ (Cert.FfnFwdRefIdeal.Val.next_at (args m c) (nxt m c) _).symm
  exact congrArg₂ (next (args m c) (nxt m c)) (Fin.ext (by blk_simp [e, tok])) (Fin.ext (by blk_simp [e]))

end Cert.FfnFwdIdeal.Val

end
-- ==== Proof.Forward.Claims.lean ====
/- The claims about the forward products and the forward feed-forward pass. -/
module

public import proofs.«01_k».proof.Defs
public import proofs.«01_k».proof.Proof.Gen.Qkv.Frame
public import proofs.«01_k».proof.Proof.Gen.QkvIdeal.Value
public import proofs.«01_k».proof.Proof.Gen.QkvRefIdeal.Run
public import proofs.«01_k».proof.Proof.Qkv.Value
public import proofs.«01_k».proof.Proof.Gen.Gates.Frame
public import proofs.«01_k».proof.Proof.Gen.GatesIdeal.Value
public import proofs.«01_k».proof.Proof.Gen.GatesRefIdeal.Run
public import proofs.«01_k».proof.Proof.Gates.Value
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.FfnFwd.Final
public import Idealize.ShloMosaic.Lib.Claim

@[expose] public section

set_option maxRecDepth 16384

noncomputable section

open Idealize.ShloMosaic Idealize.SL.Sem Idealize.ShloMosaic.StableHlo

namespace Cert.Proof.Qkv

/-- The kernel over bits runs to its end and leaves its arguments as they were. -/
theorem frame_bits : Cert.quiescent_Qkv := fun m g _ => Cert.Qkv.Gen.frame m g

/-- So does the kernel over the extended reals. -/
theorem frame_ideal : Cert.quiescent_QkvIdeal := fun m g _ => Cert.QkvIdeal.Gen.frame m g

/-- So does the reference, which has no semaphore. -/
theorem frame_ref : Cert.quiescent_QkvRefIdeal := fun m g _ =>
  (θ_run Cert.QkvRefIdeal.defs _ _).mono (fun r h => ⟨fun c => (h c).2, sem_eq_zero_of_no_sems (by decide) r.2⟩)
    (Cert.QkvRefIdeal.Value.run (F := Ideal) m g)

open Cert.QkvRefIdeal.Read Cert.QkvIdeal.Value in
/-- The kernel's array is the product's columns: the queries, keys and values. -/
theorem value : Cert.algebraic_QkvIdeal_QkvRefIdeal := by
  intro m g m' g' _ ha
  refine ⟨_, (θ_run Cert.QkvIdeal.defs _ _).mono
      (fun r h c => ⟨(post2 m r h c).trans (Cert.QkvIdeal.Val.final m c), kept_main_arg0 m r h c, kept_main_arg1 m r h c⟩)
      (Cert.QkvIdeal.Gen.run_main m g),
    (θ_run Cert.QkvRefIdeal.defs _ _).mono (fun r h c => ⟨(h c).1.trans ?_, (h c).2⟩)
      (Cert.QkvRefIdeal.Value.run (F := Ideal) m' g')⟩
  obtain ⟨h0, h1⟩ := ha c
  rw [h0, h1]
  exact val_main_v3_eq _ _

end Cert.Proof.Qkv

namespace Cert.Proof.Gates

/-- The kernel over bits runs to its end and leaves its arguments as they were. -/
theorem frame_bits : Cert.quiescent_Gates := fun m g _ => Cert.Gates.Gen.frame m g

/-- So does the kernel over the extended reals. -/
theorem frame_ideal : Cert.quiescent_GatesIdeal := fun m g _ => Cert.GatesIdeal.Gen.frame m g

/-- So does the reference, which has no semaphore. -/
theorem frame_ref : Cert.quiescent_GatesRefIdeal := fun m g _ =>
  (θ_run Cert.GatesRefIdeal.defs _ _).mono (fun r h => ⟨fun c => (h c).2, sem_eq_zero_of_no_sems (by decide) r.2⟩)
    (Cert.GatesRefIdeal.Value.run (F := Ideal) m g)

open Cert.GatesRefIdeal.Read Cert.GatesIdeal.Value in
/-- The kernel's array is the product's columns: the gates' arguments. -/
theorem value : Cert.algebraic_GatesIdeal_GatesRefIdeal := by
  intro m g m' g' _ ha
  refine ⟨_, (θ_run Cert.GatesIdeal.defs _ _).mono
      (fun r h c => ⟨(post2 m r h c).trans (Cert.GatesIdeal.Val.final m c), kept_main_arg0 m r h c, kept_main_arg1 m r h c⟩)
      (Cert.GatesIdeal.Gen.run_main m g),
    (θ_run Cert.GatesRefIdeal.defs _ _).mono (fun r h c => ⟨(h c).1.trans ?_, (h c).2⟩)
      (Cert.GatesRefIdeal.Value.run (F := Ideal) m' g')⟩
  obtain ⟨h0, h1⟩ := ha c
  rw [h0, h1]
  exact val_main_v2_eq _ _

end Cert.Proof.Gates

namespace Cert.Proof.FfnFwd

/-- The kernel over bits runs to its end and leaves its arguments as they were. -/
theorem frame_bits : Cert.quiescent_FfnFwd := fun m g _ => Cert.FfnFwd.Gen.frame m g

/-- So does the kernel over the extended reals. -/
theorem frame_ideal : Cert.quiescent_FfnFwdIdeal := fun m g _ => Cert.FfnFwdIdeal.Gen.frame m g

/-- So does the reference: it is host operations alone, and has no semaphore. -/
theorem frame_ref : Cert.quiescent_FfnFwdRefIdeal := fun m g _ =>
  (θ_run Cert.FfnFwdRefIdeal.defs _ _).mono
    (fun r h => ⟨fun c => (h c).2.2.2.2.2.2.2, sem_eq_zero_of_no_sems (by decide) r.2⟩)
    (Cert.FfnFwdRefIdeal.Value.run (F := Ideal) m g)

open Cert.FfnFwdRefIdeal.Read Cert.FfnFwdIdeal.Value Cert.FfnFwdIdeal.Val in
/-- The kernel's seven arrays are the reference's: the feed-forward sub-layer, the layer norm after it and the next layer's conditioning. -/
theorem value : Cert.algebraic_FfnFwdIdeal_FfnFwdRefIdeal := by
  intro m g m' g' _ ha
  refine ⟨_, _, _, _, _, _, _, (θ_run Cert.FfnFwdIdeal.defs _ _).mono
      (fun r h c => ⟨(post8 m r h c).trans (Cert.FfnFwdIdeal.Val.final8 m c), (post9 m r h c).trans (Cert.FfnFwdIdeal.Val.final9 m c), (post10 m r h c).trans (Cert.FfnFwdIdeal.Val.final10 m c), (post11 m r h c).trans (Cert.FfnFwdIdeal.Val.final11 m c), (post12 m r h c).trans (Cert.FfnFwdIdeal.Val.final12 m c), (post13 m r h c).trans (Cert.FfnFwdIdeal.Val.final13 m c), (post14 m r h c).trans (Cert.FfnFwdIdeal.Val.final14 m c),
        kept_main_arg0 m r h c, kept_main_arg1 m r h c, kept_main_arg2 m r h c, kept_main_arg3 m r h c, kept_main_arg4 m r h c, kept_main_arg5 m r h c, kept_main_arg6 m r h c⟩)
      (Cert.FfnFwdIdeal.Gen.run_main m g),
    (θ_run Cert.FfnFwdRefIdeal.defs _ _).mono (fun r h c => by
      obtain ⟨r0, r1, r2, r3, r4, r5, r6, rk⟩ := h c
      refine ⟨r0.trans ((val_main_v56_eq _ _ _).trans ?_), r1.trans ((val_main_v58_eq _ _ _).trans ?_),
        r2.trans ((val_main_v59_eq _ _ _ _ _).trans ?_), r3.trans ((val_main_v36_eq m' c).trans ?_),
        r4.trans ((val_main_v60_eq m' c).trans ?_), r5.trans ((val_main_v46_eq m' c).trans ?_),
        r6.trans ((val_main_v61_eq m' c).trans ?_), rk⟩
      all_goals
        obtain ⟨h0, h1, h2, h3, h4, h5, h6⟩ := ha c
        simp only [args, nxt, ← h0, ← h1, ← h2, ← h3, ← h4, ← h5, ← h6])
      (Cert.FfnFwdRefIdeal.Value.run (F := Ideal) m' g')⟩

end Cert.Proof.FfnFwd

end
-- ==== Proof.MixOut.Spec.lean ====
/- The gated mix's forward pass written with its arithmetic: every array it leaves, at a token and a channel. -/
module

public import proofs.«01_k».proof.Proof.Mix.Spec

@[expose] public section

set_option maxRecDepth 16384

noncomputable section

namespace Cert.MixOut.Spec

open Idealize.ShloMosaic Idealize.ShloMosaic.TcCoe
open scoped BigOperators

/-- The arrays the pass reads: the first branch, the three groups of the second with their log-denominators, and the sub-layer's own. -/
structure Ins where
  ya : FVec Ideal ⟨2, ![16384, 512]⟩ .bf16
  o0 : FVec Ideal ⟨2, ![16384, 256]⟩ .f32
  o1 : FVec Ideal ⟨2, ![16384, 256]⟩ .f32
  o2 : FVec Ideal ⟨2, ![16384, 256]⟩ .f32
  l0 : FVec Ideal ⟨2, ![16384, 4]⟩ .f32
  l1 : FVec Ideal ⟨2, ![16384, 4]⟩ .f32
  l2 : FVec Ideal ⟨2, ![16384, 4]⟩ .f32
  gates : FVec Ideal ⟨2, ![16384, 2048]⟩ .f32
  x : FVec Ideal ⟨2, ![16384, 1024]⟩ .f32
  md : FVec Ideal ⟨2, ![6, 1024]⟩ .f32
  ln : FVec Ideal ⟨2, ![4, 1024]⟩ .f32
  wa : FVec Ideal ⟨2, ![512, 1024]⟩ .f32
  wb : FVec Ideal ⟨2, ![256, 1024]⟩ .f32
  wo : FVec Ideal ⟨2, ![1024, 1024]⟩ .f32

variable (s : Ins)

/-- The largest of the groups' log-denominators. -/
def top (r : Fin 16384) (h : Fin 4) : EReal := max (max (s.l0 (ix2 r h)) (s.l1 (ix2 r h))) (s.l2 (ix2 r h))

/-- A group's denominator next to the largest. -/
def e (l : FVec Ideal ⟨2, ![16384, 4]⟩ .f32) (r : Fin 16384) (h : Fin 4) : EReal := Ideal.exp (l (ix2 r h) - top s r h)

/-- The denominators' sum. -/
def den (r : Fin 16384) (h : Fin 4) : EReal := e s s.l0 r h + e s s.l1 r h + e s s.l2 r h

/-- The head a lane belongs to. -/
def head (q : Fin 256) : Fin 4 := ⟨q.val / 64, by omega⟩

/-- The second branch: the groups weighted by their denominators. -/
def yb (r : Fin 16384) (q : Fin 256) : EReal :=
  s.o0 (ix2 r q) * Ideal.div (e s s.l0 r (head q)) (den s r (head q))
    + s.o1 (ix2 r q) * Ideal.div (e s s.l1 r (head q)) (den s r (head q))
    + s.o2 (ix2 r q) * Ideal.div (e s s.l2 r (head q)) (den s r (head q))

/-- The arrays as the gated mix's arithmetic takes them; no cotangent enters the forward pass. -/
def mix : Cert.Mix.Spec.Args where
  dxm := fun _ => 0
  x := s.x
  gates := s.gates
  ya := s.ya
  yb := fun i => yb s (i 0) (i 1)
  md := s.md
  ln := s.ln
  wa := s.wa
  wb := s.wb
  wo := s.wo

/-- The layer's output. -/
def y (r : Fin 16384) (j : Fin 1024) : EReal := Cert.Mix.Spec.xhat (mix s) r j * s.ln (ix2 0 j) + s.ln (ix2 1 j)

/-- The feed-forward sub-layer's conditioned input. -/
def u (r : Fin 16384) (j : Fin 1024) : EReal := y s r j * (1 + s.md (ix2 4 j)) + s.md (ix2 3 j)

end Cert.MixOut.Spec

end
-- ==== Proof.MixOut.Step.lean ====
/- What each grid point of the gated mix's forward pass reads: the arrays its windows hold, as the arithmetic's. -/
module

public import proofs.«01_k».proof.Proof.Gen.MixOutIdeal.Frame
public import proofs.«01_k».proof.Proof.MixOut.Spec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MixOutIdeal.Val

open Cert.MixOutIdeal Cert.MixOutIdeal.Gen
open Idealize.ShloMosaic Idealize.ShloMosaic.TcCoe Idealize.SL.Sem
open Idealize.ShloMosaic.Pipeline (Dat)
open Cert.MixOut.Spec
open Cert.Mix.Spec (len eps alpha za zb ga gb merged t row xhat rs)
open scoped BigOperators

variable (m : (ℓ : Loc nD τ sig) → Buf (Elt Ideal) ℓ)

/-- The arrays a device starts with. -/
def ins (c : Dev nD) : Ins where
  ya := m ((c : Thread nD τ).loc main_arg0)
  o0 := m ((c : Thread nD τ).loc main_arg1)
  o1 := m ((c : Thread nD τ).loc main_arg2)
  o2 := m ((c : Thread nD τ).loc main_arg3)
  l0 := m ((c : Thread nD τ).loc main_arg4)
  l1 := m ((c : Thread nD τ).loc main_arg5)
  l2 := m ((c : Thread nD τ).loc main_arg6)
  gates := m ((c : Thread nD τ).loc main_arg7)
  x := m ((c : Thread nD τ).loc main_arg8)
  md := m ((c : Thread nD τ).loc main_arg9)
  ln := m ((c : Thread nD τ).loc main_arg10)
  wa := m ((c : Thread nD τ).loc main_arg11)
  wb := m ((c : Thread nD τ).loc main_arg12)
  wo := m ((c : Thread nD τ).loc main_arg13)

/-- The block each window holds at a grid point: a token window the point's tile, any other the one block it has. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0, 0]
    ∧ win0_12.index t = ![0, 0, 0] ∧ win0_13.index t = ![0, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0] :=
  (by decide +kernel : ∀ t : Fin grid0.N, _)

/-- The token row a tile's row is. -/
def tok (t : Fin cfg0.N) (i : Fin 256) : Fin 16384 := ⟨t.val * 256 + i.val, by have := t.isLt; have h : (cfg0.N : ℕ) = 64 := N_0; omega⟩

/-- One tile of an array given at a token and a channel. -/
def tile {w : ℕ} (f : Fin 16384 → Fin w → EReal) (t : Fin cfg0.N) (j : (⟨2, ![256, w]⟩ : Shape).Idx) : EReal := f (tok t (j 0)) (j 1)

/-- A group's log-denominators, each head's repeated over its lanes. -/
theorem host_l0 (c : Dev nD) (i : S16384x256.Idx) : (V m c main_v2 i : EReal) = (ins m c).l0 (ix2 (i 0) (head (i 1))) := by
  entry_read
  pointwise
  rfl

/-- A group's log-denominators, each head's repeated over its lanes. -/
theorem host_l1 (c : Dev nD) (i : S16384x256.Idx) : (V m c main_v5 i : EReal) = (ins m c).l1 (ix2 (i 0) (head (i 1))) := by
  entry_read
  pointwise
  rfl

/-- A group's log-denominators, each head's repeated over its lanes. -/
theorem host_l2 (c : Dev nD) (i : S16384x256.Idx) : (V m c main_v8 i : EReal) = (ins m c).l2 (ix2 (i 0) (head (i 1))) := by
  entry_read
  pointwise
  rfl

/-- Row 2 of the conditioning, after the rows are padded. -/
theorem host_md2 (c : Dev nD) (d : Fin 1024) : (V m c main_v10 (ix2 2 d) : EReal) = (ins m c).md (ix2 2 d) := by
  entry_read
  pointwise
  rfl

/-- Row 3 of the conditioning, after the rows are padded. -/
theorem host_md3 (c : Dev nD) (d : Fin 1024) : (V m c main_v10 (ix2 3 d) : EReal) = (ins m c).md (ix2 3 d) := by
  entry_read
  pointwise
  rfl

/-- Row 4 of the conditioning, after the rows are padded. -/
theorem host_md4 (c : Dev nD) (d : Fin 1024) : (V m c main_v10 (ix2 4 d) : EReal) = (ins m c).md (ix2 4 d) := by
  entry_read
  pointwise
  rfl

/-- Row 0 of the norm's rows, after they are padded. -/
theorem host_ln0 (c : Dev nD) (d : Fin 1024) : (V m c main_v12 (ix2 0 d) : EReal) = (ins m c).ln (ix2 0 d) := by
  entry_read
  pointwise
  rfl

/-- Row 1 of the norm's rows, after they are padded. -/
theorem host_ln1 (c : Dev nD) (d : Fin 1024) : (V m c main_v12 (ix2 1 d) : EReal) = (ins m c).ln (ix2 1 d) := by
  entry_read
  pointwise
  rfl

/-- The first branch's weight, cut into four panels. -/
theorem host_wa (c : Dev nD) (p : Fin 4) (l : Fin 512) (d : Fin 256) :
    (V m c main_v15 (ix3 p l d) : EReal) = (ins m c).wa (ix2 l ⟨p.val * 256 + d.val, by omega⟩) := by
  entry_read
  pointwise
  rfl

/-- The second branch's weight, cut into four panels. -/
theorem host_wb (c : Dev nD) (p : Fin 4) (l : Fin 256) (d : Fin 256) :
    (V m c main_v18 (ix3 p l d) : EReal) = (ins m c).wb (ix2 l ⟨p.val * 256 + d.val, by omega⟩) := by
  entry_read
  pointwise
  rfl

/-- The output weight. -/
theorem host_wo (c : Dev nD) (i : S1024x1024.Idx) : (V m c main_v19 i : EReal) = (ins m c).wo i := by
  entry_read
  pointwise
  rfl

/-- The first branch's tile. -/
theorem b0 (c : Dev nD) (t : Fin cfg0.N) : iblk m c 0 t = tile (fun r j => (ins m c).ya (ix2 r j)) t := by
  funext j
  have e := idx t
  blk_point [iblk, V, e, tile, tok, ins]

/-- The first group's tile. -/
theorem b1 (c : Dev nD) (t : Fin cfg0.N) : iblk m c 1 t = tile (fun r j => (ins m c).o0 (ix2 r j)) t := by
  funext j
  have e := idx t
  blk_point [iblk, V, e, tile, tok, ins]

/-- The second group's tile. -/
theorem b2 (c : Dev nD) (t : Fin cfg0.N) : iblk m c 2 t = tile (fun r j => (ins m c).o1 (ix2 r j)) t := by
  funext j
  have e := idx t
  blk_point [iblk, V, e, tile, tok, ins]

/-- The third group's tile. -/
theorem b3 (c : Dev nD) (t : Fin cfg0.N) : iblk m c 3 t = tile (fun r j => (ins m c).o2 (ix2 r j)) t := by
  funext j
  have e := idx t
  blk_point [iblk, V, e, tile, tok, ins]

/-- The layer's input's tile. -/
theorem b8 (c : Dev nD) (t : Fin cfg0.N) : iblk m c 8 t = tile (fun r j => (ins m c).x (ix2 r j)) t := by
  funext j
  have e := idx t
  blk_point [iblk, V, e, tile, tok, ins]

/-- The first group's log-denominators' tile. -/
theorem b4 (c : Dev nD) (t : Fin cfg0.N) : iblk m c 4 t = tile (fun r q => (ins m c).l0 (ix2 r (head q))) t := by
  funext j
  have e := idx t
  refine Eq.trans ?_ (host_l0 m c (ix2 (tok t (j 0)) (j 1)))
  blk_ext [iblk, e, tok]

/-- The second group's. -/
theorem b5 (c : Dev nD) (t : Fin cfg0.N) : iblk m c 5 t = tile (fun r q => (ins m c).l1 (ix2 r (head q))) t := by
  funext j
  have e := idx t
  refine Eq.trans ?_ (host_l1 m c (ix2 (tok t (j 0)) (j 1)))
  blk_ext [iblk, e, tok]

/-- The third group's. -/
theorem b6 (c : Dev nD) (t : Fin cfg0.N) : iblk m c 6 t = tile (fun r q => (ins m c).l2 (ix2 r (head q))) t := by
  funext j
  have e := idx t
  refine Eq.trans ?_ (host_l2 m c (ix2 (tok t (j 0)) (j 1)))
  blk_ext [iblk, e, tok]

/-- The gates' arguments' tile. -/
theorem b7 (c : Dev nD) (t : Fin cfg0.N) (i : Fin 256) (l : Fin 2048) :
    (iblk m c 7 t (ix2 i l) : EReal) = (ins m c).gates (ix2 (tok t i) l) := by
  have e := idx t
  blk_point [iblk, V, e, tok, ins]

/-- The conditioning's row that gates the sub-layer. -/
theorem b9_2 (c : Dev nD) (t : Fin cfg0.N) (d : Fin 1024) : (iblk m c 9 t (ix2 2 d) : EReal) = (ins m c).md (ix2 2 d) := by
  have e := idx t
  refine Eq.trans ?_ (host_md2 m c d)
  blk_ext [iblk, e]

/-- The conditioning's shift. -/
theorem b9_3 (c : Dev nD) (t : Fin cfg0.N) (d : Fin 1024) : (iblk m c 9 t (ix2 3 d) : EReal) = (ins m c).md (ix2 3 d) := by
  have e := idx t
  refine Eq.trans ?_ (host_md3 m c d)
  blk_ext [iblk, e]

/-- The conditioning's scale. -/
theorem b9_4 (c : Dev nD) (t : Fin cfg0.N) (d : Fin 1024) : (iblk m c 9 t (ix2 4 d) : EReal) = (ins m c).md (ix2 4 d) := by
  have e := idx t
  refine Eq.trans ?_ (host_md4 m c d)
  blk_ext [iblk, e]

/-- The norm's scale. -/
theorem b10_0 (c : Dev nD) (t : Fin cfg0.N) (d : Fin 1024) : (iblk m c 10 t (ix2 0 d) : EReal) = (ins m c).ln (ix2 0 d) := by
  have e := idx t
  refine Eq.trans ?_ (host_ln0 m c d)
  blk_ext [iblk, e]

/-- The norm's shift. -/
theorem b10_1 (c : Dev nD) (t : Fin cfg0.N) (d : Fin 1024) : (iblk m c 10 t (ix2 1 d) : EReal) = (ins m c).ln (ix2 1 d) := by
  have e := idx t
  refine Eq.trans ?_ (host_ln1 m c d)
  blk_ext [iblk, e]

/-- The first branch's weight's panels. -/
theorem b11 (c : Dev nD) (t : Fin cfg0.N) (p : Fin 4) (l : Fin 512) (d : Fin 256) (k : Fin 1024) (hk : k.val = p.val * 256 + d.val) :
    (iblk m c 11 t (ix3 p l d) : EReal) = (ins m c).wa (ix2 l k) := by
  have e := idx t
  rw [show k = ⟨p.val * 256 + d.val, by omega⟩ from Fin.ext hk]
  refine Eq.trans ?_ (host_wa m c p l d)
  blk_ext [iblk, e]

/-- The second branch's weight's panels. -/
theorem b12 (c : Dev nD) (t : Fin cfg0.N) (p : Fin 4) (l : Fin 256) (d : Fin 256) (k : Fin 1024) (hk : k.val = p.val * 256 + d.val) :
    (iblk m c 12 t (ix3 p l d) : EReal) = (ins m c).wb (ix2 l k) := by
  have e := idx t
  rw [show k = ⟨p.val * 256 + d.val, by omega⟩ from Fin.ext hk]
  refine Eq.trans ?_ (host_wb m c p l d)
  blk_ext [iblk, e]

/-- The output weight's block. -/
theorem b13 (c : Dev nD) (t : Fin cfg0.N) (j : S1024x1024.Idx) : (iblk m c 13 t j : EReal) = (ins m c).wo j := by
  have e := idx t
  refine Eq.trans ?_ (host_wo m c j)
  blk_ext [iblk, e]

/-- The gated mix has the layer's input, -/
theorem mix_x (a : Ins) : (mix a).x = a.x := rfl

/-- the conditioning, -/
theorem mix_md (a : Ins) : (mix a).md = a.md := rfl

/-- the output weight -/
theorem mix_wo (a : Ins) : (mix a).wo = a.wo := rfl

/-- and the gates' arguments of the call. -/
theorem mix_gates (a : Ins) : (mix a).gates = a.gates := rfl

end Cert.MixOutIdeal.Val

end
-- ==== Proof.MixOut.Tile.lean ====
/- What each grid point of the gated mix's forward pass leaves, as a tile of the arithmetic's arrays. -/
module

public import proofs.«01_k».proof.Proof.MixOut.Step

@[expose] public section

set_option maxRecDepth 16384

noncomputable section

namespace Cert.MixOutIdeal.Val

open Cert.MixOutIdeal Cert.MixOutIdeal.Gen
open Idealize.ShloMosaic Idealize.ShloMosaic.TcCoe Idealize.SL.Sem
open Idealize.ShloMosaic.Pipeline (Dat)
open Cert.MixOut.Spec
open Cert.Mix.Spec (len eps alpha za zb ga gb merged t row xhat rs)
open scoped BigOperators

variable (m : (ℓ : Loc nD τ sig) → Buf (Elt Ideal) ℓ)

/-- The groups weighted by their denominators, on a tile. -/
theorem p3 (c : Dev nD) (t : Fin cfg0.N) :
    k0_pay3 (F := Ideal) (iblk m c 4 t) (iblk m c 5 t) (iblk m c 6 t) (iblk m c 1 t) (iblk m c 2 t) (iblk m c 3 t) = tile (yb (ins m c)) t := by
  funext j
  pointwise [k0_pay3, b1, b2, b3, b4, b5, b6, tile, yb, den, e, top]

/-- A panel of a branch's product is the product's columns. -/
theorem za_panel (c : Dev nD) (t : Fin cfg0.N) (j : S256x1024.Idx) (p : Fin 4) (d : Fin 256) (h : (j 1).val = p.val * 256 + d.val) :
    ∑ x : Fin 512, (ins m c).ya (ix2 (tok t (j 0)) x) * (iblk m c 11 t (ix3 p x d) : EReal) = za (mix (ins m c)) (tok t (j 0)) (j 1) :=
  Finset.sum_congr rfl fun l _ => congrArg (_ * ·) (b11 m c t p l d (j 1) h)

/-- A panel of a branch's product is the product's columns. -/
theorem zb_panel (c : Dev nD) (t : Fin cfg0.N) (j : S256x1024.Idx) (p : Fin 4) (d : Fin 256) (h : (j 1).val = p.val * 256 + d.val) :
    ∑ x : Fin 256, yb (ins m c) (tok t (j 0)) x * (iblk m c 12 t (ix3 p x d) : EReal) = zb (mix (ins m c)) (tok t (j 0)) (j 1) :=
  Finset.sum_congr rfl fun l _ => congrArg (_ * ·) (b12 m c t p l d (j 1) h)

/-- Four blocks side by side, each the columns of one row's function: the function at the column. -/
theorem side (z : EReal) (k : ℕ) (hk : k < 1024) (f : (p : Fin 4) → (d : Fin 256) → EReal) (h : ∀ p d, k = p.val * 256 + d.val → f p d = z) :
    (if c0 : k < 256 then f 0 ⟨k, c0⟩ else if c1 : k - 256 < 256 then f 1 ⟨k - 256, c1⟩
      else if c2 : k - 256 - 256 < 256 then f 2 ⟨k - 256 - 256, c2⟩ else f 3 ⟨k - 256 - 256 - 256, by omega⟩) = z := by
  by_cases c0 : k < 256
  · rw [dif_pos c0]
    exact h 0 ⟨k, c0⟩ (Nat.zero_add _).symm
  rw [dif_neg c0]
  by_cases c1 : k - 256 < 256
  · rw [dif_pos c1]
    exact h 1 ⟨k - 256, c1⟩ (show k = 1 * 256 + (k - 256) by omega)
  rw [dif_neg c1]
  by_cases c2 : k - 256 - 256 < 256
  · rw [dif_pos c2]
    exact h 2 ⟨k - 256 - 256, c2⟩ (show k = 2 * 256 + (k - 256 - 256) by omega)
  rw [dif_neg c2]
  exact h 3 ⟨k - 256 - 256 - 256, by omega⟩ (show k = 3 * 256 + (k - 256 - 256 - 256) by omega)

/-- The gated mix on a tile. -/
theorem p6 (c : Dev nD) (t : Fin cfg0.N) (a0 a1 a2 a3 b0 b1 b2 b3 qa qb) :
    k0_pay6 (F := Ideal) (tile (yb (ins m c)) t) (iblk m c 0 t) (k0_pay4 (iblk m c 0 t) (View.ld (iblk m c 11 t) (Rect.unit ![0, 0, 0] ![1, 512, 256] a0)))
        (k0_pay5 (View.ld (iblk m c 11 t) (Rect.unit ![1, 0, 0] ![1, 512, 256] a1))) (View.ld (iblk m c 11 t) (Rect.unit ![2, 0, 0] ![1, 512, 256] a2))
        (View.ld (iblk m c 11 t) (Rect.unit ![3, 0, 0] ![1, 512, 256] a3)) (View.ld (iblk m c 12 t) (Rect.unit ![0, 0, 0] ![1, 256, 256] b0))
        (View.ld (iblk m c 12 t) (Rect.unit ![1, 0, 0] ![1, 256, 256] b1)) (View.ld (iblk m c 12 t) (Rect.unit ![2, 0, 0] ![1, 256, 256] b2))
        (View.ld (iblk m c 12 t) (Rect.unit ![3, 0, 0] ![1, 256, 256] b3)) (View.ld (iblk m c 7 t) (Rect.unit ![0, 0] ![256, 1024] qa))
        (View.ld (iblk m c 7 t) (Rect.unit ![0, 1024] ![256, 1024] qb)) = tile (merged (mix (ins m c))) t := by
  funext j
  have hj : (j 1).val < 1024 := (j 1).isLt
  pointwise [k0_pay6, k0_pay5, k0_pay4, Val.b0, b7, tile, merged, ga, gb, mix_gates, Ideal.logistic]
  refine congrArg₂ (fun a b : EReal => a + b) (congrArg₂ (fun a b : EReal => a * b) rfl ?_) (congrArg₂ (fun a b : EReal => a * b) rfl ?_)
  · exact side (za (mix (ins m c)) (tok t (j 0)) (j 1)) (j 1).val hj
      (fun p d => ∑ x : Fin 512, (ins m c).ya (ix2 (tok t (j 0)) x) * (iblk m c 11 t (ix3 p x d) : EReal)) (za_panel m c t j)
  · exact side (zb (mix (ins m c)) (tok t (j 0)) (j 1)) (j 1).val hj
      (fun p d => ∑ x : Fin 256, yb (ins m c) (tok t (j 0)) x * (iblk m c 12 t (ix3 p x d) : EReal)) (zb_panel m c t j)

/-- The projected mix on a tile. -/
theorem p7 (c : Dev nD) (t : Fin cfg0.N) : k0_pay7 (F := Ideal) (tile (merged (mix (ins m c))) t) (iblk m c 13 t) = tile (Cert.Mix.Spec.t (mix (ins m c))) t := by
  funext j
  pointwise [k0_pay7, b13, tile, Cert.Mix.Spec.t, mix_wo]

/-- It is saved as it is. -/
theorem p8 (c : Dev nD) (t : Fin cfg0.N) : k0_pay8 (F := Ideal) (tile (merged (mix (ins m c))) t) (iblk m c 13 t) = tile (Cert.Mix.Spec.t (mix (ins m c))) t := by
  funext j
  pointwise [k0_pay8, p7]

/-- The row's distance from its mean on a tile. -/
theorem p9 (c : Dev nD) (t : Fin cfg0.N) (q) :
    k0_pay9 (F := Ideal) (tile (merged (mix (ins m c))) t) (iblk m c 13 t) (iblk m c 8 t) (View.ld (iblk m c 9 t) (Rect.unit ![2, 0] ![1, 1024] q))
      = tile (fun r => Cert.Norm.dev (row (mix (ins m c)) r) len) t := by
  funext j
  pointwise [k0_pay9, p7, b8, b9_2, tile, row, Cert.Norm.dev, len, alpha, mix_x, mix_md]

/-- The reciprocal of the row's deviation on a tile. -/
theorem p10 (c : Dev nD) (t : Fin cfg0.N) (q) (j : S256x1.Idx) :
    k0_pay10 (F := Ideal) (tile (merged (mix (ins m c))) t) (iblk m c 13 t) (iblk m c 8 t) (View.ld (iblk m c 9 t) (Rect.unit ![2, 0] ![1, 1024] q)) j
      = rs (mix (ins m c)) (tok t (j 0)) := by
  pointwise [k0_pay10, p9, tile, rs, Cert.Norm.rstd, Cert.Norm.var, len, eps]

/-- The normalised row on a tile. -/
theorem p11 (c : Dev nD) (t : Fin cfg0.N) (q) :
    k0_pay11 (F := Ideal) (tile (merged (mix (ins m c))) t) (iblk m c 13 t) (iblk m c 8 t) (View.ld (iblk m c 9 t) (Rect.unit ![2, 0] ![1, 1024] q)) = tile (xhat (mix (ins m c))) t := by
  funext j
  pointwise [k0_pay11, p9, p10, tile, xhat, Cert.Norm.hat, rs]

/-- The layer's output on a tile. -/
theorem p12 (c : Dev nD) (t : Fin cfg0.N) (q q0 q1) :
    k0_pay12 (F := Ideal) (tile (merged (mix (ins m c))) t) (iblk m c 13 t) (iblk m c 8 t) (View.ld (iblk m c 9 t) (Rect.unit ![2, 0] ![1, 1024] q))
        (View.ld (iblk m c 10 t) (Rect.unit ![0, 0] ![1, 1024] q0)) (View.ld (iblk m c 10 t) (Rect.unit ![1, 0] ![1, 1024] q1))
      = tile (y (ins m c)) t := by
  funext j
  pointwise [k0_pay12, p11, b10_0, b10_1, tile, y]

/-- The reciprocal deviations on a tile, repeated over the lanes. -/
theorem p1 (c : Dev nD) (t : Fin cfg0.N) (q) :
    k0_pay1 (F := Ideal) (k0_pay13 (tile (merged (mix (ins m c))) t) (iblk m c 13 t) (iblk m c 8 t) (View.ld (iblk m c 9 t) (Rect.unit ![2, 0] ![1, 1024] q))) = tile (w := 128) (fun r _ => rs (mix (ins m c)) r) t := by
  funext j
  pointwise [k0_pay1, k0_pay13, p10, tile]

/-- The feed-forward sub-layer's conditioned input on a tile. -/
theorem p2 (c : Dev nD) (t : Fin cfg0.N) (q4 q3) :
    k0_pay2 (F := Ideal) (tile (y (ins m c)) t)
        (View.ld (iblk m c 9 t) (Rect.unit ![4, 0] ![1, 1024] q4)) (View.ld (iblk m c 9 t) (Rect.unit ![3, 0] ![1, 1024] q3))
      = tile (u (ins m c)) t := by
  funext j
  pointwise [k0_pay2, b9_3, b9_4, tile, u]

end Cert.MixOutIdeal.Val

end
-- ==== Proof.MixOut.Leave.lean ====
/- The tiles a grid point of the gated mix's forward pass leaves. -/
module

public import proofs.«01_k».proof.Proof.MixOut.Tile
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MixOutIdeal.Val

open Cert.MixOutIdeal Cert.MixOutIdeal.Gen
open Idealize.ShloMosaic Idealize.ShloMosaic.TcCoe Idealize.SL.Sem
open Idealize.ShloMosaic.Pipeline (Dat)
open Cert.MixOut.Spec
open Cert.Mix.Spec (len eps alpha za zb ga gb merged t row xhat rs)
open scoped BigOperators

variable (m : (ℓ : Loc nD τ sig) → Buf (Elt Ideal) ℓ)

/-- The gated mix of a point's blocks. -/
theorem p14 (c : Dev nD) (t : Fin cfg0.N) : k0_pay14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = tile (merged (mix (ins m c))) t := by
  funext j
  unfold k0_pay14
  frame_out
  rw [p3, p6]

/-- The layer's output of a point's blocks. -/
theorem p15 (c : Dev nD) (t : Fin cfg0.N) : k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = tile (y (ins m c)) t := by
  funext j
  unfold k0_pay15
  frame_out
  rw [p14, p12]

/-- The layer's output a point leaves. -/
theorem out14 (c : Dev nD) (t : Fin cfg0.N) : (dats m 0 c).after 14 t = tile (y (ins m c)) t := by
  funext j
  rw [after0_14]
  frame_out
  rw [p15]

/-- The normalised rows a point leaves. -/
theorem out15 (c : Dev nD) (t : Fin cfg0.N) : (dats m 0 c).after 15 t = tile (xhat (mix (ins m c))) t := by
  funext j
  rw [after0_15]
  frame_out
  rw [p14, p11]

/-- The reciprocal deviations a point leaves. -/
theorem out16 (c : Dev nD) (t : Fin cfg0.N) : (dats m 0 c).after 16 t = tile (w := 128) (fun r _ => rs (mix (ins m c)) r) t := by
  funext j
  rw [after0_16]
  frame_out
  rw [p14, p1]

/-- The feed-forward sub-layer's conditioned input a point leaves. -/
theorem out17 (c : Dev nD) (t : Fin cfg0.N) : (dats m 0 c).after 17 t = tile (u (ins m c)) t := by
  funext j
  rw [after0_17]
  frame_out
  rw [p15, p2]

/-- The projected mix a point leaves. -/
theorem out18 (c : Dev nD) (t : Fin cfg0.N) : (dats m 0 c).after 18 t = tile (Cert.Mix.Spec.t (mix (ins m c))) t := by
  funext j
  rw [after0_18]
  frame_out
  rw [p14, p8]

/-- The second branch a point leaves. -/
theorem out19 (c : Dev nD) (t : Fin cfg0.N) : (dats m 0 c).after 19 t = tile (yb (ins m c)) t := by
  funext j
  rw [after0_19]
  frame_out
  rw [p3]

end Cert.MixOutIdeal.Val

end
-- ==== Proof.MixOut.Groups.lean ====
/- The groups' weights and outputs of the reference read at an index. -/
module

public import proofs.«01_k».proof.Proof.Gen.MixOutRefIdeal.Read
public import proofs.«01_k».proof.Proof.MixOut.Spec

@[expose] public section

set_option maxRecDepth 16384

noncomputable section

namespace Cert.MixOutRefIdeal.Val

open Cert.MixOutRefIdeal Cert.MixOutRefIdeal.Gen Cert.MixOutRefIdeal.Read
open Idealize.ShloMosaic Idealize.ShloMosaic.TcCoe Idealize.SL.Sem
open Cert.MixOut.Spec Cert.Norm
open Cert.Mix.Spec (len eps alpha za zb ga gb merged t row xhat rs)
open scoped BigOperators

variable (s : Ins)

/-- The value the reference folds the maximum from is minus infinity. -/
theorem bot_eq : (Ideal.ofBits FTy.f32 0xFF800000#32 : EReal) = ⊥ := by
  simp [Ideal.ofBits, Ideal.ieee]

/-- The largest log-denominator: the reference folds the three of them from minus infinity. -/
theorem top_at (i : S16384x4.Idx) : val_main_v11 (F := Ideal) s.l0 s.l1 s.l2 i = top s (i 0) (i 1) := by
  pointwise [val_main_v11, val_main_v10, val_main_v9, val_main_v8, val_main_v7, val_main_v6, val_main_v5, val_main_cst, val_main_cst_0]
  rw [bot_eq, show (Finset.univ : Finset (Fin 3)) = {0, 1, 2} from rfl, Finset.fold_insert (by decide), Finset.fold_insert (by decide),
    Finset.fold_singleton]
  simp only [top, ix2_eta, bot_sup_eq, sup_bot_eq, max_bot_left, max_bot_right]
  exact (max_assoc _ _ _).symm

/-- One of three arrays stacked, read at its place: the first, -/
theorem pick0 (a b c : EReal) : (if h : ((0 : Fin 3) : ℕ) < 1 then a else if h : ((0 : Fin 3) : ℕ) - 1 < 1 then b else c) = a := dif_pos (by decide)

/-- the second, -/
theorem pick1 (a b c : EReal) : (if h : ((1 : Fin 3) : ℕ) < 1 then a else if h : ((1 : Fin 3) : ℕ) - 1 < 1 then b else c) = b :=
  (dif_neg (by decide)).trans (dif_pos (by decide))

/-- the third. -/
theorem pick2 (a b c : EReal) : (if h : ((2 : Fin 3) : ℕ) < 1 then a else if h : ((2 : Fin 3) : ℕ) - 1 < 1 then b else c) = c :=
  (dif_neg (by decide)).trans (dif_neg (by decide))

/-- The denominators' sum. -/
theorem den_at (i : S16384x4.Idx) : val_main_v16 (F := Ideal) s.l0 s.l1 s.l2 i = den s (i 0) (i 1) := by
  pointwise [val_main_v16, val_main_v15, val_main_v14, val_main_v13, val_main_v12, val_main_v8, val_main_v7, val_main_v6, val_main_v5, val_main_cst_1, top_at]
  rw [Fin.sum_univ_three, pick0, pick1, pick2]
  simp only [den, e, ix2_eta]

/-- The lane of a head's coordinate. -/
def lane (h : Fin 4) (d : Fin 64) : Fin 256 := ⟨h.val * 64 + d.val, by omega⟩

/-- A group's output, the groups stacked. -/
theorem outs_at (i : S3x16384x4x64.Idx) : (val_main_v24 (F := Ideal) s.o0 s.o1 s.o2 i : EReal)
    = if h : (i 0).val < 1 then s.o0 (ix2 (i 1) (lane (i 2) (i 3)))
      else if h : (i 0).val - 1 < 1 then s.o1 (ix2 (i 1) (lane (i 2) (i 3)))
      else s.o2 (ix2 (i 1) (lane (i 2) (i 3))) := by
  pointwise [val_main_v24, val_main_v23, val_main_v22, val_main_v21, val_main_v20]
  rfl

/-- A group's weight, the groups stacked. -/
theorem weight_at (i : S3x16384x4.Idx) : (val_main_v19 (F := Ideal) s.l0 s.l1 s.l2 i : EReal)
    = Ideal.div (if h : (i 0).val < 1 then e s s.l0 (i 1) (i 2) else if h : (i 0).val - 1 < 1 then e s s.l1 (i 1) (i 2) else e s s.l2 (i 1) (i 2))
      (den s (i 1) (i 2)) := by
  pointwise [val_main_v19, val_main_v18, val_main_v17, val_main_v15, val_main_v14, val_main_v13, val_main_v12, val_main_v8, val_main_v7, val_main_v6,
    val_main_v5, top_at, den_at]
  split_ifs <;> rfl

/-- A lane is its head's coordinate. -/
theorem lane_head (l : Fin 256) (h : l.val / 64 < 4) (h' : l.val % 64 < 64) : lane ⟨l.val / 64, h⟩ ⟨l.val % 64, h'⟩ = l :=
  Fin.ext (Nat.div_add_mod' l.val 64)

end Cert.MixOutRefIdeal.Val

end
-- ==== Proof.MixOut.Heads.lean ====
/- The reference's second branch read at an index. -/
module

public import proofs.«01_k».proof.Proof.Gen.MixOutRefIdeal.Read
public import proofs.«01_k».proof.Proof.MixOut.Groups

@[expose] public section

set_option maxRecDepth 16384

noncomputable section

namespace Cert.MixOutRefIdeal.Val

open Cert.MixOutRefIdeal Cert.MixOutRefIdeal.Gen Cert.MixOutRefIdeal.Read
open Idealize.ShloMosaic Idealize.ShloMosaic.TcCoe Idealize.SL.Sem
open Cert.MixOut.Spec Cert.Norm
open Cert.Mix.Spec (len eps alpha za zb ga gb merged t row xhat rs)
open scoped BigOperators

variable (s : Ins)

/-- The product of two extended reals. -/
theorem mul_at (a b : EReal) : (FloatOps.mulf (F := Ideal) (φ := .f32) a b : EReal) = a * b := rfl

/-- Where a group's weight is read, when it is repeated over a head's coordinates. -/
theorem idx_weight (i : S3x16384x4x64.Idx) : idx_main_v25 (idx_main_v26 i) = ix3 (i 0) (i 1) (i 2) :=
  funext fun a => match a with
    | ⟨0, _⟩ => rfl
    | ⟨1, _⟩ => rfl
    | ⟨2, _⟩ => rfl

/-- A group's weight, repeated over a head's coordinates. -/
theorem weights_at (i : S3x16384x4x64.Idx) : (val_main_v26 (F := Ideal) s.l0 s.l1 s.l2 i : EReal)
    = Ideal.div (if h : (i 0).val < 1 then e s s.l0 (i 1) (i 2) else if h : (i 0).val - 1 < 1 then e s s.l1 (i 1) (i 2) else e s s.l2 (i 1) (i 2))
        (den s (i 1) (i 2)) := by
  rw [val_main_v26_apply, val_main_v25_apply, idx_weight]
  exact weight_at s _

/-- A group's output times its weight. -/
theorem part_at (i : S3x16384x4x64.Idx) : (val_main_v27 (F := Ideal) s.o0 s.o1 s.o2 s.l0 s.l1 s.l2 i : EReal)
    = (if h : (i 0).val < 1 then s.o0 (ix2 (i 1) (lane (i 2) (i 3))) else if h : (i 0).val - 1 < 1 then s.o1 (ix2 (i 1) (lane (i 2) (i 3)))
        else s.o2 (ix2 (i 1) (lane (i 2) (i 3))))
      * Ideal.div (if h : (i 0).val < 1 then e s s.l0 (i 1) (i 2) else if h : (i 0).val - 1 < 1 then e s s.l1 (i 1) (i 2) else e s s.l2 (i 1) (i 2))
        (den s (i 1) (i 2)) := by
  rw [val_main_v27_apply, mul_at, outs_at, weights_at]

/-- The first group's. -/
theorem part0 (i : S3x16384x4x64.Idx) (h : (i 0).val < 1) : (val_main_v27 (F := Ideal) s.o0 s.o1 s.o2 s.l0 s.l1 s.l2 i : EReal)
    = s.o0 (ix2 (i 1) (lane (i 2) (i 3))) * Ideal.div (e s s.l0 (i 1) (i 2)) (den s (i 1) (i 2)) :=
  (part_at s i).trans (by rw [dif_pos h, dif_pos h])

/-- The second group's. -/
theorem part1 (i : S3x16384x4x64.Idx) (h : ¬ (i 0).val < 1) (h1 : (i 0).val - 1 < 1) : (val_main_v27 (F := Ideal) s.o0 s.o1 s.o2 s.l0 s.l1 s.l2 i : EReal)
    = s.o1 (ix2 (i 1) (lane (i 2) (i 3))) * Ideal.div (e s s.l1 (i 1) (i 2)) (den s (i 1) (i 2)) :=
  (part_at s i).trans (by rw [dif_neg h, dif_neg h, dif_pos h1, dif_pos h1])

/-- The third group's. -/
theorem part2 (i : S3x16384x4x64.Idx) (h : ¬ (i 0).val < 1) (h1 : ¬ (i 0).val - 1 < 1) : (val_main_v27 (F := Ideal) s.o0 s.o1 s.o2 s.l0 s.l1 s.l2 i : EReal)
    = s.o2 (ix2 (i 1) (lane (i 2) (i 3))) * Ideal.div (e s s.l2 (i 1) (i 2)) (den s (i 1) (i 2)) :=
  (part_at s i).trans (by rw [dif_neg h, dif_neg h, dif_neg h1, dif_neg h1])

/-- The value the reference sums from is zero. -/
theorem zero_at (i : S_.Idx) : (val_main_cst_2 (F := Ideal) i : EReal) = 0 := by
  pointwise [val_main_cst_2]

/-- The groups' weighted outputs added up, a head at a time. -/
theorem heads_at (i : S16384x4x64.Idx) : (val_main_v28 (F := Ideal) s.o0 s.o1 s.o2 s.l0 s.l1 s.l2 i : EReal)
    = s.o0 (ix2 (i 0) (lane (i 1) (i 2))) * Ideal.div (e s s.l0 (i 0) (i 1)) (den s (i 0) (i 1))
      + s.o1 (ix2 (i 0) (lane (i 1) (i 2))) * Ideal.div (e s s.l1 (i 0) (i 1)) (den s (i 0) (i 1))
      + s.o2 (ix2 (i 0) (lane (i 1) (i 2))) * Ideal.div (e s s.l2 (i 0) (i 1)) (den s (i 0) (i 1)) :=
  (val_main_v28_apply s.o0 s.o1 s.o2 s.l0 s.l1 s.l2 i).trans ((congrArg (fun a : EReal => a + _) (zero_at _)).trans ((zero_add _).trans ((Fin.sum_univ_three _).trans
    (congrArg₂ (fun a b : EReal => a + b) (congrArg₂ (fun a b : EReal => a + b)
      (part0 s (idx_main_v28 i 0) (show ((0 : Fin 3) : ℕ) < 1 by decide))
      (part1 s (idx_main_v28 i 1) (show ¬ ((1 : Fin 3) : ℕ) < 1 by decide) (show ((1 : Fin 3) : ℕ) - 1 < 1 by decide)))
      (part2 s (idx_main_v28 i 2) (show ¬ ((2 : Fin 3) : ℕ) < 1 by decide) (show ¬ ((2 : Fin 3) : ℕ) - 1 < 1 by decide))))))

/-- The second branch from its heads. -/
theorem lanes_at (r r' : Fin 16384) (l : Fin 256) (h : Fin 4) (d : Fin 64) (e0 : r' = r) (e1 : h = head l) (e2 : lane h d = l) :
    s.o0 (ix2 r' (lane h d)) * Ideal.div (e s s.l0 r' h) (den s r' h)
      + s.o1 (ix2 r' (lane h d)) * Ideal.div (e s s.l1 r' h) (den s r' h)
      + s.o2 (ix2 r' (lane h d)) * Ideal.div (e s s.l2 r' h) (den s r' h) = yb s r l := by
  rw [e2, e0, e1]
  rfl

/-- The second branch. -/
theorem yb_at (i : S16384x256.Idx) : val_main_v29 (F := Ideal) s.o0 s.o1 s.o2 s.l0 s.l1 s.l2 i = yb s (i 0) (i 1) := by
  have h0 : (i 0).val < 16384 := (i 0).isLt
  have h1 : (i 1).val < 256 := (i 1).isLt
  have p0 : idx_main_v29 i 0 = i 0 := Fin.ext (show ((i 0).val * 256 + (i 1).val) / 256 = (i 0).val by omega)
  have p1 : idx_main_v29 i 1 = head (i 1) := Fin.ext (show ((i 0).val * 256 + (i 1).val) / 64 % 4 = (i 1).val / 64 by omega)
  have p2 : lane (idx_main_v29 i 1) (idx_main_v29 i 2) = i 1 :=
    Fin.ext (show (((i 0).val * 256 + (i 1).val) / 64 % 4) * 64 + ((i 0).val * 256 + (i 1).val) % 64 = (i 1).val by omega)
  rw [val_main_v29_apply, heads_at]
  generalize idx_main_v29 i = k at *
  exact lanes_at s (i 0) (k 0) (i 1) (k 1) (k 2) p0 p1 p2

end Cert.MixOutRefIdeal.Val

end
-- ==== Proof.MixOut.Ref.lean ====
/- The reference's results read at an index. -/
module

public import proofs.«01_k».proof.Proof.Gen.MixOutRefIdeal.Read
public import proofs.«01_k».proof.Proof.MixOut.Heads

@[expose] public section

set_option maxRecDepth 16384

noncomputable section

namespace Cert.MixOutRefIdeal.Val

open Cert.MixOutRefIdeal Cert.MixOutRefIdeal.Gen Cert.MixOutRefIdeal.Read
open Idealize.ShloMosaic Idealize.ShloMosaic.TcCoe Idealize.SL.Sem
open Cert.MixOut.Spec Cert.Norm
open Cert.Mix.Spec (len eps alpha za zb ga gb merged t row xhat rs)
open scoped BigOperators

variable (s : Ins)

/-- The projected mix. -/
theorem t_at (i : S16384x1024.Idx) : val_main_v48 (F := Ideal) s.ya s.o0 s.o1 s.o2 s.l0 s.l1 s.l2 s.gates s.wa s.wb s.wo i = t (mix s) (i 0) (i 1) := by
  pointwise [val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v3, val_main_v4,
    val_main_cst_3, val_main_cst_4, val_main_cst_5, val_main_cst_6, yb_at, t, merged, ga, gb, za, zb, mix, Ideal.logistic]

/-- The residual's rows. -/
theorem row_at (i : S16384x1024.Idx) : val_main_v53 (F := Ideal) s.ya s.o0 s.o1 s.o2 s.l0 s.l1 s.l2 s.gates s.x s.md s.wa s.wb s.wo i = row (mix s) (i 0) (i 1) := by
  pointwise [val_main_v53, val_main_v52, val_main_v51, val_main_v50, val_main_v49, val_main_v2, val_main_cst_7, t_at, row, alpha, mix]

/-- A row's deviations from its mean. -/
theorem dev_at (i : S16384x1024.Idx) : val_main_v69 (F := Ideal) s.ya s.o0 s.o1 s.o2 s.l0 s.l1 s.l2 s.gates s.x s.md s.wa s.wb s.wo i = dev (row (mix s) (i 0)) len (i 1) := by
  pointwise [val_main_v69, val_main_v68, val_main_v57, val_main_v56, val_main_v55, val_main_v54, val_main_cst_8, val_main_cst_9, row_at, dev, len]

/-- The same deviations, where the variance reads them. -/
theorem dev'_at (i : S16384x1024.Idx) : val_main_v59 (F := Ideal) s.ya s.o0 s.o1 s.o2 s.l0 s.l1 s.l2 s.gates s.x s.md s.wa s.wb s.wo i = dev (row (mix s) (i 0)) len (i 1) := dev_at s i

/-- The reciprocal deviations. -/
theorem rs_at (i : S16384x1.Idx) : val_main_v67 (F := Ideal) s.ya s.o0 s.o1 s.o2 s.l0 s.l1 s.l2 s.gates s.x s.md s.wa s.wb s.wo i = rs (mix s) (i 0) := by
  pointwise [val_main_v67, val_main_v66, val_main_v65, val_main_v64, val_main_v63, val_main_v62, val_main_v61, val_main_v60, val_main_cst_10,
    val_main_cst_11, val_main_cst_12, dev'_at, rs, rstd, var, len, eps]

/-- The normalised rows. -/
theorem xhat_at (i : S16384x1024.Idx) : val_main_v71 (F := Ideal) s.ya s.o0 s.o1 s.o2 s.l0 s.l1 s.l2 s.gates s.x s.md s.wa s.wb s.wo i = xhat (mix s) (i 0) (i 1) := by
  pointwise [val_main_v71, val_main_v70, dev_at, rs_at, xhat, hat, rs]

/-- The layer's output. -/
theorem y_at (i : S16384x1024.Idx) : val_main_v81 (F := Ideal) s.ya s.o0 s.o1 s.o2 s.l0 s.l1 s.l2 s.gates s.x s.md s.ln s.wa s.wb s.wo i = y s (i 0) (i 1) := by
  pointwise [val_main_v81, val_main_v80, val_main_v79, val_main_v78, val_main_v77, val_main_v76, val_main_v75, val_main_v74, val_main_v73,
    val_main_v72, xhat_at, y]

/-- The feed-forward sub-layer's conditioned input. -/
theorem u_at (i : S16384x1024.Idx) : val_main_v89 (F := Ideal) s.ya s.o0 s.o1 s.o2 s.l0 s.l1 s.l2 s.gates s.x s.md s.ln s.wa s.wb s.wo i = u s (i 0) (i 1) := by
  pointwise [val_main_v89, val_main_v87, val_main_v86, val_main_v85, val_main_v84, val_main_v83, val_main_v82, val_main_v1, val_main_v0,
    val_main_cst_13, y_at, u]

/-- The reciprocal deviations, repeated over the lanes. -/
theorem rsP_at (i : S16384x128.Idx) : val_main_v88 (F := Ideal) s.ya s.o0 s.o1 s.o2 s.l0 s.l1 s.l2 s.gates s.x s.md s.wa s.wb s.wo i = rs (mix s) (i 0) := by
  pointwise [val_main_v88, rs_at]

/-- The projected mix. -/
theorem tP_at (i : S16384x1024.Idx) : val_main_v90 (F := Ideal) s.ya s.o0 s.o1 s.o2 s.l0 s.l1 s.l2 s.gates s.wa s.wb s.wo i = t (mix s) (i 0) (i 1) := by
  pointwise [val_main_v90, t_at]

/-- The second branch, as it is saved. -/
theorem ybP_at (i : S16384x256.Idx) : val_main_v91 (F := Ideal) s.o0 s.o1 s.o2 s.l0 s.l1 s.l2 i = yb s (i 0) (i 1) := by
  pointwise [val_main_v91, yb_at]

end Cert.MixOutRefIdeal.Val

end
-- ==== Proof.MixOut.Final.lean ====
/- What the gated mix's forward pass leaves in its six arrays after the run: the reference's. -/
module

public import proofs.«01_k».proof.Proof.MixOut.Leave
public import proofs.«01_k».proof.Proof.MixOut.Ref
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MixOutIdeal.Val

open Cert.MixOutIdeal Cert.MixOutIdeal.Gen
open Idealize.ShloMosaic Idealize.ShloMosaic.TcCoe Idealize.SL.Sem
open Idealize.ShloMosaic.Pipeline (Dat)
open Cert.MixOut.Spec
open Cert.Mix.Spec (len eps alpha za zb ga gb merged t row xhat rs)
open scoped BigOperators

variable (m : (ℓ : Loc nD τ sig) → Buf (Elt Ideal) ℓ)

/-- The array of the layer's output after the run is the reference's. -/
theorem final14 (c : Dev nD) : (dats m 0 c).arrAt 14 cfg0.N
    = Cert.MixOutRefIdeal.Read.val_main_v81 (F := Ideal) (ins m c).ya (ins m c).o0 (ins m c).o1 (ins m c).o2 (ins m c).l0 (ins m c).l1 (ins m c).l2 (ins m c).gates (ins m c).x (ins m c).md (ins m c).ln (ins m c).wa (ins m c).wb (ins m c).wo := by
  refine (dats m 0 c).arrAt_eq_of_covers 14 _ (by decide +kernel) fun t hf q => ?_
  have e := idx t
  rw [out14 m c t]
  blk_simp [e]
  refine Eq.trans ?_ (Cert.MixOutRefIdeal.Val.y_at (ins m c) _).symm
  exact congrArg₂ (y (ins m c)) (Fin.ext (by blk_simp [e, tok])) (Fin.ext (by blk_simp [e]))

/-- The array of the normalised rows after the run is the reference's. -/
theorem final15 (c : Dev nD) : (dats m 0 c).arrAt 15 cfg0.N
    = Cert.MixOutRefIdeal.Read.val_main_v71 (F := Ideal) (ins m c).ya (ins m c).o0 (ins m c).o1 (ins m c).o2 (ins m c).l0 (ins m c).l1 (ins m c).l2 (ins m c).gates (ins m c).x (ins m c).md (ins m c).wa (ins m c).wb (ins m c).wo := by
  refine (dats m 0 c).arrAt_eq_of_covers 15 _ (by decide +kernel) fun t hf q => ?_
  have e := idx t
  rw [out15 m c t]
  blk_simp [e]
  refine Eq.trans ?_ (Cert.MixOutRefIdeal.Val.xhat_at (ins m c) _).symm
  exact congrArg₂ (xhat (mix (ins m c))) (Fin.ext (by blk_simp [e, tok])) (Fin.ext (by blk_simp [e]))

/-- The array of the reciprocal deviations after the run is the reference's. -/
theorem final16 (c : Dev nD) : (dats m 0 c).arrAt 16 cfg0.N
    = Cert.MixOutRefIdeal.Read.val_main_v88 (F := Ideal) (ins m c).ya (ins m c).o0 (ins m c).o1 (ins m c).o2 (ins m c).l0 (ins m c).l1 (ins m c).l2 (ins m c).gates (ins m c).x (ins m c).md (ins m c).wa (ins m c).wb (ins m c).wo := by
  refine (dats m 0 c).arrAt_eq_of_covers 16 _ (by decide +kernel) fun t hf q => ?_
  have e := idx t
  rw [out16 m c t]
  blk_simp [e]
  refine Eq.trans ?_ (Cert.MixOutRefIdeal.Val.rsP_at (ins m c) _).symm
  exact congrArg (rs (mix (ins m c))) (Fin.ext (by blk_simp [e, tok]))

/-- The array of the feed-forward sub-layer's conditioned input after the run is the reference's. -/
theorem final17 (c : Dev nD) : (dats m 0 c).arrAt 17 cfg0.N
    = Cert.MixOutRefIdeal.Read.val_main_v89 (F := Ideal) (ins m c).ya (ins m c).o0 (ins m c).o1 (ins m c).o2 (ins m c).l0 (ins m c).l1 (ins m c).l2 (ins m c).gates (ins m c).x (ins m c).md (ins m c).ln (ins m c).wa (ins m c).wb (ins m c).wo := by
  refine (dats m 0 c).arrAt_eq_of_covers 17 _ (by decide +kernel) fun t hf q => ?_
  have e := idx t
  rw [out17 m c t]
  blk_simp [e]
  refine Eq.trans ?_ (Cert.MixOutRefIdeal.Val.u_at (ins m c) _).symm
  exact congrArg₂ (u (ins m c)) (Fin.ext (by blk_simp [e, tok])) (Fin.ext (by blk_simp [e]))

/-- The array of the projected mix after the run is the reference's. -/
theorem final18 (c : Dev nD) : (dats m 0 c).arrAt 18 cfg0.N
    = Cert.MixOutRefIdeal.Read.val_main_v90 (F := Ideal) (ins m c).ya (ins m c).o0 (ins m c).o1 (ins m c).o2 (ins m c).l0 (ins m c).l1 (ins m c).l2 (ins m c).gates (ins m c).wa (ins m c).wb (ins m c).wo := by
  refine (dats m 0 c).arrAt_eq_of_covers 18 _ (by decide +kernel) fun t hf q => ?_
  have e := idx t
  rw [out18 m c t]
  blk_simp [e]
  refine Eq.trans ?_ (Cert.MixOutRefIdeal.Val.tP_at (ins m c) _).symm
  exact congrArg₂ (Cert.Mix.Spec.t (mix (ins m c))) (Fin.ext (by blk_simp [e, tok])) (Fin.ext (by blk_simp [e]))

/-- The array of the second branch after the run is the reference's. -/
theorem final19 (c : Dev nD) : (dats m 0 c).arrAt 19 cfg0.N
    = Cert.MixOutRefIdeal.Read.val_main_v91 (F := Ideal) (ins m c).o0 (ins m c).o1 (ins m c).o2 (ins m c).l0 (ins m c).l1 (ins m c).l2 := by
  refine (dats m 0 c).arrAt_eq_of_covers 19 _ (by decide +kernel) fun t hf q => ?_
  have e := idx t
  rw [out19 m c t]
  blk_simp [e]
  refine Eq.trans ?_ (Cert.MixOutRefIdeal.Val.ybP_at (ins m c) _).symm
  exact congrArg₂ (yb (ins m c)) (Fin.ext (by blk_simp [e, tok])) (Fin.ext (by blk_simp [e]))

end Cert.MixOutIdeal.Val

end
-- ==== Proof.MixOut.Claims.lean ====
/- The claims about the gated mix's forward pass. -/
module

public import proofs.«01_k».proof.Defs
public import proofs.«01_k».proof.Proof.Gen.MixOut.Frame
public import proofs.«01_k».proof.Proof.Gen.MixOutIdeal.Frame
public import proofs.«01_k».proof.Proof.Gen.MixOutRefIdeal.Run
public import proofs.«01_k».proof.Proof.MixOut.Final
public import Idealize.ShloMosaic.Lib.Claim

@[expose] public section

set_option maxRecDepth 16384

noncomputable section

namespace Cert.MixOutIdeal.Val

open Cert.MixOutIdeal Cert.MixOutIdeal.Gen
open Idealize.ShloMosaic Idealize.ShloMosaic.TcCoe Idealize.SL.Sem
open Idealize.ShloMosaic.Pipeline (Dat)

set_option maxHeartbeats 20000000 in
/-- The run leaves the fourteen arguments as they were. -/
theorem kept_of (m : (ℓ : Loc nD τ sig) → Buf (Elt Ideal) ℓ) (r : _) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

end Cert.MixOutIdeal.Val

namespace Cert.Proof.MixOut

open Idealize.ShloMosaic Idealize.ShloMosaic.TcCoe Idealize.SL.Sem Idealize.ShloMosaic.StableHlo

set_option maxHeartbeats 20000000 in
/-- The kernel over bits runs to its end and leaves its arguments as they were. -/
theorem frame_bits : Cert.quiescent_MixOut := fun m g _ => Cert.MixOut.Gen.frame m g

set_option maxHeartbeats 20000000 in
/-- So does the kernel over the extended reals. -/
theorem frame_ideal : Cert.quiescent_MixOutIdeal := fun m g _ => Cert.MixOutIdeal.Gen.frame m g

set_option maxHeartbeats 20000000 in
/-- So does the reference: it is host operations alone, and has no semaphore. -/
theorem frame_ref : Cert.quiescent_MixOutRefIdeal := fun m g _ =>
  (θ_run Cert.MixOutRefIdeal.defs _ _).mono
    (fun r h => ⟨fun c => (h c).2.2.2.2.2.2, sem_eq_zero_of_no_sems (by decide) r.2⟩)
    (Cert.MixOutRefIdeal.Value.run (F := Ideal) m g)

set_option maxHeartbeats 20000000 in
open Cert.MixOutRefIdeal.Read Cert.MixOutIdeal.Val Cert.MixOutIdeal.Gen in
/-- The kernel's six arrays are the reference's: the layer's output and what the backward pass reads again. -/
theorem value : Cert.algebraic_MixOutIdeal_MixOutRefIdeal := by
  intro m g m' g' _ ha
  refine ⟨_, _, _, _, _, _, (θ_run Cert.MixOutIdeal.defs _ _).mono
      (fun r h c => ⟨((h c).1 14).trans (final14 m c), ((h c).1 15).trans (final15 m c), ((h c).1 16).trans (final16 m c), ((h c).1 17).trans (final17 m c), ((h c).1 18).trans (final18 m c), ((h c).1 19).trans (final19 m c), kept_of m r h c⟩)
      (Cert.MixOutIdeal.Gen.run_main m g),
    (θ_run Cert.MixOutRefIdeal.defs _ _).mono (fun r h c => by
      obtain ⟨r0, r1, r2, r3, r4, r5, rk⟩ := h c
      refine ⟨r0.trans ((val_main_v81_eq m' c).trans ?_),
        r1.trans ((val_main_v71_eq m' c).trans ?_),
        r2.trans ((val_main_v88_eq m' c).trans ?_),
        r3.trans ((val_main_v89_eq m' c).trans ?_),
        r4.trans ((val_main_v90_eq m' c).trans ?_),
        r5.trans ((val_main_v91_eq m' c).trans ?_), rk⟩
      all_goals
        obtain ⟨h0, h1, h2, h3, h4, h5, h6, h7, h8, h9, h10, h11, h12, h13⟩ := ha c
        simp only [ins, ← h0, ← h1, ← h2, ← h3, ← h4, ← h5, ← h6, ← h7, ← h8, ← h9, ← h10, ← h11, ← h12, ← h13])
      (Cert.MixOutRefIdeal.Value.run (F := Ideal) m' g')⟩

end Cert.Proof.MixOut

end
-- ==== Proof.FfnBwdFrame.Points.lean ====
/- What the four cases of the backward pass of the feed-forward layer share: the values the
   host hands to the kernel, the conditions of its branches in closed form over the grid, where each
   output window is left alone, and the staging and scratch buffers. -/
module

public import proofs.«01_k».proof.Proof.Gen.FfnBwdIdeal.Launch
public import proofs.«01_k».proof.Proof.Gen.FfnBwdIdeal.Skeleton
public import proofs.«01_k».proof.Proof.Gen.FfnBwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program up to the region: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, whether fetched there or before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, whether fetched there or before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, whether fetched there or before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, whether fetched there or before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point, whether fetched there or before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's buffer holds its block at every point, whether fetched there or before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's buffer holds its block at every point, whether fetched there or before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's buffer holds its block at every point, whether fetched there or before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's buffer holds its block at every point, whether fetched there or before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's buffer holds its block at every point, whether fetched there or before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's buffer holds its block at every point, whether fetched there or before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's buffer holds its block at every point, whether fetched there or before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- At a final state whose arrays are what the pipeline's points leave, every argument is as it was: no point stores into one. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats 0 c).arrAt_in 0 rfl _).trans ((hA c 0).trans (V_main_arg0 m c))),
    ((h c).1 4).trans (((dats 0 c).arrAt_in 4 rfl _).trans ((hA c 4).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-! ## The body's branch conditions -/

/-- The condition of the body's branch 1, from the grid coordinates: it is taken at the grid's first point only. -/
abbrev cond0_0 (i : grid0.Coords) : Prop := k0_cond1 i = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 128 = 0)

/-- The condition of the body's branch 2, from the grid coordinates: it is taken at the first point of every row tile. -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's branch 3, from the grid coordinates: it is taken at the last point of a row tile. -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 14 is never idle (an output stored at every point, under no condition). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- At the first grid point the configuration (`Cfg.idle`) calls output 12 idle: nothing is stored into it. -/
theorem idleAt0_12_A : ∀ t : Fin cfg0.N, cond0_0 (grid0.coords t) → cond0_1 (grid0.coords t) → ¬cond0_2 (grid0.coords t) → cfg0.idle 12 (grid0.coords t) = true := by decide +kernel
/-- At the first grid point the pipeline does not write output 12's block back. -/
theorem noFlush0_12_A : ∀ t : Fin cfg0.N, cond0_0 (grid0.coords t) → cond0_1 (grid0.coords t) → ¬cond0_2 (grid0.coords t) → (cfg0.win 12).flush t = false := by decide +kernel
/-- At the middle points of a row tile the configuration (`Cfg.idle`) calls output 12 idle: nothing is stored into it. -/
theorem idleAt0_12_B : ∀ t : Fin cfg0.N, ¬cond0_0 (grid0.coords t) → ¬cond0_1 (grid0.coords t) → ¬cond0_2 (grid0.coords t) → cfg0.idle 12 (grid0.coords t) = true := by decide +kernel
/-- At the middle points of a row tile the pipeline does not write output 12's block back. -/
theorem noFlush0_12_B : ∀ t : Fin cfg0.N, ¬cond0_0 (grid0.coords t) → ¬cond0_1 (grid0.coords t) → ¬cond0_2 (grid0.coords t) → (cfg0.win 12).flush t = false := by decide +kernel
/-- At the last point of a row tile the configuration (`Cfg.idle`) calls output 12 live: something is stored into it. -/
theorem liveAt0_12_C : ∀ t : Fin cfg0.N, ¬cond0_0 (grid0.coords t) → ¬cond0_1 (grid0.coords t) → cond0_2 (grid0.coords t) → cfg0.idle 12 (grid0.coords t) = false := by decide +kernel
/-- At the first point of every row tile but the first the configuration (`Cfg.idle`) calls output 12 idle: nothing is stored into it. -/
theorem idleAt0_12_D : ∀ t : Fin cfg0.N, ¬cond0_0 (grid0.coords t) → cond0_1 (grid0.coords t) → ¬cond0_2 (grid0.coords t) → cfg0.idle 12 (grid0.coords t) = true := by decide +kernel
/-- At the first point of every row tile but the first the pipeline does not write output 12's block back. -/
theorem noFlush0_12_D : ∀ t : Fin cfg0.N, ¬cond0_0 (grid0.coords t) → cond0_1 (grid0.coords t) → ¬cond0_2 (grid0.coords t) → (cfg0.win 12).flush t = false := by decide +kernel
/-- Whether output 13's buffer holds nothing stored since its last write-back, position by position, as a bitmask. -/
def freshTab0_13 : ℕ → Bool
  | 0 => true
  | n + 1 => (0x88888888888888888888888888888888 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the first grid point the configuration (`Cfg.idle`) calls output 13 live: something is stored into it. -/
theorem liveAt0_13_A : ∀ t : Fin cfg0.N, cond0_0 (grid0.coords t) → cond0_1 (grid0.coords t) → ¬cond0_2 (grid0.coords t) → cfg0.idle 13 (grid0.coords t) = false := by decide +kernel
/-- At the middle points of a row tile the configuration (`Cfg.idle`) calls output 13 idle: nothing is stored into it. -/
theorem idleAt0_13_B : ∀ t : Fin cfg0.N, ¬cond0_0 (grid0.coords t) → ¬cond0_1 (grid0.coords t) → ¬cond0_2 (grid0.coords t) → cfg0.idle 13 (grid0.coords t) = true := by decide +kernel
/-- At the middle points of a row tile the pipeline does not write output 13's block back. -/
theorem noFlush0_13_B : ∀ t : Fin cfg0.N, ¬cond0_0 (grid0.coords t) → ¬cond0_1 (grid0.coords t) → ¬cond0_2 (grid0.coords t) → (cfg0.win 13).flush t = false := by decide +kernel
/-- At the last point of a row tile the configuration (`Cfg.idle`) calls output 13 idle: nothing is stored into it. -/
theorem idleAt0_13_C : ∀ t : Fin cfg0.N, ¬cond0_0 (grid0.coords t) → ¬cond0_1 (grid0.coords t) → cond0_2 (grid0.coords t) → cfg0.idle 13 (grid0.coords t) = true := by decide +kernel
/-- At the last point of a row tile the pipeline writes output 13's block back. -/
theorem flushAt0_13_C : ∀ t : Fin cfg0.N, ¬cond0_0 (grid0.coords t) → ¬cond0_1 (grid0.coords t) → cond0_2 (grid0.coords t) → (cfg0.win 13).flush t = true := by decide +kernel
/-- At the last point of a row tile something was stored into output 13's buffer since its last write-back. -/
theorem notFresh0_13_C : ∀ t : Fin cfg0.N, ¬cond0_0 (grid0.coords t) → ¬cond0_1 (grid0.coords t) → cond0_2 (grid0.coords t) → cfg0.fresh 13 t.val = false := by
  intro t; rw [fresh0_13_eq t]; revert t; decide +kernel
/-- At the first point of every row tile but the first the configuration (`Cfg.idle`) calls output 13 live: something is stored into it. -/
theorem liveAt0_13_D : ∀ t : Fin cfg0.N, ¬cond0_0 (grid0.coords t) → cond0_1 (grid0.coords t) → ¬cond0_2 (grid0.coords t) → cfg0.idle 13 (grid0.coords t) = false := by decide +kernel
/-- Whether output 17's buffer holds nothing stored since its last write-back, position by position, as a bitmask. -/
def freshTab0_17 : ℕ → Bool
  | 0 => true
  | n + 1 => (0x80000000000000000000000000000000 : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
/-- At the first grid point the configuration (`Cfg.idle`) calls output 17 live: something is stored into it. -/
theorem liveAt0_17_A : ∀ t : Fin cfg0.N, cond0_0 (grid0.coords t) → cond0_1 (grid0.coords t) → ¬cond0_2 (grid0.coords t) → cfg0.idle 17 (grid0.coords t) = false := by decide +kernel
/-- At the middle points of a row tile the configuration (`Cfg.idle`) calls output 17 idle: nothing is stored into it. -/
theorem idleAt0_17_B : ∀ t : Fin cfg0.N, ¬cond0_0 (grid0.coords t) → ¬cond0_1 (grid0.coords t) → ¬cond0_2 (grid0.coords t) → cfg0.idle 17 (grid0.coords t) = true := by decide +kernel
/-- At the middle points of a row tile the pipeline does not write output 17's block back. -/
theorem noFlush0_17_B : ∀ t : Fin cfg0.N, ¬cond0_0 (grid0.coords t) → ¬cond0_1 (grid0.coords t) → ¬cond0_2 (grid0.coords t) → (cfg0.win 17).flush t = false := by decide +kernel
/-- At the last point of a row tile the configuration (`Cfg.idle`) calls output 17 live: something is stored into it. -/
theorem liveAt0_17_C : ∀ t : Fin cfg0.N, ¬cond0_0 (grid0.coords t) → ¬cond0_1 (grid0.coords t) → cond0_2 (grid0.coords t) → cfg0.idle 17 (grid0.coords t) = false := by decide +kernel
/-- At the last point of a row tile something was stored into output 17's buffer since its last write-back. -/
theorem notFresh0_17_C : ∀ t : Fin cfg0.N, ¬cond0_0 (grid0.coords t) → ¬cond0_1 (grid0.coords t) → cond0_2 (grid0.coords t) → cfg0.fresh 17 t.val = false := by
  intro t; rw [fresh0_17_eq t]; revert t; decide +kernel
/-- At the first point of every row tile but the first the configuration (`Cfg.idle`) calls output 17 live: something is stored into it. -/
theorem liveAt0_17_D : ∀ t : Fin cfg0.N, ¬cond0_0 (grid0.coords t) → cond0_1 (grid0.coords t) → ¬cond0_2 (grid0.coords t) → cfg0.idle 17 (grid0.coords t) = false := by decide +kernel
/-- At the first point of a later row tile something was stored into output 17's buffer since its last write-back. -/
theorem notFresh0_17_D : ∀ t : Fin cfg0.N, ¬cond0_0 (grid0.coords t) → cond0_1 (grid0.coords t) → ¬cond0_2 (grid0.coords t) → cfg0.fresh 17 t.val = false := by
  intro t; rw [fresh0_17_eq t]; revert t; decide +kernel

/-! ## The kernel body on any staging memrefs: a subtype the run finds -/

/-- One staging buffer of output window 12, through which its contents are stated (`View.read_writes_of_cover`: the
    choice does not matter). -/
abbrev VO0_12 : View sig .tc .vmem S512x1024 .f32 := (Memref.whole cc0_stg12_0 : Memref sig .tc .vmem S512x1024 .f32).view
/-- One staging buffer of output window 13, through which its contents are stated (`View.read_writes_of_cover`: the
    choice does not matter). -/
abbrev VO0_13 : View sig .tc .vmem S512x1024 .bf16 := (Memref.whole cc0_stg13_0 : Memref sig .tc .vmem S512x1024 .bf16).view
/-- One staging buffer of output window 14, through which its contents are stated (`View.read_writes_of_cover`: the
    choice does not matter). -/
abbrev VO0_14 : View sig .tc .vmem S1x512x704 .bf16 := (Memref.whole cc0_stg14_0 : Memref sig .tc .vmem S1x512x704 .bf16).view
/-- One staging buffer of output window 15, through which its contents are stated (`View.read_writes_of_cover`: the
    choice does not matter). -/
abbrev VO0_15 : View sig .tc .vmem S1x512x704 .bf16 := (Memref.whole cc0_stg15_0 : Memref sig .tc .vmem S1x512x704 .bf16).view
/-- One staging buffer of output window 16, through which its contents are stated (`View.read_writes_of_cover`: the
    choice does not matter). -/
abbrev VO0_16 : View sig .tc .vmem S1x512x704 .bf16 := (Memref.whole cc0_stg16_0 : Memref sig .tc .vmem S1x512x704 .bf16).view
/-- One staging buffer of output window 17, through which its contents are stated (`View.read_writes_of_cover`: the
    choice does not matter). -/
abbrev VO0_17 : View sig .tc .vmem S8x1024 .f32 := (Memref.whole cc0_stg17_0 : Memref sig .tc .vmem S8x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x704 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x704 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x704 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x704x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x704 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x704 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x704 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S512x1024 .f32 := Memref.whole cc0_scratch0
abbrev scM0_1 : Memref sig .tc .vmem S512x1024 .bf16 := Memref.whole cc0_scratch1
abbrev scM0_2 : Memref sig .tc .vmem S512x1024 .f32 := Memref.whole cc0_scratch2
/-- The scratch `arg20` the kernel carries between points, as a view: what it holds is stated through it. -/
abbrev VS0_0 : View sig .tc .vmem S512x1024 .f32 := scM0_0.view
/-- The scratch `arg21` the kernel carries between points, as a view: what it holds is stated through it. -/
abbrev VS0_1 : View sig .tc .vmem S512x1024 .bf16 := scM0_1.view
/-- The scratch `arg22` the kernel carries between points, as a view: what it holds is stated through it. -/
abbrev VS0_2 : View sig .tc .vmem S512x1024 .f32 := scM0_2.view

/-- The scratch before the first point, buffer by buffer, each at some contents. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnBwdIdeal.Gen

end
-- ==== Proof.FfnBwdFrame.RunA.lean ====
/- The run of the body at the first grid point. -/
module

public import proofs.«01_k».proof.Proof.FfnBwdFrame.Points

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The stores the body makes at the first grid point, output by output (last first), with the proof that from whole
    buffers the body runs to a state whose buffers have these stores written. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x512x704 .f32) (harg7 : arg7.IsWhole) (arg8 : Memref sig .tc .vmem S1x512x704 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x704x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S1x512x704 .bf16) (harg16 : arg16.IsWhole) (arg17 : Memref sig .tc .vmem S1x512x704 .bf16) (harg17 : arg17.IsWhole) (arg18 : Memref sig .tc .vmem S1x512x704 .bf16) (harg18 : arg18.IsWhole) (arg19 : Memref sig .tc .vmem S8x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .f32) (harg22 : arg22.IsWhole) (hc0 : cond0_0 i) (hc1 : cond0_1 i) (hc2 : ¬cond0_2 i)
    (x0 : Vec F S512x1024 .f32) (x1 : Vec F S512x1024 .f32) (x2 : Vec F S512x128 .f32) (x3 : Vec F S512x1024 .bf16) (x4 : Vec F S512x1024 .f32) (x5 : Vec F S1x512x704 .f32) (x6 : Vec F S1x512x704 .f32) (x7 : Vec F S8x1024 .f32) (x8 : Vec F S8x1024 .f32) (x9 : Vec F S1x1024x704 .bf16) (x10 : Vec F S1x1024x704 .bf16) (x11 : Vec F S1x704x1024 .bf16) :
    Σ' (L12 : List (View.Piece (Elt F) S512x1024 .f32)), Σ' (L13 : List (View.Piece (Elt F) S512x1024 .bf16)), Σ' (L14 : List (View.Piece (Elt F) S1x512x704 .bf16)), Σ' (L15 : List (View.Piece (Elt F) S1x512x704 .bf16)), Σ' (L16 : List (View.Piece (Elt F) S1x512x704 .bf16)), Σ' (L17 : List (View.Piece (Elt F) S8x1024 .f32)), Σ' (LS0 : List (View.Piece (Elt F) S512x1024 .f32)), Σ' (LS1 : List (View.Piece (Elt F) S512x1024 .bf16)), { LS2 : List (View.Piece (Elt F) S512x1024 .f32) //
      ∀ (xi12 : Vec F S512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2)) -∗ K ⟨⟩))
          ⊢ wp frame (wpE (defs₀ (F := F)) Variants.none c none) E (cc0_ffn_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, ?_, ?_, ?_, ?_, ?_, ?_, fun xi12 E K => ?run⟩
  case run =>
    simp only [cc0_ffn_backward_eq_skeleton]; unfold cc0_ffn_backward_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexists _; iexact HS0
    isplitl [HS1]; · iexists _; iexact HS1
    iexists _; iexact HS2

end Cert.FfnBwdIdeal.Gen

end
-- ==== Proof.FfnBwdFrame.RunB.lean ====
/- The run of the body at the middle points of a row tile. -/
module

public import proofs.«01_k».proof.Proof.FfnBwdFrame.RunA

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The stores the body makes at the middle points of a row tile, output by output (last first), with the proof that from whole
    buffers the body runs to a state whose buffers have these stores written. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x512x704 .f32) (harg7 : arg7.IsWhole) (arg8 : Memref sig .tc .vmem S1x512x704 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x704x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S1x512x704 .bf16) (harg16 : arg16.IsWhole) (arg17 : Memref sig .tc .vmem S1x512x704 .bf16) (harg17 : arg17.IsWhole) (arg18 : Memref sig .tc .vmem S1x512x704 .bf16) (harg18 : arg18.IsWhole) (arg19 : Memref sig .tc .vmem S8x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .f32) (harg22 : arg22.IsWhole) (hc0 : ¬cond0_0 i) (hc1 : ¬cond0_1 i) (hc2 : ¬cond0_2 i)
    (x0 : Vec F S512x1024 .f32) (x1 : Vec F S512x1024 .f32) (x2 : Vec F S512x128 .f32) (x3 : Vec F S512x1024 .bf16) (x4 : Vec F S512x1024 .f32) (x5 : Vec F S1x512x704 .f32) (x6 : Vec F S1x512x704 .f32) (x7 : Vec F S8x1024 .f32) (x8 : Vec F S8x1024 .f32) (x9 : Vec F S1x1024x704 .bf16) (x10 : Vec F S1x1024x704 .bf16) (x11 : Vec F S1x704x1024 .bf16) (xs0 : Vec F S512x1024 .f32) (xs1 : Vec F S512x1024 .bf16) (xs2 : Vec F S512x1024 .f32) :
    Σ' (L12 : List (View.Piece (Elt F) S512x1024 .f32)), Σ' (L13 : List (View.Piece (Elt F) S512x1024 .bf16)), Σ' (L14 : List (View.Piece (Elt F) S1x512x704 .bf16)), Σ' (L15 : List (View.Piece (Elt F) S1x512x704 .bf16)), Σ' (L16 : List (View.Piece (Elt F) S1x512x704 .bf16)), Σ' (L17 : List (View.Piece (Elt F) S8x1024 .f32)), Σ' (LS0 : List (View.Piece (Elt F) S512x1024 .f32)), Σ' (LS1 : List (View.Piece (Elt F) S512x1024 .bf16)), { LS2 : List (View.Piece (Elt F) S512x1024 .f32) //
      ∀ (xi12 : Vec F S512x1024 .f32) (xi13 : Vec F S512x1024 .bf16) (xi17 : Vec F S8x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xi17 ∗ owns (c : Thread nD τ) arg20 fullShare xs0 ∗ owns (c : Thread nD τ) arg21 fullShare xs1 ∗ owns (c : Thread nD τ) arg22 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ owns (c : Thread nD τ) arg19 fullShare xi17 ∗ owns (c : Thread nD τ) arg20 fullShare xs0 ∗ owns (c : Thread nD τ) arg21 fullShare xs1 ∗ (∃ f, arg22.view.loc (c : Thread nD τ) ↦[arg22.view.set]{fullShare} arg22.view.writes (Elt F) f LS2)) -∗ K ⟨⟩))
          ⊢ wp frame (wpE (defs₀ (F := F)) Variants.none c none) E (cc0_ffn_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], [], ?_, ?_, ?_, [], [], [], ?_, fun xi12 xi13 xi17 E K => ?run⟩
  case run =>
    simp only [cc0_ffn_backward_eq_skeleton]; unfold cc0_ffn_backward_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg19.eq_unread hf17; obtain rfl := harg20.eq_unread hfs0; obtain rfl := harg21.eq_unread hfs1; obtain rfl := harg22.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]
    · iexists _; isplitr; · ipureintro; exact harg19.read_unread _
      iexact H17
    isplitl [HS0]
    · iexists _; isplitr; · ipureintro; exact harg20.read_unread _
      iexact HS0
    isplitl [HS1]
    · iexists _; isplitr; · ipureintro; exact harg21.read_unread _
      iexact HS1
    iexists _; iexact HS2

end Cert.FfnBwdIdeal.Gen

end
-- ==== Proof.FfnBwdFrame.RunC.lean ====
/- The run of the body at the last point of a row tile. -/
module

public import proofs.«01_k».proof.Proof.FfnBwdFrame.RunB

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The stores the body makes at the last point of a row tile, output by output (last first), with the proof that from whole
    buffers the body runs to a state whose buffers have these stores written. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x512x704 .f32) (harg7 : arg7.IsWhole) (arg8 : Memref sig .tc .vmem S1x512x704 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x704x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S1x512x704 .bf16) (harg16 : arg16.IsWhole) (arg17 : Memref sig .tc .vmem S1x512x704 .bf16) (harg17 : arg17.IsWhole) (arg18 : Memref sig .tc .vmem S1x512x704 .bf16) (harg18 : arg18.IsWhole) (arg19 : Memref sig .tc .vmem S8x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .f32) (harg22 : arg22.IsWhole) (hc0 : ¬cond0_0 i) (hc1 : ¬cond0_1 i) (hc2 : cond0_2 i)
    (x0 : Vec F S512x1024 .f32) (x1 : Vec F S512x1024 .f32) (x2 : Vec F S512x128 .f32) (x3 : Vec F S512x1024 .bf16) (x4 : Vec F S512x1024 .f32) (x5 : Vec F S1x512x704 .f32) (x6 : Vec F S1x512x704 .f32) (x7 : Vec F S8x1024 .f32) (x8 : Vec F S8x1024 .f32) (x9 : Vec F S1x1024x704 .bf16) (x10 : Vec F S1x1024x704 .bf16) (x11 : Vec F S1x704x1024 .bf16) (xo13 : Vec F S512x1024 .bf16) (xo17 : Vec F S8x1024 .f32) (xs0 : Vec F S512x1024 .f32) (xs1 : Vec F S512x1024 .bf16) (xs2 : Vec F S512x1024 .f32) :
    Σ' (L12 : List (View.Piece (Elt F) S512x1024 .f32)), Σ' (L13 : List (View.Piece (Elt F) S512x1024 .bf16)), Σ' (L14 : List (View.Piece (Elt F) S1x512x704 .bf16)), Σ' (L15 : List (View.Piece (Elt F) S1x512x704 .bf16)), Σ' (L16 : List (View.Piece (Elt F) S1x512x704 .bf16)), Σ' (L17 : List (View.Piece (Elt F) S8x1024 .f32)), Σ' (LS0 : List (View.Piece (Elt F) S512x1024 .f32)), Σ' (LS1 : List (View.Piece (Elt F) S512x1024 .bf16)), { LS2 : List (View.Piece (Elt F) S512x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xo13 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo17 ∗ owns (c : Thread nD τ) arg20 fullShare xs0 ∗ owns (c : Thread nD τ) arg21 fullShare xs1 ∗ owns (c : Thread nD τ) arg22 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xo13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread xo17) L17) ∗ owns (c : Thread nD τ) arg20 fullShare xs0 ∗ owns (c : Thread nD τ) arg21 fullShare xs1 ∗ (∃ f, arg22.view.loc (c : Thread nD τ) ↦[arg22.view.set]{fullShare} arg22.view.writes (Elt F) f LS2)) -∗ K ⟨⟩))
          ⊢ wp frame (wpE (defs₀ (F := F)) Variants.none c none) E (cc0_ffn_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], ?_, ?_, ?_, ?_, [], [], ?_, fun E K => ?run⟩
  case run =>
    simp only [cc0_ffn_backward_eq_skeleton]; unfold cc0_ffn_backward_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, ⟨%f17, %hf17, H17⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg19.eq_unread hf17; obtain rfl := harg20.eq_unread hfs0; obtain rfl := harg21.eq_unread hfs1; obtain rfl := harg22.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexact H17
    isplitl [HS0]
    · iexists _; isplitr; · ipureintro; exact harg20.read_unread _
      iexact HS0
    isplitl [HS1]
    · iexists _; isplitr; · ipureintro; exact harg21.read_unread _
      iexact HS1
    iexists _; iexact HS2

end Cert.FfnBwdIdeal.Gen

end
-- ==== Proof.FfnBwdFrame.RunD.lean ====
/- The run of the body at the first point of every row tile but the first. -/
module

public import proofs.«01_k».proof.Proof.FfnBwdFrame.RunC

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The stores the body makes at the first point of every row tile but the first, output by output (last first), with the proof that from whole
    buffers the body runs to a state whose buffers have these stores written. -/
noncomputable def kernelRun0_D (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x512x704 .f32) (harg7 : arg7.IsWhole) (arg8 : Memref sig .tc .vmem S1x512x704 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x704x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S1x512x704 .bf16) (harg16 : arg16.IsWhole) (arg17 : Memref sig .tc .vmem S1x512x704 .bf16) (harg17 : arg17.IsWhole) (arg18 : Memref sig .tc .vmem S1x512x704 .bf16) (harg18 : arg18.IsWhole) (arg19 : Memref sig .tc .vmem S8x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .f32) (harg22 : arg22.IsWhole) (hc0 : ¬cond0_0 i) (hc1 : cond0_1 i) (hc2 : ¬cond0_2 i)
    (x0 : Vec F S512x1024 .f32) (x1 : Vec F S512x1024 .f32) (x2 : Vec F S512x128 .f32) (x3 : Vec F S512x1024 .bf16) (x4 : Vec F S512x1024 .f32) (x5 : Vec F S1x512x704 .f32) (x6 : Vec F S1x512x704 .f32) (x7 : Vec F S8x1024 .f32) (x8 : Vec F S8x1024 .f32) (x9 : Vec F S1x1024x704 .bf16) (x10 : Vec F S1x1024x704 .bf16) (x11 : Vec F S1x704x1024 .bf16) (xo17 : Vec F S8x1024 .f32) :
    Σ' (L12 : List (View.Piece (Elt F) S512x1024 .f32)), Σ' (L13 : List (View.Piece (Elt F) S512x1024 .bf16)), Σ' (L14 : List (View.Piece (Elt F) S1x512x704 .bf16)), Σ' (L15 : List (View.Piece (Elt F) S1x512x704 .bf16)), Σ' (L16 : List (View.Piece (Elt F) S1x512x704 .bf16)), Σ' (L17 : List (View.Piece (Elt F) S8x1024 .f32)), Σ' (LS0 : List (View.Piece (Elt F) S512x1024 .f32)), Σ' (LS1 : List (View.Piece (Elt F) S512x1024 .bf16)), { LS2 : List (View.Piece (Elt F) S512x1024 .f32) //
      ∀ (xi12 : Vec F S512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo17 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread xo17) L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2)) -∗ K ⟨⟩))
          ⊢ wp frame (wpE (defs₀ (F := F)) Variants.none c none) E (cc0_ffn_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, ?_, ?_, ?_, ?_, ?_, ?_, fun xi12 E K => ?run⟩
  case run =>
    simp only [cc0_ffn_backward_eq_skeleton]; unfold cc0_ffn_backward_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg19.eq_unread hf17
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexact H17
    isplitl [HS0]; · iexists _; iexact HS0
    isplitl [HS1]; · iexists _; iexact HS1
    iexists _; iexact HS2

end Cert.FfnBwdIdeal.Gen

end
-- ==== Proof.FfnBwdFrame.Outs.lean ====
/- What the outputs and the scratch hold after each grid point. -/
module

public import proofs.«01_k».proof.Proof.FfnBwdFrame.RunD
public import Idealize.ShloMosaic.Lib.Claim

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The contents of the six output windows and the three scratch buffers. -/
abbrev Outs (F : FTy → Type) := Vec F S512x1024 .f32 × Vec F S512x1024 .bf16 × Vec F S1x512x704 .bf16 × Vec F S1x512x704 .bf16 × Vec F S1x512x704 .bf16 × Vec F S8x1024 .f32 × Vec F S512x1024 .f32 × Vec F S512x1024 .bf16 × Vec F S512x1024 .f32

/-- The run at the first grid point, at the buffers and blocks of that point. -/
def runA (c : Dev nD) (t : Fin cfg0.N) (h0 : t.val % 128 = 0) (h1 : t.val % 4 = 0) (h2 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem cover0_A_13 (c : Dev nD) (t : Fin cfg0.N) (h0 : t.val % 128 = 0) (h1 : t.val % 4 = 0) (h2 : ¬t.val % 4 = 3) (y : S512x1024.Idx) :
    ∃ pc ∈ (runA m c t h0 h1 h2).2.1, y ∈ pc.1.set :=
  View.cover_of_tiledL (runA m c t h0 h1 h2).2.1 S512x1024.size (by sl_kernel_rfl) y

theorem cover0_A_14 (c : Dev nD) (t : Fin cfg0.N) (h0 : t.val % 128 = 0) (h1 : t.val % 4 = 0) (h2 : ¬t.val % 4 = 3) (y : S1x512x704.Idx) :
    ∃ pc ∈ (runA m c t h0 h1 h2).2.2.1, y ∈ pc.1.set :=
  View.cover_of_tiledL (runA m c t h0 h1 h2).2.2.1 S1x512x704.size (by sl_kernel_rfl) y

theorem cover0_A_15 (c : Dev nD) (t : Fin cfg0.N) (h0 : t.val % 128 = 0) (h1 : t.val % 4 = 0) (h2 : ¬t.val % 4 = 3) (y : S1x512x704.Idx) :
    ∃ pc ∈ (runA m c t h0 h1 h2).2.2.2.1, y ∈ pc.1.set :=
  View.cover_of_tiledL (runA m c t h0 h1 h2).2.2.2.1 S1x512x704.size (by sl_kernel_rfl) y

theorem cover0_A_16 (c : Dev nD) (t : Fin cfg0.N) (h0 : t.val % 128 = 0) (h1 : t.val % 4 = 0) (h2 : ¬t.val % 4 = 3) (y : S1x512x704.Idx) :
    ∃ pc ∈ (runA m c t h0 h1 h2).2.2.2.2.1, y ∈ pc.1.set :=
  View.cover_of_tiledL (runA m c t h0 h1 h2).2.2.2.2.1 S1x512x704.size (by sl_kernel_rfl) y

theorem cover0_A_17 (c : Dev nD) (t : Fin cfg0.N) (h0 : t.val % 128 = 0) (h1 : t.val % 4 = 0) (h2 : ¬t.val % 4 = 3) (y : S8x1024.Idx) :
    ∃ pc ∈ (runA m c t h0 h1 h2).2.2.2.2.2.1, y ∈ pc.1.set :=
  View.cover_of_tiledL (runA m c t h0 h1 h2).2.2.2.2.2.1 S8x1024.size (by sl_kernel_rfl) y

theorem scover0_A_0 (c : Dev nD) (t : Fin cfg0.N) (h0 : t.val % 128 = 0) (h1 : t.val % 4 = 0) (h2 : ¬t.val % 4 = 3) (y : S512x1024.Idx) :
    ∃ pc ∈ (runA m c t h0 h1 h2).2.2.2.2.2.2.1, y ∈ pc.1.set :=
  View.cover_of_tiledL (runA m c t h0 h1 h2).2.2.2.2.2.2.1 S512x1024.size (by sl_kernel_rfl) y

theorem scover0_A_1 (c : Dev nD) (t : Fin cfg0.N) (h0 : t.val % 128 = 0) (h1 : t.val % 4 = 0) (h2 : ¬t.val % 4 = 3) (y : S512x1024.Idx) :
    ∃ pc ∈ (runA m c t h0 h1 h2).2.2.2.2.2.2.2.1, y ∈ pc.1.set :=
  View.cover_of_tiledL (runA m c t h0 h1 h2).2.2.2.2.2.2.2.1 S512x1024.size (by sl_kernel_rfl) y

theorem scover0_A_2 (c : Dev nD) (t : Fin cfg0.N) (h0 : t.val % 128 = 0) (h1 : t.val % 4 = 0) (h2 : ¬t.val % 4 = 3) (y : S512x1024.Idx) :
    ∃ pc ∈ (runA m c t h0 h1 h2).2.2.2.2.2.2.2.2.1, y ∈ pc.1.set :=
  View.cover_of_tiledL (runA m c t h0 h1 h2).2.2.2.2.2.2.2.2.1 S512x1024.size (by sl_kernel_rfl) y

/-- What the buffers hold after the first grid point. -/
def outsA (c : Dev nD) (t : Fin cfg0.N) (h0 : t.val % 128 = 0) (h1 : t.val % 4 = 0) (h2 : ¬t.val % 4 = 3) : Outs F :=
  (VO0_12.read (Elt F) (VO0_12.writes (Elt F) VO0_12.junk (runA m c t h0 h1 h2).1),
   VO0_13.read (Elt F) (VO0_13.writes (Elt F) VO0_13.junk (runA m c t h0 h1 h2).2.1),
   VO0_14.read (Elt F) (VO0_14.writes (Elt F) VO0_14.junk (runA m c t h0 h1 h2).2.2.1),
   VO0_15.read (Elt F) (VO0_15.writes (Elt F) VO0_15.junk (runA m c t h0 h1 h2).2.2.2.1),
   VO0_16.read (Elt F) (VO0_16.writes (Elt F) VO0_16.junk (runA m c t h0 h1 h2).2.2.2.2.1),
   VO0_17.read (Elt F) (VO0_17.writes (Elt F) VO0_17.junk (runA m c t h0 h1 h2).2.2.2.2.2.1),
   VS0_0.read (Elt F) (VS0_0.writes (Elt F) VS0_0.junk (runA m c t h0 h1 h2).2.2.2.2.2.2.1),
   VS0_1.read (Elt F) (VS0_1.writes (Elt F) VS0_1.junk (runA m c t h0 h1 h2).2.2.2.2.2.2.2.1),
   VS0_2.read (Elt F) (VS0_2.writes (Elt F) VS0_2.junk (runA m c t h0 h1 h2).2.2.2.2.2.2.2.2.1))

/-- The run at the middle points of a row tile, at the buffers and blocks of that point. -/
def runB (c : Dev nD) (t : Fin cfg0.N) (h0 : ¬t.val % 128 = 0) (h1 : ¬t.val % 4 = 0) (h2 : ¬t.val % 4 = 3) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.1 p.2.2.2.2.2.2.2.1 p.2.2.2.2.2.2.2.2

theorem cover0_B_14 (c : Dev nD) (t : Fin cfg0.N) (h0 : ¬t.val % 128 = 0) (h1 : ¬t.val % 4 = 0) (h2 : ¬t.val % 4 = 3) (p : Outs F) (y : S1x512x704.Idx) :
    ∃ pc ∈ (runB m c t h0 h1 h2 p).2.2.1, y ∈ pc.1.set :=
  View.cover_of_tiledL (runB m c t h0 h1 h2 p).2.2.1 S1x512x704.size (by sl_kernel_rfl) y

theorem cover0_B_15 (c : Dev nD) (t : Fin cfg0.N) (h0 : ¬t.val % 128 = 0) (h1 : ¬t.val % 4 = 0) (h2 : ¬t.val % 4 = 3) (p : Outs F) (y : S1x512x704.Idx) :
    ∃ pc ∈ (runB m c t h0 h1 h2 p).2.2.2.1, y ∈ pc.1.set :=
  View.cover_of_tiledL (runB m c t h0 h1 h2 p).2.2.2.1 S1x512x704.size (by sl_kernel_rfl) y

theorem cover0_B_16 (c : Dev nD) (t : Fin cfg0.N) (h0 : ¬t.val % 128 = 0) (h1 : ¬t.val % 4 = 0) (h2 : ¬t.val % 4 = 3) (p : Outs F) (y : S1x512x704.Idx) :
    ∃ pc ∈ (runB m c t h0 h1 h2 p).2.2.2.2.1, y ∈ pc.1.set :=
  View.cover_of_tiledL (runB m c t h0 h1 h2 p).2.2.2.2.1 S1x512x704.size (by sl_kernel_rfl) y

theorem scover0_B_2 (c : Dev nD) (t : Fin cfg0.N) (h0 : ¬t.val % 128 = 0) (h1 : ¬t.val % 4 = 0) (h2 : ¬t.val % 4 = 3) (p : Outs F) (y : S512x1024.Idx) :
    ∃ pc ∈ (runB m c t h0 h1 h2 p).2.2.2.2.2.2.2.2.1, y ∈ pc.1.set :=
  View.cover_of_tiledL (runB m c t h0 h1 h2 p).2.2.2.2.2.2.2.2.1 S512x1024.size (by sl_kernel_rfl) y

/-- What the buffers hold after the middle points of a row tile. -/
def outsB (c : Dev nD) (t : Fin cfg0.N) (h0 : ¬t.val % 128 = 0) (h1 : ¬t.val % 4 = 0) (h2 : ¬t.val % 4 = 3) (p : Outs F) : Outs F :=
  (VO0_12.read (Elt F) (VO0_12.writes (Elt F) VO0_12.junk (runB m c t h0 h1 h2 p).1),
   p.2.1,
   VO0_14.read (Elt F) (VO0_14.writes (Elt F) VO0_14.junk (runB m c t h0 h1 h2 p).2.2.1),
   VO0_15.read (Elt F) (VO0_15.writes (Elt F) VO0_15.junk (runB m c t h0 h1 h2 p).2.2.2.1),
   VO0_16.read (Elt F) (VO0_16.writes (Elt F) VO0_16.junk (runB m c t h0 h1 h2 p).2.2.2.2.1),
   p.2.2.2.2.2.1,
   p.2.2.2.2.2.2.1,
   p.2.2.2.2.2.2.2.1,
   VS0_2.read (Elt F) (VS0_2.writes (Elt F) VS0_2.junk (runB m c t h0 h1 h2 p).2.2.2.2.2.2.2.2.1))

/-- The run at the last point of a row tile, at the buffers and blocks of that point. -/
def runC (c : Dev nD) (t : Fin cfg0.N) (h0 : ¬t.val % 128 = 0) (h1 : ¬t.val % 4 = 0) (h2 : t.val % 4 = 3) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.2.2.2.1 p.2.2.2.2.2.2.1 p.2.2.2.2.2.2.2.1 p.2.2.2.2.2.2.2.2

theorem cover0_C_12 (c : Dev nD) (t : Fin cfg0.N) (h0 : ¬t.val % 128 = 0) (h1 : ¬t.val % 4 = 0) (h2 : t.val % 4 = 3) (p : Outs F) (y : S512x1024.Idx) :
    ∃ pc ∈ (runC m c t h0 h1 h2 p).1, y ∈ pc.1.set :=
  View.cover_of_tiledL (runC m c t h0 h1 h2 p).1 S512x1024.size (by sl_kernel_rfl) y

theorem cover0_C_14 (c : Dev nD) (t : Fin cfg0.N) (h0 : ¬t.val % 128 = 0) (h1 : ¬t.val % 4 = 0) (h2 : t.val % 4 = 3) (p : Outs F) (y : S1x512x704.Idx) :
    ∃ pc ∈ (runC m c t h0 h1 h2 p).2.2.1, y ∈ pc.1.set :=
  View.cover_of_tiledL (runC m c t h0 h1 h2 p).2.2.1 S1x512x704.size (by sl_kernel_rfl) y

theorem cover0_C_15 (c : Dev nD) (t : Fin cfg0.N) (h0 : ¬t.val % 128 = 0) (h1 : ¬t.val % 4 = 0) (h2 : t.val % 4 = 3) (p : Outs F) (y : S1x512x704.Idx) :
    ∃ pc ∈ (runC m c t h0 h1 h2 p).2.2.2.1, y ∈ pc.1.set :=
  View.cover_of_tiledL (runC m c t h0 h1 h2 p).2.2.2.1 S1x512x704.size (by sl_kernel_rfl) y

theorem cover0_C_16 (c : Dev nD) (t : Fin cfg0.N) (h0 : ¬t.val % 128 = 0) (h1 : ¬t.val % 4 = 0) (h2 : t.val % 4 = 3) (p : Outs F) (y : S1x512x704.Idx) :
    ∃ pc ∈ (runC m c t h0 h1 h2 p).2.2.2.2.1, y ∈ pc.1.set :=
  View.cover_of_tiledL (runC m c t h0 h1 h2 p).2.2.2.2.1 S1x512x704.size (by sl_kernel_rfl) y

theorem scover0_C_2 (c : Dev nD) (t : Fin cfg0.N) (h0 : ¬t.val % 128 = 0) (h1 : ¬t.val % 4 = 0) (h2 : t.val % 4 = 3) (p : Outs F) (y : S512x1024.Idx) :
    ∃ pc ∈ (runC m c t h0 h1 h2 p).2.2.2.2.2.2.2.2.1, y ∈ pc.1.set :=
  View.cover_of_tiledL (runC m c t h0 h1 h2 p).2.2.2.2.2.2.2.2.1 S512x1024.size (by sl_kernel_rfl) y

/-- What the buffers hold after the last point of a row tile. -/
def outsC (c : Dev nD) (t : Fin cfg0.N) (h0 : ¬t.val % 128 = 0) (h1 : ¬t.val % 4 = 0) (h2 : t.val % 4 = 3) (p : Outs F) : Outs F :=
  (VO0_12.read (Elt F) (VO0_12.writes (Elt F) VO0_12.junk (runC m c t h0 h1 h2 p).1),
   p.2.1,
   VO0_14.read (Elt F) (VO0_14.writes (Elt F) VO0_14.junk (runC m c t h0 h1 h2 p).2.2.1),
   VO0_15.read (Elt F) (VO0_15.writes (Elt F) VO0_15.junk (runC m c t h0 h1 h2 p).2.2.2.1),
   VO0_16.read (Elt F) (VO0_16.writes (Elt F) VO0_16.junk (runC m c t h0 h1 h2 p).2.2.2.2.1),
   (ms0_17 t).view.read (Elt F) ((ms0_17 t).view.writes (Elt F) ((hs0_17 t).unread p.2.2.2.2.2.1) (runC m c t h0 h1 h2 p).2.2.2.2.2.1),
   p.2.2.2.2.2.2.1,
   p.2.2.2.2.2.2.2.1,
   VS0_2.read (Elt F) (VS0_2.writes (Elt F) VS0_2.junk (runC m c t h0 h1 h2 p).2.2.2.2.2.2.2.2.1))

/-- The run at the first point of every row tile but the first, at the buffers and blocks of that point. -/
def runD (c : Dev nD) (t : Fin cfg0.N) (h0 : ¬t.val % 128 = 0) (h1 : t.val % 4 = 0) (h2 : ¬t.val % 4 = 3) (p : Outs F) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.1

theorem cover0_D_13 (c : Dev nD) (t : Fin cfg0.N) (h0 : ¬t.val % 128 = 0) (h1 : t.val % 4 = 0) (h2 : ¬t.val % 4 = 3) (p : Outs F) (y : S512x1024.Idx) :
    ∃ pc ∈ (runD m c t h0 h1 h2 p).2.1, y ∈ pc.1.set :=
  View.cover_of_tiledL (runD m c t h0 h1 h2 p).2.1 S512x1024.size (by sl_kernel_rfl) y

theorem cover0_D_14 (c : Dev nD) (t : Fin cfg0.N) (h0 : ¬t.val % 128 = 0) (h1 : t.val % 4 = 0) (h2 : ¬t.val % 4 = 3) (p : Outs F) (y : S1x512x704.Idx) :
    ∃ pc ∈ (runD m c t h0 h1 h2 p).2.2.1, y ∈ pc.1.set :=
  View.cover_of_tiledL (runD m c t h0 h1 h2 p).2.2.1 S1x512x704.size (by sl_kernel_rfl) y

theorem cover0_D_15 (c : Dev nD) (t : Fin cfg0.N) (h0 : ¬t.val % 128 = 0) (h1 : t.val % 4 = 0) (h2 : ¬t.val % 4 = 3) (p : Outs F) (y : S1x512x704.Idx) :
    ∃ pc ∈ (runD m c t h0 h1 h2 p).2.2.2.1, y ∈ pc.1.set :=
  View.cover_of_tiledL (runD m c t h0 h1 h2 p).2.2.2.1 S1x512x704.size (by sl_kernel_rfl) y

theorem cover0_D_16 (c : Dev nD) (t : Fin cfg0.N) (h0 : ¬t.val % 128 = 0) (h1 : t.val % 4 = 0) (h2 : ¬t.val % 4 = 3) (p : Outs F) (y : S1x512x704.Idx) :
    ∃ pc ∈ (runD m c t h0 h1 h2 p).2.2.2.2.1, y ∈ pc.1.set :=
  View.cover_of_tiledL (runD m c t h0 h1 h2 p).2.2.2.2.1 S1x512x704.size (by sl_kernel_rfl) y

theorem scover0_D_0 (c : Dev nD) (t : Fin cfg0.N) (h0 : ¬t.val % 128 = 0) (h1 : t.val % 4 = 0) (h2 : ¬t.val % 4 = 3) (p : Outs F) (y : S512x1024.Idx) :
    ∃ pc ∈ (runD m c t h0 h1 h2 p).2.2.2.2.2.2.1, y ∈ pc.1.set :=
  View.cover_of_tiledL (runD m c t h0 h1 h2 p).2.2.2.2.2.2.1 S512x1024.size (by sl_kernel_rfl) y

theorem scover0_D_1 (c : Dev nD) (t : Fin cfg0.N) (h0 : ¬t.val % 128 = 0) (h1 : t.val % 4 = 0) (h2 : ¬t.val % 4 = 3) (p : Outs F) (y : S512x1024.Idx) :
    ∃ pc ∈ (runD m c t h0 h1 h2 p).2.2.2.2.2.2.2.1, y ∈ pc.1.set :=
  View.cover_of_tiledL (runD m c t h0 h1 h2 p).2.2.2.2.2.2.2.1 S512x1024.size (by sl_kernel_rfl) y

theorem scover0_D_2 (c : Dev nD) (t : Fin cfg0.N) (h0 : ¬t.val % 128 = 0) (h1 : t.val % 4 = 0) (h2 : ¬t.val % 4 = 3) (p : Outs F) (y : S512x1024.Idx) :
    ∃ pc ∈ (runD m c t h0 h1 h2 p).2.2.2.2.2.2.2.2.1, y ∈ pc.1.set :=
  View.cover_of_tiledL (runD m c t h0 h1 h2 p).2.2.2.2.2.2.2.2.1 S512x1024.size (by sl_kernel_rfl) y

/-- What the buffers hold after the first point of every row tile but the first. -/
def outsD (c : Dev nD) (t : Fin cfg0.N) (h0 : ¬t.val % 128 = 0) (h1 : t.val % 4 = 0) (h2 : ¬t.val % 4 = 3) (p : Outs F) : Outs F :=
  (VO0_12.read (Elt F) (VO0_12.writes (Elt F) VO0_12.junk (runD m c t h0 h1 h2 p).1),
   VO0_13.read (Elt F) (VO0_13.writes (Elt F) VO0_13.junk (runD m c t h0 h1 h2 p).2.1),
   VO0_14.read (Elt F) (VO0_14.writes (Elt F) VO0_14.junk (runD m c t h0 h1 h2 p).2.2.1),
   VO0_15.read (Elt F) (VO0_15.writes (Elt F) VO0_15.junk (runD m c t h0 h1 h2 p).2.2.2.1),
   VO0_16.read (Elt F) (VO0_16.writes (Elt F) VO0_16.junk (runD m c t h0 h1 h2 p).2.2.2.2.1),
   (ms0_17 t).view.read (Elt F) ((ms0_17 t).view.writes (Elt F) ((hs0_17 t).unread p.2.2.2.2.2.1) (runD m c t h0 h1 h2 p).2.2.2.2.2.1),
   VS0_0.read (Elt F) (VS0_0.writes (Elt F) VS0_0.junk (runD m c t h0 h1 h2 p).2.2.2.2.2.2.1),
   VS0_1.read (Elt F) (VS0_1.writes (Elt F) VS0_1.junk (runD m c t h0 h1 h2 p).2.2.2.2.2.2.2.1),
   VS0_2.read (Elt F) (VS0_2.writes (Elt F) VS0_2.junk (runD m c t h0 h1 h2 p).2.2.2.2.2.2.2.2.1))

/-- What the buffers hold after grid point `n`. -/
def outsAt0 (c : Dev nD) : (n : ℕ) → n < cfg0.N → Outs F
  | 0, hn => outsA m c ⟨0, hn⟩ (Nat.zero_mod _) (Nat.zero_mod _) (by show ¬(0 % 4 = 3); omega)
  | n + 1, hn =>
    if h1 : (n + 1) % 4 = 0 then
      if h0 : (n + 1) % 128 = 0 then outsA m c ⟨n + 1, hn⟩ h0 h1 (by show ¬((n + 1) % 4 = 3); omega)
      else outsD m c ⟨n + 1, hn⟩ h0 h1 (by show ¬((n + 1) % 4 = 3); omega) (outsAt0 c n (Nat.lt_of_succ_lt hn))
    else
      if h2 : (n + 1) % 4 = 3 then outsC m c ⟨n + 1, hn⟩ (by show ¬((n + 1) % 128 = 0); omega) h1 h2 (outsAt0 c n (Nat.lt_of_succ_lt hn))
      else outsB m c ⟨n + 1, hn⟩ (by show ¬((n + 1) % 128 = 0); omega) h1 h2 (outsAt0 c n (Nat.lt_of_succ_lt hn))

/-- What the buffers hold before grid point `t` (after the one before it). -/
abbrev prev0 (c : Dev nD) (t : Fin cfg0.N) : Outs F :=
  outsAt0 m c (t.val - 1) (Nat.lt_of_le_of_lt (Nat.sub_le _ _) t.isLt)

theorem outsAt0_A (c : Dev nD) (t : Fin cfg0.N) (h0 : t.val % 128 = 0) (h1 : t.val % 4 = 0) (h2 : ¬t.val % 4 = 3) :
    outsAt0 m c t.val t.isLt = outsA m c t h0 h1 h2 := by
  obtain ⟨n, hn⟩ := t
  cases n with
  | zero => exact rfl
  | succ n => exact (dif_pos h1).trans (dif_pos h0)

theorem outsAt0_B (c : Dev nD) (t : Fin cfg0.N) (h0 : ¬t.val % 128 = 0) (h1 : ¬t.val % 4 = 0) (h2 : ¬t.val % 4 = 3) :
    outsAt0 m c t.val t.isLt = outsB m c t h0 h1 h2 (prev0 m c t) := by
  obtain ⟨n, hn⟩ := t
  cases n with
  | zero => exact absurd (Nat.zero_mod _) h0
  | succ n => exact (dif_neg h1).trans (dif_neg h2)

theorem outsAt0_C (c : Dev nD) (t : Fin cfg0.N) (h0 : ¬t.val % 128 = 0) (h1 : ¬t.val % 4 = 0) (h2 : t.val % 4 = 3) :
    outsAt0 m c t.val t.isLt = outsC m c t h0 h1 h2 (prev0 m c t) := by
  obtain ⟨n, hn⟩ := t
  cases n with
  | zero => exact absurd (Nat.zero_mod _) h0
  | succ n => exact (dif_neg h1).trans (dif_pos h2)

theorem outsAt0_D (c : Dev nD) (t : Fin cfg0.N) (h0 : ¬t.val % 128 = 0) (h1 : t.val % 4 = 0) (h2 : ¬t.val % 4 = 3) :
    outsAt0 m c t.val t.isLt = outsD m c t h0 h1 h2 (prev0 m c t) := by
  obtain ⟨n, hn⟩ := t
  cases n with
  | zero => exact absurd (Nat.zero_mod _) h0
  | succ n => exact (dif_pos h1).trans (dif_neg h0)

/-- What holds of the scratch before grid point `n`: anything before the first point, afterwards what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r)) := by
  cases n with
  | zero => exact absurd rfl hz
  | succ n => rfl

/-! ## The pipeline's proof data -/

/-- What is stated of the pipeline's points on core `c`: the arrays as the region finds them; after the body at point `t` each
    input's buffer at its block and each output's at `outsAt0`; the scratch as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨_ + 18, h⟩ => absurd h (Nat.not_lt.2 (Nat.le_add_left _ _))
  Φ t := PhiS m c t.val (Nat.le_of_lt_succ t.isLt)
  q _ := fullShare
  owed _ := 0

/-- The arrays are those the region is entered with. -/
theorem A_eq (c : Dev nD) (w : Fin cfg0.W) : (dats m 0 c).A w = V m c (Pipeline.arrRef spec0 w) := by
  dsimp only [dats]

/-- The invariant at a point's start (the pipeline's data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The last point of a row tile leaves output 13 as it was. -/
theorem outsC_13 (c : Dev nD) (t : Fin cfg0.N) (h0 : ¬t.val % 128 = 0) (h1 : ¬t.val % 4 = 0) (h2 : t.val % 4 = 3) (p : Outs F) :
    (outsC m c t h0 h1 h2 p).2.1 = p.2.1 := by dsimp only [outsC]

/-- The middle points of a row tile leave output 13 as it was. -/
theorem outsB_13 (c : Dev nD) (t : Fin cfg0.N) (h0 : ¬t.val % 128 = 0) (h1 : ¬t.val % 4 = 0) (h2 : ¬t.val % 4 = 3) (p : Outs F) :
    (outsB m c t h0 h1 h2 p).2.1 = p.2.1 := by dsimp only [outsB]

/-- They leave output 17 as it was. -/
theorem outsB_17 (c : Dev nD) (t : Fin cfg0.N) (h0 : ¬t.val % 128 = 0) (h1 : ¬t.val % 4 = 0) (h2 : ¬t.val % 4 = 3) (p : Outs F) :
    (outsB m c t h0 h1 h2 p).2.2.2.2.2.1 = p.2.2.2.2.2.1 := by dsimp only [outsB]

/-- Output 13's buffer is unchanged by the points that do not store into it. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 128 := lt_of_lt_of_eq t.isLt (show cfg0.N = 128 from N_0)
  rw [after0_13, after0_13]
  by_cases h0 : t.val % 128 = 0
  · by_cases h1 : t.val % 4 = 0
    · by_cases h2 : t.val % 4 = 3
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val % 4 = 0
    · by_cases h2 : t.val % 4 = 3
      · exfalso; omega
      · rw [liveAt0_13_D t (fun h => h0 ((hcond0_0 t).mp h)) ((hcond0_1 t).mpr h1) (fun h => h2 ((hcond0_2 t).mp h))] at hi
        exact absurd hi Bool.false_ne_true
    · by_cases h2 : t.val % 4 = 3
      · exact (congrArg (fun o : Outs F => o.2.1) (outsAt0_C m c t h0 h1 h2)).trans (outsC_13 m c t h0 h1 h2 (prev0 m c t))
      · exact (congrArg (fun o : Outs F => o.2.1) (outsAt0_B m c t h0 h1 h2)).trans (outsB_13 m c t h0 h1 h2 (prev0 m c t))

/-- Output 17's buffer is unchanged by the points that do not store into it. -/
theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 128 := lt_of_lt_of_eq t.isLt (show cfg0.N = 128 from N_0)
  rw [after0_17, after0_17]
  by_cases h0 : t.val % 128 = 0
  · by_cases h1 : t.val % 4 = 0
    · by_cases h2 : t.val % 4 = 3
      · exfalso; omega
      · rw [liveAt0_17_A t ((hcond0_0 t).mpr h0) ((hcond0_1 t).mpr h1) (fun h => h2 ((hcond0_2 t).mp h))] at hi
        exact absurd hi Bool.false_ne_true
    · exfalso; omega
  · by_cases h1 : t.val % 4 = 0
    · by_cases h2 : t.val % 4 = 3
      · exfalso; omega
      · rw [liveAt0_17_D t (fun h => h0 ((hcond0_0 t).mp h)) ((hcond0_1 t).mpr h1) (fun h => h2 ((hcond0_2 t).mp h))] at hi
        exact absurd hi Bool.false_ne_true
    · by_cases h2 : t.val % 4 = 3
      · rw [liveAt0_17_C t (fun h => h0 ((hcond0_0 t).mp h)) (fun h => h1 ((hcond0_1 t).mp h)) ((hcond0_2 t).mpr h2)] at hi
        exact absurd hi Bool.false_ne_true
      · exact (congrArg (fun o : Outs F => o.2.2.2.2.2.1) (outsAt0_B m c t h0 h1 h2)).trans (outsB_17 m c t h0 h1 h2 (prev0 m c t))
/-- At the last point of a row tile output 13's buffer holds what the point before left. -/
theorem before0_13_C (c : Dev nD) (t : Fin cfg0.N) (h0 : ¬t.val % 128 = 0) (h1 : ¬t.val % 4 = 0) (h2 : t.val % 4 = 3) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
/-- At the last point of a row tile output 17's buffer holds what the point before left. -/
theorem before0_17_C (c : Dev nD) (t : Fin cfg0.N) (h0 : ¬t.val % 128 = 0) (h1 : ¬t.val % 4 = 0) (h2 : t.val % 4 = 3) (d) :
    (dats m 0 c).before 17 t d = (outsAt0 m c (t.val - 1) (Nat.lt_of_le_of_lt (Nat.sub_le _ _) t.isLt)).2.2.2.2.2.1 := by
  rw [Dat.before_out_traj _ 17 rfl (fun _ _ => rfl) (hcarry0_17 m c) t.val t rfl d,
    if_neg (by rw [notFresh0_17_C t (fun h => h0 ((hcond0_0 t).mp h)) (fun h => h1 ((hcond0_1 t).mp h)) ((hcond0_2 t).mpr h2)]; exact Bool.false_ne_true)]
  dsimp only [dats]
/-- At the first point of a later row tile output 17's buffer holds what the point before left. -/
theorem before0_17_D (c : Dev nD) (t : Fin cfg0.N) (h0 : ¬t.val % 128 = 0) (h1 : t.val % 4 = 0) (h2 : ¬t.val % 4 = 3) (d) :
    (dats m 0 c).before 17 t d = (outsAt0 m c (t.val - 1) (Nat.lt_of_le_of_lt (Nat.sub_le _ _) t.isLt)).2.2.2.2.2.1 := by
  rw [Dat.before_out_traj _ 17 rfl (fun _ _ => rfl) (hcarry0_17 m c) t.val t rfl d,
    if_neg (by rw [notFresh0_17_D t (fun h => h0 ((hcond0_0 t).mp h)) ((hcond0_1 t).mpr h1) (fun h => h2 ((hcond0_2 t).mp h))]; exact Bool.false_ne_true)]
  dsimp only [dats]

/-! ## The body obligation, at a generic point -/

/-- What the body is called with at point `t`, the windows one by one. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- What the body must leave in the windows every point reads or writes. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
theorem leaves0_14 (c : Dev nD) (t : Fin cfg0.N) :
    (dats m 0 c).leavesExact 14 t = owns (c : Thread nD τ) (ms0_14 t) fullShare ((outsAt0 m c t.val t.isLt).2.2.1) := by
  unfold Dat.leavesExact; rw [liveAt0_14 t, after0_14]
theorem leaves0_15 (c : Dev nD) (t : Fin cfg0.N) :
    (dats m 0 c).leavesExact 15 t = owns (c : Thread nD τ) (ms0_15 t) fullShare ((outsAt0 m c t.val t.isLt).2.2.2.1) := by
  unfold Dat.leavesExact; rw [liveAt0_15 t, after0_15]
theorem leaves0_16 (c : Dev nD) (t : Fin cfg0.N) :
    (dats m 0 c).leavesExact 16 t = owns (c : Thread nD τ) (ms0_16 t) fullShare ((outsAt0 m c t.val t.isLt).2.2.2.2.1) := by
  unfold Dat.leavesExact; rw [liveAt0_16 t, after0_16]

end Cert.FfnBwdIdeal.Gen

end
-- ==== Proof.FfnBwdFrame.SoundA.lean ====
/- The body at the first grid point meets what the pipeline asks of it. -/
module

public import proofs.«01_k».proof.Proof.FfnBwdFrame.Outs

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The body at the first grid point: from the blocks of the point and what the point before left, the run ends
    with the contents stated for the point. -/
theorem sound_A (c : Dev nD) (t : Fin cfg0.N) (h0 : t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_14, leaves0_15, leaves0_16]
  have hN : t.val < 128 := lt_of_lt_of_eq t.isLt (show cfg0.N = 128 from N_0)
  rw [Dat.leavesExact_idle (dats m 0 c) 12 t (idleAt0_12_A t ((hcond0_0 t).mpr h0) ((hcond0_1 t).mpr h1) (fun h => h2 ((hcond0_2 t).mp h))) (noFlush0_12_A t ((hcond0_0 t).mpr h0) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_A t ((hcond0_0 t).mpr h0) ((hcond0_1 t).mpr h1) (fun h => h2 ((hcond0_2 t).mp h))], after0_13]
  rw [show (dats m 0 c).leavesExact 17 t = owns (c : Thread nD τ) (ms0_17 t) fullShare ((dats m 0 c).after 17 t) from by
    unfold Dat.leavesExact; rw [liveAt0_17_A t ((hcond0_0 t).mpr h0) ((hcond0_1 t).mpr h1) (fun h => h2 ((hcond0_2 t).mp h))], after0_17]
  have hz : t.val = 0 := by omega
  rw [PhiS_castSucc m c t, PhiS_zero m c _ _ hz, PhiA0_eq]
  rw [outsAt0_A m c t h0 h1 h2]
  dsimp only [outsA]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA m c t h0 h1 h2).2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  iintro ⟨H0, H1, H2, H3, H4, H5, H6, H7, H8, H9, H10, H11, H12, ⟨%e13, H13⟩, ⟨%e14, H14⟩, ⟨%e15, H15⟩, ⟨%e16, H16⟩, ⟨%e17, H17⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_A_0 m c t h0 h1 h2)
      isplitl [HS1]
      · unfold owns; iexists _; isplitr
        swap; · iexact HS1
        ipureintro; exact View.read_writes_of_cover _ _ _ _ _ (scover0_A_1 m c t h0 h1 h2)
      unfold owns; iexists _; isplitr
      swap; · iexact HS2
      ipureintro; exact View.read_writes_of_cover _ _ _ _ _ (scover0_A_2 m c t h0 h1 h2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]
  · unfold owns; iexists _; isplitr
    swap; · iexact H13
    ipureintro; exact View.read_writes_of_cover _ _ _ _ _ (cover0_A_13 m c t h0 h1 h2)
  isplitl [H14]
  · unfold owns; iexists _; isplitr
    swap; · iexact H14
    ipureintro; exact View.read_writes_of_cover _ _ _ _ _ (cover0_A_14 m c t h0 h1 h2)
  isplitl [H15]
  · unfold owns; iexists _; isplitr
    swap; · iexact H15
    ipureintro; exact View.read_writes_of_cover _ _ _ _ _ (cover0_A_15 m c t h0 h1 h2)
  isplitl [H16]
  · unfold owns; iexists _; isplitr
    swap; · iexact H16
    ipureintro; exact View.read_writes_of_cover _ _ _ _ _ (cover0_A_16 m c t h0 h1 h2)
  unfold owns; iexists _; isplitr
  swap; · iexact H17
  ipureintro; exact View.read_writes_of_cover _ _ _ _ _ (cover0_A_17 m c t h0 h1 h2)

end Cert.FfnBwdIdeal.Gen

end
-- ==== Proof.FfnBwdFrame.SoundB.lean ====
/- The body at the middle points of a row tile meets what the pipeline asks of it. -/
module

public import proofs.«01_k».proof.Proof.FfnBwdFrame.Outs

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The body at the middle points of a row tile: from the blocks of the point and what the point before left, the run ends
    with the contents stated for the point. -/
theorem sound_B (c : Dev nD) (t : Fin cfg0.N) (h0 : ¬t.val % 128 = 0) (h1 : ¬t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_14, leaves0_15, leaves0_16]
  have hN : t.val < 128 := lt_of_lt_of_eq t.isLt (show cfg0.N = 128 from N_0)
  rw [Dat.leavesExact_idle (dats m 0 c) 12 t (idleAt0_12_B t (fun h => h0 ((hcond0_0 t).mp h)) (fun h => h1 ((hcond0_1 t).mp h)) (fun h => h2 ((hcond0_2 t).mp h))) (noFlush0_12_B t (fun h => h0 ((hcond0_0 t).mp h)) (fun h => h1 ((hcond0_1 t).mp h)) (fun h => h2 ((hcond0_2 t).mp h)))]
  rw [Dat.leavesExact_idle (dats m 0 c) 13 t (idleAt0_13_B t (fun h => h0 ((hcond0_0 t).mp h)) (fun h => h1 ((hcond0_1 t).mp h)) (fun h => h2 ((hcond0_2 t).mp h))) (noFlush0_13_B t (fun h => h0 ((hcond0_0 t).mp h)) (fun h => h1 ((hcond0_1 t).mp h)) (fun h => h2 ((hcond0_2 t).mp h)))]
  rw [Dat.leavesExact_idle (dats m 0 c) 17 t (idleAt0_17_B t (fun h => h0 ((hcond0_0 t).mp h)) (fun h => h1 ((hcond0_1 t).mp h)) (fun h => h2 ((hcond0_2 t).mp h))) (noFlush0_17_B t (fun h => h0 ((hcond0_0 t).mp h)) (fun h => h1 ((hcond0_1 t).mp h)) (fun h => h2 ((hcond0_2 t).mp h)))]
  have hz : t.val ≠ 0 := by omega
  rw [PhiS_castSucc m c t, PhiS_pos m c _ _ hz]
  rw [outsAt0_B m c t h0 h1 h2]
  dsimp only [outsB]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB m c t h0 h1 h2 (prev0 m c t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, ⟨%e14, H14⟩, ⟨%e15, H15⟩, ⟨%e16, H16⟩, H17, HS0, HS1, ⟨%es2, HS2⟩⟩
  isplitl [HS0 HS1 HS2 Hg]
  · isplitl [HS0 HS1 HS2]
    · isplitl [HS0]
      · iexact HS0
      isplitl [HS1]
      · iexact HS1
      unfold owns; iexists _; isplitr
      swap; · iexact HS2
      ipureintro; exact View.read_writes_of_cover _ _ _ _ _ (scover0_B_2 m c t h0 h1 h2 (prev0 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]
  · unfold owns; iexists _; isplitr
    swap; · iexact H14
    ipureintro; exact View.read_writes_of_cover _ _ _ _ _ (cover0_B_14 m c t h0 h1 h2 (prev0 m c t))
  isplitl [H15]
  · unfold owns; iexists _; isplitr
    swap; · iexact H15
    ipureintro; exact View.read_writes_of_cover _ _ _ _ _ (cover0_B_15 m c t h0 h1 h2 (prev0 m c t))
  isplitl [H16]
  · unfold owns; iexists _; isplitr
    swap; · iexact H16
    ipureintro; exact View.read_writes_of_cover _ _ _ _ _ (cover0_B_16 m c t h0 h1 h2 (prev0 m c t))
  iexists _; iexact H17

end Cert.FfnBwdIdeal.Gen

end
-- ==== Proof.FfnBwdFrame.SoundC.lean ====
/- The body at the last point of a row tile meets what the pipeline asks of it. -/
module

public import proofs.«01_k».proof.Proof.FfnBwdFrame.Outs

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The body at the last point of a row tile: from the blocks of the point and what the point before left, the run ends
    with the contents stated for the point. -/
theorem sound_C (c : Dev nD) (t : Fin cfg0.N) (h0 : ¬t.val % 128 = 0) (h1 : ¬t.val % 4 = 0) (h2 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_14, leaves0_15, leaves0_16]
  have hN : t.val < 128 := lt_of_lt_of_eq t.isLt (show cfg0.N = 128 from N_0)
  rw [show (dats m 0 c).leavesExact 12 t = owns (c : Thread nD τ) (ms0_12 t) fullShare ((dats m 0 c).after 12 t) from by
    unfold Dat.leavesExact; rw [liveAt0_12_C t (fun h => h0 ((hcond0_0 t).mp h)) (fun h => h1 ((hcond0_1 t).mp h)) ((hcond0_2 t).mpr h2)], after0_12]
  rw [show (dats m 0 c).leavesExact 13 t = owns (c : Thread nD τ) (ms0_13 t) fullShare ((dats m 0 c).after 13 t) from by
    unfold Dat.leavesExact; rw [idleAt0_13_C t (fun h => h0 ((hcond0_0 t).mp h)) (fun h => h1 ((hcond0_1 t).mp h)) ((hcond0_2 t).mpr h2), flushAt0_13_C t (fun h => h0 ((hcond0_0 t).mp h)) (fun h => h1 ((hcond0_1 t).mp h)) ((hcond0_2 t).mpr h2)], after0_13]
  rw [show (dats m 0 c).leavesExact 17 t = owns (c : Thread nD τ) (ms0_17 t) fullShare ((dats m 0 c).after 17 t) from by
    unfold Dat.leavesExact; rw [liveAt0_17_C t (fun h => h0 ((hcond0_0 t).mp h)) (fun h => h1 ((hcond0_1 t).mp h)) ((hcond0_2 t).mpr h2)], after0_17]
  have hz : t.val ≠ 0 := by omega
  rw [PhiS_castSucc m c t, PhiS_pos m c _ _ hz]
  rw [outsAt0_C m c t h0 h1 h2]
  simp only [before0_13_C m c t h0 h1 h2, before0_17_C m c t h0 h1 h2]
  dsimp only [outsC]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC m c t h0 h1 h2 (prev0 m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexists _; iexact H14
  isplitl [H15]; · iexists _; iexact H15
  isplitl [H16]; · iexists _; iexact H16
  isplitl [H17]; · iexact H17
  isplitl [HS0]; · iexact HS0
  isplitl [HS1]; · iexact HS1
  isplitl [HS2]; · iexact HS2
  iintro ⟨H0, H1, H2, H3, H4, H5, H6, H7, H8, H9, H10, H11, ⟨%e12, H12⟩, H13, ⟨%e14, H14⟩, ⟨%e15, H15⟩, ⟨%e16, H16⟩, H17, HS0, HS1, ⟨%es2, HS2⟩⟩
  isplitl [HS0 HS1 HS2 Hg]
  · isplitl [HS0 HS1 HS2]
    · isplitl [HS0]
      · iexact HS0
      isplitl [HS1]
      · iexact HS1
      unfold owns; iexists _; isplitr
      swap; · iexact HS2
      ipureintro; exact View.read_writes_of_cover _ _ _ _ _ (scover0_C_2 m c t h0 h1 h2 (prev0 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_C_12 m c t h0 h1 h2 (prev0 m c t))
  isplitl [H13]; · iexact H13
  isplitl [H14]
  · unfold owns; iexists _; isplitr
    swap; · iexact H14
    ipureintro; exact View.read_writes_of_cover _ _ _ _ _ (cover0_C_14 m c t h0 h1 h2 (prev0 m c t))
  isplitl [H15]
  · unfold owns; iexists _; isplitr
    swap; · iexact H15
    ipureintro; exact View.read_writes_of_cover _ _ _ _ _ (cover0_C_15 m c t h0 h1 h2 (prev0 m c t))
  isplitl [H16]
  · unfold owns; iexists _; isplitr
    swap; · iexact H16
    ipureintro; exact View.read_writes_of_cover _ _ _ _ _ (cover0_C_16 m c t h0 h1 h2 (prev0 m c t))
  unfold owns; iexists _; isplitr
  swap; · iexact H17
  ipureintro; rfl

end Cert.FfnBwdIdeal.Gen

end
-- ==== Proof.FfnBwdFrame.SoundD.lean ====
/- The body at the first point of every row tile but the first meets what the pipeline asks of it. -/
module

public import proofs.«01_k».proof.Proof.FfnBwdFrame.Outs

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 32000000 in
/-- The body at the first point of every row tile but the first: from the blocks of the point and what the point before left, the run ends
    with the contents stated for the point. -/
theorem sound_D (c : Dev nD) (t : Fin cfg0.N) (h0 : ¬t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_14, leaves0_15, leaves0_16]
  have hN : t.val < 128 := lt_of_lt_of_eq t.isLt (show cfg0.N = 128 from N_0)
  rw [Dat.leavesExact_idle (dats m 0 c) 12 t (idleAt0_12_D t (fun h => h0 ((hcond0_0 t).mp h)) ((hcond0_1 t).mpr h1) (fun h => h2 ((hcond0_2 t).mp h))) (noFlush0_12_D t (fun h => h0 ((hcond0_0 t).mp h)) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_D t (fun h => h0 ((hcond0_0 t).mp h)) ((hcond0_1 t).mpr h1) (fun h => h2 ((hcond0_2 t).mp h))], after0_13]
  rw [show (dats m 0 c).leavesExact 17 t = owns (c : Thread nD τ) (ms0_17 t) fullShare ((dats m 0 c).after 17 t) from by
    unfold Dat.leavesExact; rw [liveAt0_17_D t (fun h => h0 ((hcond0_0 t).mp h)) ((hcond0_1 t).mpr h1) (fun h => h2 ((hcond0_2 t).mp h))], after0_17]
  have hz : t.val ≠ 0 := by omega
  rw [PhiS_castSucc m c t, PhiS_pos m c _ _ hz]
  rw [outsAt0_D m c t h0 h1 h2]
  simp only [before0_17_D m c t h0 h1 h2]
  dsimp only [outsD]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runD m c t h0 h1 h2 (prev0 m c t)).2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexact H17
  isplitl [HS0]; · iexists _; iexact HS0
  isplitl [HS1]; · iexists _; iexact HS1
  isplitl [HS2]; · iexists _; iexact HS2
  iintro ⟨H0, H1, H2, H3, H4, H5, H6, H7, H8, H9, H10, H11, H12, ⟨%e13, H13⟩, ⟨%e14, H14⟩, ⟨%e15, H15⟩, ⟨%e16, H16⟩, H17, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_D_0 m c t h0 h1 h2 (prev0 m c t))
      isplitl [HS1]
      · unfold owns; iexists _; isplitr
        swap; · iexact HS1
        ipureintro; exact View.read_writes_of_cover _ _ _ _ _ (scover0_D_1 m c t h0 h1 h2 (prev0 m c t))
      unfold owns; iexists _; isplitr
      swap; · iexact HS2
      ipureintro; exact View.read_writes_of_cover _ _ _ _ _ (scover0_D_2 m c t h0 h1 h2 (prev0 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]
  · unfold owns; iexists _; isplitr
    swap; · iexact H13
    ipureintro; exact View.read_writes_of_cover _ _ _ _ _ (cover0_D_13 m c t h0 h1 h2 (prev0 m c t))
  isplitl [H14]
  · unfold owns; iexists _; isplitr
    swap; · iexact H14
    ipureintro; exact View.read_writes_of_cover _ _ _ _ _ (cover0_D_14 m c t h0 h1 h2 (prev0 m c t))
  isplitl [H15]
  · unfold owns; iexists _; isplitr
    swap; · iexact H15
    ipureintro; exact View.read_writes_of_cover _ _ _ _ _ (cover0_D_15 m c t h0 h1 h2 (prev0 m c t))
  isplitl [H16]
  · unfold owns; iexists _; isplitr
    swap; · iexact H16
    ipureintro; exact View.read_writes_of_cover _ _ _ _ _ (cover0_D_16 m c t h0 h1 h2 (prev0 m c t))
  unfold owns; iexists _; isplitr
  swap; · iexact H17
  ipureintro; rfl

end Cert.FfnBwdIdeal.Gen

end
-- ==== Proof.FfnBwdFrame.Frame.lean ====
/- The run of the whole program and the frame. -/
module

public import proofs.«01_k».proof.Proof.FfnBwdFrame.SoundA
public import proofs.«01_k».proof.Proof.FfnBwdFrame.SoundB
public import proofs.«01_k».proof.Proof.FfnBwdFrame.SoundC
public import proofs.«01_k».proof.Proof.FfnBwdFrame.SoundD

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The body at any grid point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 4 = 0
  · by_cases h0 : t.val % 128 = 0
    · exact sound_A m c t h0 h1 (by omega)
    · exact sound_D m c t h0 h1 (by omega)
  · by_cases h2 : t.val % 4 = 3
    · exact sound_C m c t (by omega) h1 h2
    · exact sound_B m c t (by omega) h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every execution terminates, with every array of the pipeline at what its points leave,
    every other buffer as the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every execution terminates, with every array of the pipeline at what its points
    leave and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept_of m (dats m) (A_eq m) r h c) (run_main m ρ)

/-- Every execution ends with the argument arrays as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnBwdIdeal.Gen

end
-- ==== Proof.Norm.Rows.lean ====
/- An array of eight rows stored and loaded one row at a time. -/
module

public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Norm

open Idealize.ShloMosaic Idealize.ShloMosaic.TcCoe Idealize.SL.Sem

/-- A one-row piece last stored, read on its row. -/
theorem row_hit (k : ℕ) (h) (v : FVec Ideal ⟨2, ![1, 1024]⟩ .f32) (L : List (View.Piece (Elt Ideal) ⟨2, ![8, 1024]⟩ .f32))
    (j : (⟨2, ![8, 1024]⟩ : Shape).Idx) (hj : (j 0).val = k) :
    View.canon (Val := Elt Ideal) (s := ⟨2, ![8, 1024]⟩) (e := .f32) (⟨Rect.unit ![k, 0] ![1, 1024] h, v⟩ :: L) j = v (ix2 0 (j 1)) := by
  have e : (Rect.unit (s := ⟨2, ![8, 1024]⟩) ![k, 0] ![1, 1024] h).emb (ix2 0 (j 1)) = j :=
    funext fun a => Fin.ext (by
      match a with
      | ⟨0, _⟩ => show k + 1 * 0 = (j 0).val; omega
      | ⟨1, _⟩ => show 0 + 1 * (j 1).val = (j 1).val; omega)
  exact (congrArg _ e.symm).trans (View.canon_cons_emb (Val := Elt Ideal) (s := ⟨2, ![8, 1024]⟩) (e := .f32)
    (Rect.unit ![k, 0] ![1, 1024] h) v L (ix2 0 (j 1)))

/-- A one-row piece last stored, read off its row. -/
theorem row_miss (k : ℕ) (h) (v : FVec Ideal ⟨2, ![1, 1024]⟩ .f32) (L : List (View.Piece (Elt Ideal) ⟨2, ![8, 1024]⟩ .f32))
    (j : (⟨2, ![8, 1024]⟩ : Shape).Idx) (hj : ¬(j 0).val = k) :
    View.canon (Val := Elt Ideal) (s := ⟨2, ![8, 1024]⟩) (e := .f32) (⟨Rect.unit ![k, 0] ![1, 1024] h, v⟩ :: L) j
      = View.canon (Val := Elt Ideal) (s := ⟨2, ![8, 1024]⟩) (e := .f32) L j :=
  View.canon_cons_of_not_mem _ _ (by
    intro hm
    have h1 : k ≤ (j 0).val ∧ (j 0).val < k + 1 := ((Rect.mem_set_unit (inb := h)).1 hm) 0
    omega)

/-- A loaded row reads the buffer's row. -/
theorem row_ld (k : ℕ) (h) (X : FVec Ideal ⟨2, ![8, 1024]⟩ .f32) (j : (⟨2, ![8, 1024]⟩ : Shape).Idx) (hj : (j 0).val = k) :
    (View.ld (Val := Elt Ideal) (S := ⟨2, ![8, 1024]⟩) (e' := .f32) X (Rect.unit ![k, 0] ![1, 1024] h)
      : FVec Ideal ⟨2, ![1, 1024]⟩ .f32) (ix2 0 (j 1)) = X j :=
  View.ld_unit_apply_of _ _ _ _ _ j (fun a => by
    match a with
    | ⟨0, _⟩ => exact hj
    | ⟨1, _⟩ => exact (Nat.zero_add _).symm)

end Cert.Norm

end
-- ==== Proof.Ffn.Back.lean ====
/- The feed-forward sub-layer's gradient written with its arithmetic: every array its backward pass leaves, at a token and a channel. -/
module

public import proofs.«01_k».proof.Proof.Ffn.Spec

@[expose] public section

set_option maxRecDepth 16384

noncomputable section

namespace Cert.Ffn.Spec

open Idealize.ShloMosaic Idealize.ShloMosaic.TcCoe
open Cert.Norm
open Cert.Mix.Spec (len eps alpha negHalf two len_eq eps_eq alpha_real negHalf_eq two_eq)
open scoped BigOperators

variable (a : Args) (g : FVec Ideal ⟨2, ![16384, 1024]⟩ .f32)

/-- The gradient of the normalised row, from the gradient of the layer's output. -/
def dy (r : Fin 16384) (j : Fin 1024) : EReal := g (ix2 r j) * a.ln (ix2 2 j)

/-- The gradient of the row. -/
def dr (r : Fin 16384) (j : Fin 1024) : EReal := closed (row a r) (dy a g r) len eps j

/-- The gradient of the sub-layer's output. -/
def dt (r : Fin 16384) (j : Fin 1024) : EReal := a.md (ix2 5 j) * dr a g r j

/-- The gradient of the hidden activations. -/
def df (r : Fin 16384) (h : Fin 2816) : EReal := ∑ l : Fin 1024, dt a g r l * a.wd (ix2 h l)

/-- The gate's logistic function. -/
def sg (r : Fin 16384) (h : Fin 2816) : EReal := Ideal.logistic (gate a r h)

/-- The gradient of the gate's product. -/
def da (r : Fin 16384) (h : Fin 2816) : EReal := df a g r h * up a r h * (sg a r h * (1 + gate a r h * (1 - sg a r h)))

/-- The gradient of the product the gate multiplies. -/
def db (r : Fin 16384) (h : Fin 2816) : EReal := df a g r h * silu a r h

/-- The gradient of the conditioned input. -/
def du (r : Fin 16384) (j : Fin 1024) : EReal := (∑ h : Fin 2816, da a g r h * a.wg (ix2 j h)) + ∑ h : Fin 2816, db a g r h * a.wu (ix2 j h)

/-- The gradient of the sub-layer's input. -/
def dx (r : Fin 16384) (j : Fin 1024) : EReal := alpha * dr a g r j + du a g r j * (1 + a.md (ix2 4 j))

/-- The rows of sums: the layer norm's scale and shift, the conditioning's gate, scale and shift; the other rows nothing. -/
def sums (j : Fin 8) (d : Fin 1024) : EReal :=
  if j.val = 0 then ∑ r, g (ix2 r d) * xhat a r d
  else if j.val = 1 then ∑ r, g (ix2 r d)
  else if j.val = 2 then ∑ r, dr a g r d * t a r d
  else if j.val = 3 then ∑ r, du a g r d * a.x (ix2 r d)
  else if j.val = 4 then ∑ r, du a g r d
  else 0

/-- Every array the gradient reads is finite. -/
structure Finite : Prop where
  g : ∀ r j, IsReal (g (ix2 r j))
  x : ∀ r j, IsReal (a.x (ix2 r j))
  md3 : ∀ j, IsReal (a.md (ix2 3 j))
  md4 : ∀ j, IsReal (a.md (ix2 4 j))
  md5 : ∀ j, IsReal (a.md (ix2 5 j))
  ln : ∀ j, IsReal (a.ln (ix2 2 j))
  wg : ∀ r j, IsReal (a.wg (ix2 r j))
  wu : ∀ r j, IsReal (a.wu (ix2 r j))
  wd : ∀ r j, IsReal (a.wd (ix2 r j))

variable {a g}

theorem isReal_one : IsReal (1 : EReal) := ⟨1, by norm_num⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mean {x : EReal} (hx : IsReal x) : IsReal (Ideal.div x len) := by
  rw [len_eq, Ideal.div_coe (by norm_num)]; exact hx.mul ⟨_, rfl⟩

/-- The distance from the mean of a row of real numbers is a real number. -/
theorem isReal_dev {R : Fin 1024 → EReal} (hR : ∀ k, IsReal (R k)) (k : Fin 1024) : IsReal (dev R len k) :=
  isReal_sub (hR k) (isReal_mean (IsReal.sum _ hR))

/-- The reciprocal deviation of a row of real numbers is a real number: the added constant keeps the variance above zero. -/
theorem isReal_rstd {R : Fin 1024 → EReal} (hR : ∀ k, IsReal (R k)) : IsReal (rstd R len eps) := by
  obtain ⟨ε, he, hε⟩ := eps_eq
  choose d hd using isReal_dev hR
  have hv : var R len eps = (((∑ k, d k * d k) * (1 / ((1024 : ℕ) : ℝ)) + ε : ℝ) : EReal) := by
    simp only [var, hd, ← EReal.coe_mul]
    rw [sum_coe, len_eq, Ideal.div_coe (by norm_num), he, ← EReal.coe_mul, ← EReal.coe_add]
  have hpos : 0 < (∑ k, d k * d k) * (1 / ((1024 : ℕ) : ℝ)) + ε := by
    have : 0 ≤ ∑ k, d k * d k := Finset.sum_nonneg fun k _ => mul_self_nonneg _
    positivity
  rw [rstd, hv, Ideal.rsqrt_coe, if_neg (not_lt.mpr hpos.le), if_neg hpos.ne']
  exact ⟨_, rfl⟩

/-- The gradient of a row of real numbers is a real number. -/
theorem isReal_closed {R G : Fin 1024 → EReal} (hR : ∀ k, IsReal (R k)) (hG : ∀ k, IsReal (G k)) (j : Fin 1024) :
    IsReal (closed R G len eps j) :=
  have hh (k : Fin 1024) : IsReal (hat R len eps k) := (isReal_dev hR k).mul (isReal_rstd hR)
  (isReal_rstd hR).mul (isReal_sub (isReal_sub (hG j) (isReal_mean (IsReal.sum _ hG)))
    ((hh j).mul (isReal_mean (IsReal.sum _ fun k => (hG k).mul (hh k)))))

theorem Finite.u (h : Finite a g) (r : Fin 16384) (j : Fin 1024) : IsReal (u a r j) :=
  ((h.x r j).mul (isReal_one.add (h.md4 j))).add (h.md3 j)

theorem Finite.gate (h : Finite a g) (r : Fin 16384) (k : Fin 2816) : IsReal (gate a r k) :=
  IsReal.sum _ fun l => (h.u r l).mul (h.wg l k)

theorem Finite.up (h : Finite a g) (r : Fin 16384) (k : Fin 2816) : IsReal (up a r k) :=
  IsReal.sum _ fun l => (h.u r l).mul (h.wu l k)

theorem Finite.row (h : Finite a g) (r : Fin 16384) (j : Fin 1024) : IsReal (row a r j) :=
  (alpha_real.mul (h.x r j)).add ((h.md5 j).mul (IsReal.sum _ fun k =>
    (((h.gate r k).mul (IsReal.logistic _)).mul (h.up r k)).mul (h.wd k j)))

/-- The closed form is the chain rule on the rows of finite arrays. -/
theorem Finite.dr_eq (h : Finite a g) (r : Fin 16384) (j : Fin 1024) :
    dr a g r j = chain (Spec.row a r) (dy a g r) len eps negHalf two j := by
  obtain ⟨ε, he, hε⟩ := eps_eq
  exact closed_eq_chain _ _ _ _ _ _ ε (by norm_num) len_eq he hε negHalf_eq two_eq (h.row r) (fun k => (h.g r k).mul (h.ln k)) j

/-- The gradient of the row is a real number. -/
theorem Finite.dr (h : Finite a g) (r : Fin 16384) (j : Fin 1024) : IsReal (dr a g r j) :=
  isReal_closed (h.row r) (fun k => (h.g r k).mul (h.ln k)) j

theorem Finite.df (h : Finite a g) (r : Fin 16384) (k : Fin 2816) : IsReal (df a g r k) :=
  IsReal.sum _ fun l => ((h.md5 l).mul (h.dr r l)).mul (h.wd k l)

/-- The gate's derivative spelt as the product rule gives it. -/
theorem gate_rule {f b s w : EReal} (hf : IsReal f) (hb : IsReal b) (hs : IsReal s) (hw : IsReal w) :
    f * b * (s * (1 + w * (1 - s))) = f * b * s + w * (f * b) * (s * (1 - s)) := by
  obtain ⟨f, rfl⟩ := hf; obtain ⟨b, rfl⟩ := hb; obtain ⟨s, rfl⟩ := hs; obtain ⟨w, rfl⟩ := hw
  rw [show (1 : EReal) = ((1 : ℝ) : EReal) from rfl]
  simp only [← EReal.coe_mul, ← EReal.coe_add, ← EReal.coe_sub]
  exact congrArg _ (by ring)

theorem Finite.da_eq (h : Finite a g) (r : Fin 16384) (k : Fin 2816) :
    da a g r k = Spec.df a g r k * Spec.up a r k * sg a r k + Spec.gate a r k * (Spec.df a g r k * Spec.up a r k) * (sg a r k * (1 - sg a r k)) :=
  gate_rule (h.df r k) (h.up r k) (IsReal.logistic _) (h.gate r k)

end Cert.Ffn.Spec

end
-- ==== Proof.FfnBwd.Tile.lean ====
/- What each grid point of the feed-forward gradient reads, and its steps as tiles of the arithmetic's arrays. -/
module

public import proofs.«01_k».proof.Proof.FfnBwdFrame.Points
public import proofs.«01_k».proof.Proof.Ffn.Back
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FfnBwdIdeal.Val

open Cert.FfnBwdIdeal Cert.FfnBwdIdeal.Gen
open Idealize.ShloMosaic Idealize.ShloMosaic.TcCoe Idealize.SL.Sem
open Idealize.ShloMosaic.Pipeline (Dat)
open Cert.Ffn.Spec
open Cert.Mix.Spec (len eps alpha)
open scoped BigOperators

variable (m : (ℓ : Loc nD τ sig) → Buf (Elt Ideal) ℓ)

/-- The arrays a device starts with. -/
def args (c : Dev nD) : Args where
  x := m ((c : Thread nD τ).loc main_arg1)
  md := m ((c : Thread nD τ).loc main_arg2)
  ln := m ((c : Thread nD τ).loc main_arg3)
  wg := m ((c : Thread nD τ).loc main_arg4)
  wu := m ((c : Thread nD τ).loc main_arg5)
  wd := m ((c : Thread nD τ).loc main_arg6)

/-- The gradient of the layer's output a device starts with. -/
def grad (c : Dev nD) : FVec Ideal S16384x1024 .f32 := m ((c : Thread nD τ).loc main_arg0)

/-- The block each window holds at a grid point: the token tile is the point over four, the hidden panel its remainder. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 0] ∧ win0_5.index t = ![t.val % 4, t.val / 4, 0]
    ∧ win0_6.index t = ![t.val % 4, t.val / 4, 0] ∧ win0_7.index t = ![0, 0] ∧ win0_8.index t = ![0, 0]
    ∧ win0_9.index t = ![t.val % 4, 0, 0] ∧ win0_10.index t = ![t.val % 4, 0, 0] ∧ win0_11.index t = ![t.val % 4, 0, 0]
    ∧ win0_12.index t = ![t.val / 4, 0] ∧ win0_13.index t = ![t.val / 4, 0] ∧ win0_14.index t = ![t.val % 4, t.val / 4, 0]
    ∧ win0_15.index t = ![t.val % 4, t.val / 4, 0] ∧ win0_16.index t = ![t.val % 4, t.val / 4, 0] ∧ win0_17.index t = ![0, 0] :=
  (by decide +kernel : ∀ t : Fin grid0.N, _)

/-- The token row a tile's row is. -/
def tok (t : Fin cfg0.N) (i : Fin 512) : Fin 16384 :=
  ⟨t.val / 4 * 512 + i.val, by have := t.isLt; have h : (cfg0.N : ℕ) = 128 := N_0; omega⟩

/-- The hidden panel of a grid point. -/
def pan (t : Fin cfg0.N) : Fin 4 := ⟨t.val % 4, by omega⟩

/-- One tile of an array given at a token and a channel. -/
def tile {w : ℕ} (f : Fin 16384 → Fin w → EReal) (t : Fin cfg0.N) (j : (⟨2, ![512, w]⟩ : Shape).Idx) : EReal := f (tok t (j 0)) (j 1)

/-- One tile of one panel of an array given at a token and a hidden column. -/
def htile (f : Fin 16384 → Fin 2816 → EReal) (t : Fin cfg0.N) (j : S512x704.Idx) : EReal := f (tok t (j 0)) (col (pan t) (j 1))

/-- The normalised rows the host prepares. -/
theorem host_xhat (c : Dev nD) (i : S16384x1024.Idx) : (V m c main_v36 i : EReal) = xhat (args m c) (i 0) (i 1) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise [xhat, Cert.Norm.hat, Cert.Norm.rstd, Cert.Norm.var, Cert.Norm.dev, row, Cert.Ffn.Spec.t, hid, silu, gate, up, u, Ideal.logistic,
    len, eps, alpha, args]

/-- The reciprocal deviations the host prepares, repeated over the lanes. -/
theorem host_rs (c : Dev nD) (i : S16384x128.Idx) : (V m c main_v41 i : EReal) = rs (args m c) (i 0) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise [rs, Cert.Norm.rstd, Cert.Norm.var, Cert.Norm.dev, row, Cert.Ffn.Spec.t, hid, silu, gate, up, u, Ideal.logistic, len, eps, alpha, args]

/-- The sub-layer's output the host prepares. -/
theorem host_t (c : Dev nD) (i : S16384x1024.Idx) : (V m c main_v42 i : EReal) = Cert.Ffn.Spec.t (args m c) (i 0) (i 1) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise [Cert.Ffn.Spec.t, hid, silu, gate, up, u, Ideal.logistic, args]

/-- The gate's product the host prepares, panel by panel. -/
theorem host_gate (c : Dev nD) (p : Fin 4) (r : Fin 16384) (q : Fin 704) :
    (V m c main_v44 (ix3 p r q) : EReal) = gate (args m c) r (col p q) := by
  simp only [V, hostOps0, hostOps0_1, hostOps0_2, List.flatten_cons, List.flatten_nil, List.append_nil, List.cons_append, List.nil_append]
  entry_read
  pointwise [gate, u, args, col]

/-- The product the gate multiplies, panel by panel. -/
theorem host_up (c : Dev nD) (p : Fin 4) (r : Fin 16384) (q : Fin 704) :
    (V m c main_v46 (ix3 p r q) : EReal) = up (args m c) r (col p q) := by
  simp only [V, hostOps0, hostOps0_1, hostOps0_2, List.flatten_cons, List.flatten_nil, List.append_nil, List.cons_append, List.nil_append]
  entry_read
  pointwise [up, u, args, col]

theorem host_md4 (c : Dev nD) (d : Fin 1024) : (V m c main_v38 (ix2 4 d) : EReal) = (args m c).md (ix2 4 d) := by
  simp only [V, hostOps0, hostOps0_1, hostOps0_2, List.flatten_cons, List.flatten_nil, List.append_nil, List.cons_append, List.nil_append]
  entry_read
  pointwise
  rfl

theorem host_md5 (c : Dev nD) (d : Fin 1024) : (V m c main_v38 (ix2 5 d) : EReal) = (args m c).md (ix2 5 d) := by
  simp only [V, hostOps0, hostOps0_1, hostOps0_2, List.flatten_cons, List.flatten_nil, List.append_nil, List.cons_append, List.nil_append]
  entry_read
  pointwise
  rfl

theorem host_ln2 (c : Dev nD) (d : Fin 1024) : (V m c main_v40 (ix2 2 d) : EReal) = (args m c).ln (ix2 2 d) := by
  simp only [V, hostOps0, hostOps0_1, hostOps0_2, List.flatten_cons, List.flatten_nil, List.append_nil, List.cons_append, List.nil_append]
  entry_read
  pointwise
  rfl

theorem host_wg (c : Dev nD) (p : Fin 4) (l : Fin 1024) (q : Fin 704) :
    (V m c main_v49 (ix3 p l q) : EReal) = (args m c).wg (ix2 l (col p q)) := by
  simp only [V, hostOps0, hostOps0_1, hostOps0_2, List.flatten_cons, List.flatten_nil, List.append_nil, List.cons_append, List.nil_append]
  entry_read
  pointwise
  rfl

theorem host_wu (c : Dev nD) (p : Fin 4) (l : Fin 1024) (q : Fin 704) :
    (V m c main_v52 (ix3 p l q) : EReal) = (args m c).wu (ix2 l (col p q)) := by
  simp only [V, hostOps0, hostOps0_1, hostOps0_2, List.flatten_cons, List.flatten_nil, List.append_nil, List.cons_append, List.nil_append]
  entry_read
  pointwise
  rfl

theorem host_wd (c : Dev nD) (p : Fin 4) (q : Fin 704) (d : Fin 1024) :
    (V m c main_v54 (ix3 p q d) : EReal) = (args m c).wd (ix2 (col p q) d) := by
  simp only [V, hostOps0, hostOps0_1, hostOps0_2, List.flatten_cons, List.flatten_nil, List.append_nil, List.cons_append, List.nil_append]
  entry_read
  pointwise
  rfl

theorem b0 (c : Dev nD) (t : Fin cfg0.N) : iblk m c 0 t = tile (fun r j => grad m c (ix2 r j)) t := by
  funext j
  have e := idx t
  blk_point [iblk, V, e, tile, tok, grad]

theorem b1 (c : Dev nD) (t : Fin cfg0.N) : iblk m c 1 t = tile (xhat (args m c)) t := by
  funext j
  have e := idx t
  refine Eq.trans ?_ (host_xhat m c (ix2 (tok t (j 0)) (j 1)))
  blk_ext [iblk, e, tok]

theorem b2 (c : Dev nD) (t : Fin cfg0.N) : iblk m c 2 t = tile (w := 128) (fun r _ => rs (args m c) r) t := by
  funext j
  have e := idx t
  refine Eq.trans ?_ (host_rs m c (ix2 (tok t (j 0)) (j 1)))
  blk_ext [iblk, e, tok]

theorem b3 (c : Dev nD) (t : Fin cfg0.N) : iblk m c 3 t = tile (Cert.Ffn.Spec.t (args m c)) t := by
  funext j
  have e := idx t
  refine Eq.trans ?_ (host_t m c (ix2 (tok t (j 0)) (j 1)))
  blk_ext [iblk, e, tok]

theorem b4 (c : Dev nD) (t : Fin cfg0.N) : iblk m c 4 t = tile (fun r j => (args m c).x (ix2 r j)) t := by
  funext j
  have e := idx t
  blk_point [iblk, V, e, tile, tok, args]

theorem b5 (c : Dev nD) (t : Fin cfg0.N) (i : Fin 512) (q : Fin 704) :
    (iblk m c 5 t (ix3 0 i q) : EReal) = gate (args m c) (tok t i) (col (pan t) q) := by
  have e := idx t
  refine Eq.trans ?_ (host_gate m c (pan t) (tok t i) q)
  blk_ext [iblk, e, pan, tok]

theorem b6 (c : Dev nD) (t : Fin cfg0.N) (i : Fin 512) (q : Fin 704) :
    (iblk m c 6 t (ix3 0 i q) : EReal) = up (args m c) (tok t i) (col (pan t) q) := by
  have e := idx t
  refine Eq.trans ?_ (host_up m c (pan t) (tok t i) q)
  blk_ext [iblk, e, pan, tok]

theorem b7 (c : Dev nD) (t : Fin cfg0.N) (d : Fin 1024) : (iblk m c 7 t (ix2 4 d) : EReal) = (args m c).md (ix2 4 d) := by
  have e := idx t
  refine Eq.trans ?_ (host_md4 m c d)
  blk_ext [iblk, e]

theorem b7' (c : Dev nD) (t : Fin cfg0.N) (d : Fin 1024) : (iblk m c 7 t (ix2 5 d) : EReal) = (args m c).md (ix2 5 d) := by
  have e := idx t
  refine Eq.trans ?_ (host_md5 m c d)
  blk_ext [iblk, e]

theorem b8 (c : Dev nD) (t : Fin cfg0.N) (d : Fin 1024) : (iblk m c 8 t (ix2 2 d) : EReal) = (args m c).ln (ix2 2 d) := by
  have e := idx t
  refine Eq.trans ?_ (host_ln2 m c d)
  blk_ext [iblk, e]

theorem b9 (c : Dev nD) (t : Fin cfg0.N) (l : Fin 1024) (q : Fin 704) :
    (iblk m c 9 t (ix3 0 l q) : EReal) = (args m c).wg (ix2 l (col (pan t) q)) := by
  have e := idx t
  refine Eq.trans ?_ (host_wg m c (pan t) l q)
  blk_ext [iblk, e, pan]

theorem b10 (c : Dev nD) (t : Fin cfg0.N) (l : Fin 1024) (q : Fin 704) :
    (iblk m c 10 t (ix3 0 l q) : EReal) = (args m c).wu (ix2 l (col (pan t) q)) := by
  have e := idx t
  refine Eq.trans ?_ (host_wu m c (pan t) l q)
  blk_ext [iblk, e, pan]

theorem b11 (c : Dev nD) (t : Fin cfg0.N) (q : Fin 704) (d : Fin 1024) :
    (iblk m c 11 t (ix3 0 q d) : EReal) = (args m c).wd (ix2 (col (pan t) q) d) := by
  have e := idx t
  refine Eq.trans ?_ (host_wd m c (pan t) q d)
  blk_ext [iblk, e, pan]

/-- The gradient of the row on a tile. -/
theorem p8 (c : Dev nD) (t : Fin cfg0.N) (q2 q8) :
    k0_pay8 (F := Ideal) (iblk m c 0 t) (iblk m c 1 t) (View.ld (iblk m c 2 t) (Rect.unit ![0, 0] ![512, 1] q2))
        (View.ld (iblk m c 8 t) (Rect.unit ![2, 0] ![1, 1024] q8)) = tile (dr (args m c) (grad m c)) t := by
  funext j
  pointwise [k0_pay8, k0_pay7, b2, b8, b0, b1, tile, dr, Cert.Norm.closed, dy, len, rs, xhat]

/-- The gradient of the sub-layer's output on a tile. -/
theorem p13 (c : Dev nD) (t : Fin cfg0.N) (q7) :
    k0_pay13 (F := Ideal) (tile (dr (args m c) (grad m c)) t) (View.ld (iblk m c 7 t) (Rect.unit ![5, 0] ![1, 1024] q7))
      = tile (dt (args m c) (grad m c)) t := by
  funext j
  pointwise [k0_pay13, b7', tile, dt]

/-- The same, as it is stored in the output. -/
theorem p14 (c : Dev nD) (t : Fin cfg0.N) (q7) :
    k0_pay14 (F := Ideal) (tile (dr (args m c) (grad m c)) t) (View.ld (iblk m c 7 t) (Rect.unit ![5, 0] ![1, 1024] q7))
      = tile (dt (args m c) (grad m c)) t := by
  funext j
  pointwise [k0_pay14, p13, tile]

/-- Storing the gradient of the row keeps it. -/
theorem p15 (v : FVec Ideal S512x1024 .f32) : k0_pay15 (F := Ideal) v = v := by
  funext j
  pointwise [k0_pay15]

/-- The gradient of the hidden activations on a tile of a panel. -/
theorem p17 (c : Dev nD) (t : Fin cfg0.N) :
    k0_pay17 (F := Ideal) (tile (dt (args m c) (grad m c)) t) (iblk m c 11 t) = htile (df (args m c) (grad m c)) t := by
  funext j
  pointwise [k0_pay17, b11, tile, htile, df]

theorem p18 (c : Dev nD) (t : Fin cfg0.N) : k0_pay18 (F := Ideal) (iblk m c 5 t) = htile (gate (args m c)) t := by
  funext j
  pointwise [k0_pay18, b5, htile]

theorem p19 (c : Dev nD) (t : Fin cfg0.N) : k0_pay19 (F := Ideal) (iblk m c 6 t) = htile (up (args m c)) t := by
  funext j
  pointwise [k0_pay19, b6, htile]

theorem p20 (c : Dev nD) (t : Fin cfg0.N) : k0_pay20 (F := Ideal) (iblk m c 5 t) = htile (sg (args m c)) t := by
  funext j
  pointwise [k0_pay20, p18, htile, sg]

theorem p21 (c : Dev nD) (t : Fin cfg0.N) : k0_pay21 (F := Ideal) (iblk m c 5 t) = htile (silu (args m c)) t := by
  funext j
  pointwise [k0_pay21, p18, p20, htile, silu, sg]

/-- The gradient of the gate's product on a tile of a panel. -/
theorem p22 (c : Dev nD) (t : Fin cfg0.N) :
    k0_pay22 (F := Ideal) (tile (dt (args m c) (grad m c)) t) (iblk m c 11 t) (iblk m c 5 t) (iblk m c 6 t)
      = htile (da (args m c) (grad m c)) t := by
  funext j
  pointwise [k0_pay22, p17, p18, p19, p20, htile, da]

/-- The gradient of the product the gate multiplies on a tile of a panel. -/
theorem p23 (c : Dev nD) (t : Fin cfg0.N) :
    k0_pay23 (F := Ideal) (tile (dt (args m c) (grad m c)) t) (iblk m c 11 t) (iblk m c 5 t) = htile (db (args m c) (grad m c)) t := by
  funext j
  pointwise [k0_pay23, p17, p21, htile, db]

theorem p24 (c : Dev nD) (t : Fin cfg0.N) (j : S1x512x704.Idx) :
    k0_pay24 (F := Ideal) (tile (dt (args m c) (grad m c)) t) (iblk m c 11 t) (iblk m c 5 t) (iblk m c 6 t) j
      = da (args m c) (grad m c) (tok t (j 1)) (col (pan t) (j 2)) := by
  pointwise [k0_pay24, p22, htile]

theorem p1 (c : Dev nD) (t : Fin cfg0.N) (j : S1x512x704.Idx) :
    k0_pay1 (F := Ideal) (htile (db (args m c) (grad m c)) t) j = db (args m c) (grad m c) (tok t (j 1)) (col (pan t) (j 2)) := by
  pointwise [k0_pay1, htile]

theorem p2 (c : Dev nD) (t : Fin cfg0.N) (j : S1x512x704.Idx) :
    k0_pay2 (F := Ideal) (htile (up (args m c)) t) (htile (silu (args m c)) t) j = hid (args m c) (tok t (j 1)) (col (pan t) (j 2)) := by
  pointwise [k0_pay2, htile, hid]

/-- The cleared accumulator is zero. -/
theorem p16 (j : S512x1024.Idx) : k0_pay16 (F := Ideal) j = (0 : EReal) := by
  pointwise [k0_pay16]

/-- One panel's step adds the panel's part of the gradient of the conditioned input. -/
theorem p3 (c : Dev nD) (t : Fin cfg0.N) (acc : FVec Ideal S512x1024 .f32) (j : S512x1024.Idx) :
    k0_pay3 (F := Ideal) (htile (da (args m c) (grad m c)) t) (htile (db (args m c) (grad m c)) t) acc (iblk m c 9 t) (iblk m c 10 t) j
      = acc j + ((∑ q : Fin 704, da (args m c) (grad m c) (tok t (j 0)) (col (pan t) q) * (args m c).wg (ix2 (j 1) (col (pan t) q)))
        + ∑ q : Fin 704, db (args m c) (grad m c) (tok t (j 0)) (col (pan t) q) * (args m c).wu (ix2 (j 1) (col (pan t) q))) := by
  pointwise [k0_pay3, b9, b10, htile]

/-- The gradient of the sub-layer's input on a tile. -/
theorem p4 (c : Dev nD) (t : Fin cfg0.N) (q7) :
    k0_pay4 (F := Ideal) (tile (du (args m c) (grad m c)) t) (tile (dr (args m c) (grad m c)) t)
        (View.ld (iblk m c 7 t) (Rect.unit ![4, 0] ![1, 1024] q7)) = tile (dx (args m c) (grad m c)) t := by
  funext j
  pointwise [k0_pay4, b7, tile, dx, alpha]

/-- A row of sums takes a tile's column sums of the products. -/
theorem p5 (f g : Fin 16384 → Fin 1024 → EReal) (t : Fin cfg0.N) (v) (d : Fin 1024) :
    k0_pay5 (F := Ideal) (tile f t) v (tile g t) (ix2 0 d) = v (ix2 0 d) + ∑ i : Fin 512, f (tok t i) d * g (tok t i) d := by
  pointwise [k0_pay5, tile]

theorem p6 (f : Fin 16384 → Fin 1024 → EReal) (t : Fin cfg0.N) (v) (d : Fin 1024) :
    k0_pay6 (F := Ideal) (tile f t) v (ix2 0 d) = v (ix2 0 d) + ∑ i : Fin 512, f (tok t i) d := by
  pointwise [k0_pay6, tile]

theorem p9 (f g : Fin 16384 → Fin 1024 → EReal) (t : Fin cfg0.N) (v) (d : Fin 1024) :
    k0_pay9 (F := Ideal) (tile f t) (tile g t) v (ix2 0 d) = v (ix2 0 d) + ∑ i : Fin 512, f (tok t i) d * g (tok t i) d := by
  pointwise [k0_pay9, k0_pay7, tile]

theorem p10 (f : Fin 16384 → Fin 1024 → EReal) (t : Fin cfg0.N) (v) (d : Fin 1024) :
    k0_pay10 (F := Ideal) (tile f t) v (ix2 0 d) = v (ix2 0 d) + ∑ i : Fin 512, f (tok t i) d := by
  pointwise [k0_pay10, tile]

theorem p12 (f g : Fin 16384 → Fin 1024 → EReal) (t : Fin cfg0.N) (v) (d : Fin 1024) :
    k0_pay12 (F := Ideal) (tile f t) v (tile g t) (ix2 0 d) = v (ix2 0 d) + ∑ i : Fin 512, f (tok t i) d * g (tok t i) d := by
  pointwise [k0_pay12, tile]

/-- The cleared rows of sums are zero. -/
theorem p11 (j : S8x1024.Idx) : k0_pay11 (F := Ideal) j = (0 : EReal) := by pointwise [k0_pay11]

end Cert.FfnBwdIdeal.Val

end
-- ==== Proof.FfnBwd.Leave.lean ====
/- What each grid point of the feed-forward gradient leaves in its panels' outputs and in its scratch. -/
module

public import proofs.«01_k».proof.Proof.FfnBwdFrame.Outs
public import proofs.«01_k».proof.Proof.FfnBwd.Tile

@[expose] public section

set_option maxRecDepth 16384

noncomputable section

namespace Cert.FfnBwdIdeal.Val

open Cert.FfnBwdIdeal Cert.FfnBwdIdeal.Gen
open Idealize.ShloMosaic Idealize.ShloMosaic.TcCoe Idealize.SL.Sem
open Idealize.ShloMosaic.Pipeline (Dat)
open Cert.Ffn.Spec
open scoped BigOperators

variable (m : (ℓ : Loc nD τ sig) → Buf (Elt Ideal) ℓ)

/-- A tile is the one of the point before, unless the point is the first of its row tile. -/
theorem tile_prev {w : ℕ} (f : Fin 16384 → Fin w → EReal) (t : Fin cfg0.N) (h : ¬t.val % 4 = 0) (h') :
    tile f ⟨t.val - 1, h'⟩ = tile f t := by
  funext j
  have e : tok ⟨t.val - 1, h'⟩ (j 0) = tok t (j 0) := Fin.ext (by simp only [tok]; omega)
  exact congrArg (f · (j 1)) e

/-- What a grid point keeps for the next: the two gradients of its row tile. -/
def Held (c : Dev nD) (t : Fin cfg0.N) (o : Outs Ideal) : Prop :=
  o.2.1 = tile (dt (args m c) (grad m c)) t ∧ o.2.2.2.2.2.2.1 = tile (dr (args m c) (grad m c)) t
    ∧ o.2.2.2.2.2.2.2.1 = tile (dt (args m c) (grad m c)) t

/-- The point before's, where it belongs to the same row tile. -/
theorem Held.prev {c : Dev nD} {t : Fin cfg0.N} (h : ¬t.val % 4 = 0) {h'} {o : Outs Ideal} (H : Held m c ⟨t.val - 1, h'⟩ o) : Held m c t o :=
  ⟨H.1.trans (tile_prev _ t h h'), H.2.1.trans (tile_prev _ t h h'), H.2.2.trans (tile_prev _ t h h')⟩

/-- The first point of a row tile computes them, the others keep them. -/
theorem held_step (c : Dev nD) (t : Fin cfg0.N) (ih : ¬t.val % 4 = 0 → Held m c t (prev0 m c t)) : Held m c t (outsAt0 m c t.val t.isLt) := by
  by_cases h1 : t.val % 4 = 0
  · by_cases h0 : t.val % 128 = 0
    · rw [outsAt0_A m c t h0 h1 (by omega)]
      refine ⟨?_, ?_, ?_⟩
      · dsimp only [outsA, runA]; frame_out; rw [p8, p13]
      · dsimp only [outsA, runA]; frame_out; rw [p8, p15]
      · dsimp only [outsA, runA]; frame_out; rw [p8, p14]
    · rw [outsAt0_D m c t h0 h1 (by omega)]
      refine ⟨?_, ?_, ?_⟩
      · dsimp only [outsD, runD]; frame_out; rw [p8, p13]
      · dsimp only [outsD, runD]; frame_out; rw [p8, p15]
      · dsimp only [outsD, runD]; frame_out; rw [p8, p14]
  · have H := ih h1
    by_cases h2 : t.val % 4 = 3
    · rw [outsAt0_C m c t (by omega) h1 h2]
      refine ⟨?_, ?_, ?_⟩
      · dsimp only [outsC]; exact H.1
      · dsimp only [outsC]; exact H.2.1
      · dsimp only [outsC]; exact H.2.2
    · rw [outsAt0_B m c t (by omega) h1 h2]
      refine ⟨?_, ?_, ?_⟩
      · dsimp only [outsB]; exact H.1
      · dsimp only [outsB]; exact H.2.1
      · dsimp only [outsB]; exact H.2.2

/-- Every point holds the gradients of its row tile. -/
theorem held (c : Dev nD) : ∀ (n : ℕ) (h : n < cfg0.N), Held m c ⟨n, h⟩ (outsAt0 m c n h)
  | 0, h => held_step m c ⟨0, h⟩ fun hn => absurd (Nat.zero_mod 4) hn
  | n + 1, h => held_step m c ⟨n + 1, h⟩ fun hn => Held.prev m hn (held c n (Nat.lt_of_succ_lt h))

/-- So does the point before, inside a row tile. -/
theorem held_prev (c : Dev nD) (t : Fin cfg0.N) (h : ¬t.val % 4 = 0) : Held m c t (prev0 m c t) :=
  Held.prev m h (held m c _ _)

/-- The gradient of the gate's product. -/
theorem out14 (c : Dev nD) (t : Fin cfg0.N) (j) :
    (outsAt0 m c t.val t.isLt).2.2.1 j = da (args m c) (grad m c) (tok t (j 1)) (col (pan t) (j 2)) := by
  by_cases h1 : t.val % 4 = 0
  · by_cases h0 : t.val % 128 = 0
    · rw [outsAt0_A m c t h0 h1 (by omega)]; dsimp only [outsA, runA]; frame_out; rw [p8, p14, p24]
    · rw [outsAt0_D m c t h0 h1 (by omega)]; dsimp only [outsD, runD]; frame_out; rw [p8, p14, p24]
  · have H := held_prev m c t h1
    by_cases h2 : t.val % 4 = 3
    · rw [outsAt0_C m c t (by omega) h1 h2]; dsimp only [outsC, runC]; frame_out; rw [read_unread_whole, H.2.2, p24]
    · rw [outsAt0_B m c t (by omega) h1 h2]; dsimp only [outsB, runB]; frame_out; rw [read_unread_whole, H.2.2, p24]

/-- The gradient of the product the gate multiplies. -/
theorem out15 (c : Dev nD) (t : Fin cfg0.N) (j) :
    (outsAt0 m c t.val t.isLt).2.2.2.1 j = db (args m c) (grad m c) (tok t (j 1)) (col (pan t) (j 2)) := by
  by_cases h1 : t.val % 4 = 0
  · by_cases h0 : t.val % 128 = 0
    · rw [outsAt0_A m c t h0 h1 (by omega)]; dsimp only [outsA, runA]; frame_out; rw [p8, p14, p23, p1]
    · rw [outsAt0_D m c t h0 h1 (by omega)]; dsimp only [outsD, runD]; frame_out; rw [p8, p14, p23, p1]
  · have H := held_prev m c t h1
    by_cases h2 : t.val % 4 = 3
    · rw [outsAt0_C m c t (by omega) h1 h2]; dsimp only [outsC, runC]; frame_out; rw [read_unread_whole, H.2.2, p23, p1]
    · rw [outsAt0_B m c t (by omega) h1 h2]; dsimp only [outsB, runB]; frame_out; rw [read_unread_whole, H.2.2, p23, p1]

/-- The hidden activations. -/
theorem out16 (c : Dev nD) (t : Fin cfg0.N) (j) :
    (outsAt0 m c t.val t.isLt).2.2.2.2.1 j = hid (args m c) (tok t (j 1)) (col (pan t) (j 2)) := by
  by_cases h1 : t.val % 4 = 0
  · by_cases h0 : t.val % 128 = 0
    · rw [outsAt0_A m c t h0 h1 (by omega)]; dsimp only [outsA, runA]; frame_out; rw [p19, p21, p2]
    · rw [outsAt0_D m c t h0 h1 (by omega)]; dsimp only [outsD, runD]; frame_out; rw [p19, p21, p2]
  · by_cases h2 : t.val % 4 = 3
    · rw [outsAt0_C m c t (by omega) h1 h2]; dsimp only [outsC, runC]; frame_out; rw [p19, p21, p2]
    · rw [outsAt0_B m c t (by omega) h1 h2]; dsimp only [outsB, runB]; frame_out; rw [p19, p21, p2]

/-- What a point adds to the accumulator: its panel's part of the gradient of the conditioned input. -/
def step (c : Dev nD) (t : Fin cfg0.N) (j : S512x1024.Idx) : EReal :=
  (∑ q : Fin 704, da (args m c) (grad m c) (tok t (j 0)) (col (pan t) q) * (args m c).wg (ix2 (j 1) (col (pan t) q)))
    + ∑ q : Fin 704, db (args m c) (grad m c) (tok t (j 0)) (col (pan t) q) * (args m c).wu (ix2 (j 1) (col (pan t) q))

/-- The first point of a row tile starts the accumulator from nothing. -/
theorem acc_first (c : Dev nD) (t : Fin cfg0.N) (h1 : t.val % 4 = 0) (j) :
    (outsAt0 m c t.val t.isLt).2.2.2.2.2.2.2.2 j = 0 + step m c t j := by
  by_cases h0 : t.val % 128 = 0
  · rw [outsAt0_A m c t h0 h1 (by omega)]; dsimp only [outsA, runA]; frame_out; rw [p8, p14, p22, p8, p14, p23, p3, p16, step]
  · rw [outsAt0_D m c t h0 h1 (by omega)]; dsimp only [outsD, runD]; frame_out; rw [p8, p14, p22, p8, p14, p23, p3, p16, step]

/-- The others add to it. -/
theorem acc_next (c : Dev nD) (t : Fin cfg0.N) (h1 : ¬t.val % 4 = 0) (j) :
    (outsAt0 m c t.val t.isLt).2.2.2.2.2.2.2.2 j = (prev0 m c t).2.2.2.2.2.2.2.2 j + step m c t j := by
  have H := held_prev m c t h1
  by_cases h2 : t.val % 4 = 3
  · rw [outsAt0_C m c t (by omega) h1 h2]; dsimp only [outsC, runC]; frame_out; rw [read_unread_whole, read_unread_whole, H.2.2, p22, p23, p3, step]
  · rw [outsAt0_B m c t (by omega) h1 h2]; dsimp only [outsB, runB]; frame_out; rw [read_unread_whole, read_unread_whole, H.2.2, p22, p23, p3, step]

/-- After the last point of a row tile the accumulator is the tile of the gradient of the conditioned input. -/
theorem acc_last (c : Dev nD) (t : Fin cfg0.N) (ht : t.val % 4 = 3) (j) :
    (outsAt0 m c t.val t.isLt).2.2.2.2.2.2.2.2 j = tile (du (args m c) (grad m c)) t j := by
  rw [Pipeline.eq_sum_fin_of_reset_step_apply_of_flush (fun n h => (outsAt0 m c n h).2.2.2.2.2.2.2.2) 4 (fun _ => (0 : EReal)) (step m c)
    (fun t h j => acc_first m c t h j) (fun t h j => acc_next m c t h j) t ht j, zero_add]
  refine (Finset.sum_add_distrib (M := EReal)).trans ?_
  refine congrArg₂ (· + ·) (Fin.sum_mul_add_congr fun s k hl => ?_) (Fin.sum_mul_add_congr fun s k hl => ?_)
  all_goals
    have h1 : tok ⟨_, Pipeline.run_point_lt_of_flush t ht s⟩ (j 0) = tok t (j 0) := Fin.ext (by simp only [tok]; omega)
    have h2 : col (pan ⟨_, Pipeline.run_point_lt_of_flush t ht s⟩) k = ⟨s.val * 704 + k.val, hl⟩ := Fin.ext (by simp only [col, pan]; omega)
    rw [h1, h2]

/-- What the last point's step makes of the accumulator. -/
theorem acc_eq (c : Dev nD) (t : Fin cfg0.N) (ht : t.val % 4 = 3) :
    k0_pay3 (F := Ideal) (htile (da (args m c) (grad m c)) t) (htile (db (args m c) (grad m c)) t) (prev0 m c t).2.2.2.2.2.2.2.2
      (iblk m c 9 t) (iblk m c 10 t) = tile (du (args m c) (grad m c)) t := by
  funext j
  rw [p3, ← acc_last m c t ht j, acc_next m c t (by omega) j]
  rfl

/-- The gradient of the sub-layer's input, which the last point of a row tile stores. -/
theorem out12 (c : Dev nD) (t : Fin cfg0.N) (ht : t.val % 4 = 3) :
    (outsAt0 m c t.val t.isLt).1 = tile (dx (args m c) (grad m c)) t := by
  have H := held_prev m c t (by omega)
  rw [outsAt0_C m c t (by omega) (by omega) ht]; dsimp only [outsC, runC]; frame_out
  rw [read_unread_whole, read_unread_whole, read_unread_whole, H.2.1, H.2.2, p22, p23, acc_eq m c t ht, p4]

end Cert.FfnBwdIdeal.Val

end
-- ==== Proof.FfnBwd.Sums.lean ====
/- The feed-forward gradient's rows of sums: what each grid point adds to them, and what they are after the last. -/
module

public import proofs.«01_k».proof.Proof.Norm.Rows
public import proofs.«01_k».proof.Proof.FfnBwd.Leave

@[expose] public section

set_option maxRecDepth 16384

noncomputable section

namespace Cert.FfnBwdIdeal.Val

open Cert.FfnBwdIdeal Cert.FfnBwdIdeal.Gen
open Idealize.ShloMosaic Idealize.ShloMosaic.TcCoe Idealize.SL.Sem
open Cert.Ffn.Spec Cert.Norm
open scoped BigOperators

variable (m : (ℓ : Loc nD τ sig) → Buf (Elt Ideal) ℓ)

/-- What one grid point adds to the rows of sums: the first point of a row tile its rows 0 to 2, the last its rows 3 and 4. -/
def part (c : Dev nD) (t : Fin cfg0.N) (j : S8x1024.Idx) : EReal :=
  if (j 0).val = 0 then if t.val % 4 = 0 then ∑ i : Fin 512, grad m c (ix2 (tok t i) (j 1)) * xhat (args m c) (tok t i) (j 1) else 0
  else if (j 0).val = 1 then if t.val % 4 = 0 then ∑ i : Fin 512, grad m c (ix2 (tok t i) (j 1)) else 0
  else if (j 0).val = 2 then
    if t.val % 4 = 0 then ∑ i : Fin 512, dr (args m c) (grad m c) (tok t i) (j 1) * Cert.Ffn.Spec.t (args m c) (tok t i) (j 1) else 0
  else if (j 0).val = 3 then
    if t.val % 4 = 3 then ∑ i : Fin 512, du (args m c) (grad m c) (tok t i) (j 1) * (args m c).x (ix2 (tok t i) (j 1)) else 0
  else if (j 0).val = 4 then if t.val % 4 = 3 then ∑ i : Fin 512, du (args m c) (grad m c) (tok t i) (j 1) else 0
  else 0

/-- The first point starts the rows of sums from nothing. -/
theorem small_A (c : Dev nD) (t : Fin cfg0.N) (h0 : t.val % 128 = 0) (j : S8x1024.Idx) :
    (outsAt0 m c t.val t.isLt).2.2.2.2.2.1 j = part m c t j := by
  rw [outsAt0_A m c t h0 (by omega) (by omega)]; dsimp only [outsA, runA]; frame_out
  simp (disch := decide) only [View.readCov_skip, View.readCov_fill]
  have ht : t.val % 4 = 0 := by omega
  rw [p8, b0, b1, b3, part]
  simp only [ht, if_true, show ¬(0 = 3) by decide, if_false]
  by_cases h2 : (j 0).val = 2
  · refine (row_hit 2 _ _ _ j h2).trans ((p12 _ _ t _ (j 1)).trans ?_)
    rw [if_neg (by omega), if_neg (by omega), if_pos h2]
    exact (congrArg (· + _) ((row_ld 2 _ _ j h2).trans (p11 j))).trans (zero_add _)
  · rw [row_miss 2 _ _ _ j h2]
    by_cases h1 : (j 0).val = 1
    · refine (row_hit 1 _ _ _ j h1).trans ((p10 _ t _ (j 1)).trans ?_)
      rw [if_neg (by omega), if_pos h1]
      exact (congrArg (· + _) ((row_ld 1 _ _ j h1).trans (p11 j))).trans (zero_add _)
    · rw [row_miss 1 _ _ _ j h1]
      by_cases h0 : (j 0).val = 0
      · refine (row_hit 0 _ _ _ j h0).trans ((p9 _ _ t _ (j 1)).trans ?_)
        rw [if_pos h0]
        exact (congrArg (· + _) ((row_ld 0 _ _ j h0).trans (p11 j))).trans (zero_add _)
      · rw [row_miss 0 _ _ _ j h0, if_neg h0, if_neg h1, if_neg h2, ite_self, ite_self, View.canon_cons_unit_lit _ _ _ (by decide)]
        exact p11 j

/-- The first point of every later row tile adds its own. -/
theorem small_D (c : Dev nD) (t : Fin cfg0.N) (h0 : ¬t.val % 128 = 0) (ht : t.val % 4 = 0) (j : S8x1024.Idx) :
    (outsAt0 m c t.val t.isLt).2.2.2.2.2.1 j = (prev0 m c t).2.2.2.2.2.1 j + part m c t j := by
  rw [outsAt0_D m c t h0 ht (by omega)]; dsimp only [outsD, runD]; frame_out
  generalize (prev0 m c t).2.2.2.2.2.1 = X
  rw [p8, b0, b1, b3, part]
  simp only [ht, if_true, show ¬(0 = 3) by decide, if_false]
  by_cases h2 : (j 0).val = 2
  · refine (View.read_writes_cons_unit_of_mem _ _ _ _ _ j (ix2 0 (j 1)) rfl (fun a => by
      match a with
      | ⟨0, _⟩ => exact h2
      | ⟨1, _⟩ => exact (Nat.zero_add _).symm)).trans ?_
    rw [if_neg (by omega), if_neg (by omega), if_pos h2]
    exact (p12 _ _ t _ (j 1)).trans (congrArg (· + _) (row_ld 2 _ X j h2))
  · rw [View.read_writes_cons_unit_of_not_mem _ _ _ _ _ j rfl 0 (by
      show (j 0).val < 2 ∨ 2 + 1 ≤ (j 0).val; omega)]
    by_cases h1 : (j 0).val = 1
    · refine (View.read_writes_cons_unit_of_mem _ _ _ _ _ j (ix2 0 (j 1)) rfl (fun a => by
        match a with
        | ⟨0, _⟩ => exact h1
        | ⟨1, _⟩ => exact (Nat.zero_add _).symm)).trans ?_
      rw [if_neg (by omega), if_pos h1]
      exact (p10 _ t _ (j 1)).trans (congrArg (· + _) (row_ld 1 _ X j h1))
    · rw [View.read_writes_cons_unit_of_not_mem _ _ _ _ _ j rfl 0 (by
        show (j 0).val < 1 ∨ 1 + 1 ≤ (j 0).val; omega)]
      by_cases h0 : (j 0).val = 0
      · refine (View.read_writes_cons_unit_of_mem _ _ _ _ _ j (ix2 0 (j 1)) rfl (fun a => by
          match a with
          | ⟨0, _⟩ => exact h0
          | ⟨1, _⟩ => exact (Nat.zero_add _).symm)).trans ?_
        rw [if_pos h0]
        exact (p9 _ _ t _ (j 1)).trans (congrArg (· + _) (row_ld 0 _ X j h0))
      · rw [View.read_writes_cons_unit_of_not_mem _ _ _ _ _ j rfl 0 (by
          show (j 0).val < 0 ∨ 0 + 1 ≤ (j 0).val; omega), if_neg h0, if_neg h1, if_neg h2, ite_self, ite_self, add_zero]
        exact congrFun (Memref.IsWhole.read_unread _ _) j

/-- The last point of a row tile adds its own. -/
theorem small_C (c : Dev nD) (t : Fin cfg0.N) (ht : t.val % 4 = 3) (j : S8x1024.Idx) :
    (outsAt0 m c t.val t.isLt).2.2.2.2.2.1 j = (prev0 m c t).2.2.2.2.2.1 j + part m c t j := by
  have H := held_prev m c t (by omega)
  rw [outsAt0_C m c t (by omega) (by omega) ht]; dsimp only [outsC, runC]; frame_out
  rw [read_unread_whole, read_unread_whole, H.2.2, p22, p23, acc_eq m c t ht, b4, part]
  generalize (prev0 m c t).2.2.2.2.2.1 = X
  simp only [ht, if_true, show ¬(3 = 0) by decide, if_false]
  by_cases h4 : (j 0).val = 4
  · refine (View.read_writes_cons_unit_of_mem _ _ _ _ _ j (ix2 0 (j 1)) rfl (fun a => by
      match a with
      | ⟨0, _⟩ => exact h4
      | ⟨1, _⟩ => exact (Nat.zero_add _).symm)).trans ?_
    rw [if_neg (by omega), if_neg (by omega), if_neg (by omega), if_neg (by omega), if_pos h4]
    exact (p6 _ t _ (j 1)).trans (congrArg (· + _) (row_ld 4 _ X j h4))
  · rw [View.read_writes_cons_unit_of_not_mem _ _ _ _ _ j rfl 0 (by
      show (j 0).val < 4 ∨ 4 + 1 ≤ (j 0).val; omega)]
    by_cases h3 : (j 0).val = 3
    · refine (View.read_writes_cons_unit_of_mem _ _ _ _ _ j (ix2 0 (j 1)) rfl (fun a => by
        match a with
        | ⟨0, _⟩ => exact h3
        | ⟨1, _⟩ => exact (Nat.zero_add _).symm)).trans ?_
      rw [if_neg (by omega), if_neg (by omega), if_neg (by omega), if_pos h3]
      exact (p5 _ _ t _ (j 1)).trans (congrArg (· + _) (row_ld 3 _ X j h3))
    · rw [View.read_writes_cons_unit_of_not_mem _ _ _ _ _ j rfl 0 (by
        show (j 0).val < 3 ∨ 3 + 1 ≤ (j 0).val; omega), if_neg h3, if_neg h4, ite_self, ite_self, ite_self, add_zero]
      exact congrFun (Memref.IsWhole.read_unread _ _) j

/-- Every point but the first adds its own: the middle points of a row tile nothing. -/
theorem small_next (c : Dev nD) (t : Fin cfg0.N) (h0 : ¬t.val % 128 = 0) (j : S8x1024.Idx) :
    (outsAt0 m c t.val t.isLt).2.2.2.2.2.1 j = (prev0 m c t).2.2.2.2.2.1 j + part m c t j := by
  by_cases h1 : t.val % 4 = 0
  · exact small_D m c t h0 h1 j
  · by_cases h2 : t.val % 4 = 3
    · exact small_C m c t h2 j
    · have e : part m c t j = 0 := by simp only [part, h1, h2, if_false, ite_self]
      rw [e, add_zero, outsAt0_B m c t h0 h1 h2, outsB_17]

/-- Row tiles added at one point of each are all the rows added. -/
theorem every_fourth (f : Fin 16384 → EReal) (k : ℕ) (hk : k < 4) :
    (∑ t : Fin 128, if t.val % 4 = k then ∑ i : Fin 512, f ⟨t.val / 4 * 512 + i.val, by omega⟩ else 0) = ∑ r, f r := by
  have h : ∀ s : Fin 32, ∀ l : Fin 4, ∀ hl : s.val * 4 + l.val < 128,
      (if l = ⟨k, hk⟩ then ∑ i : Fin 512, f ⟨s.val * 512 + i.val, by omega⟩ else 0)
        = if (⟨s.val * 4 + l.val, hl⟩ : Fin 128).val % 4 = k then
            ∑ i : Fin 512, f ⟨(⟨s.val * 4 + l.val, hl⟩ : Fin 128).val / 4 * 512 + i.val, by omega⟩ else 0 := by
    intro s l hl
    refine if_congr ?_ (Finset.sum_congr (M := EReal) rfl fun i _ => congrArg f (Fin.ext ?_)) rfl
    · rw [Fin.ext_iff]; show l.val = k ↔ (s.val * 4 + l.val) % 4 = k; omega
    · show s.val * 512 + i.val = (s.val * 4 + l.val) / 4 * 512 + i.val; omega
  refine (Fin.sum_mul_add_congr h).symm.trans ?_
  simp only [Finset.sum_ite_eq', Finset.mem_univ, if_true]
  exact Fin.sum_mul_add_congr fun s i hl => rfl

/-- The rows of sums after the last point are the column sums over every token. -/
theorem small_last (c : Dev nD) (t : Fin cfg0.N) (ht : t.val + 1 = cfg0.N) (j : S8x1024.Idx) :
    (outsAt0 m c t.val t.isLt).2.2.2.2.2.1 j = sums (args m c) (grad m c) (j 0) (j 1) := by
  have hN : (cfg0.N : ℕ) = 128 := N_0
  rw [Pipeline.eq_sum_fin_of_reset_step_apply_last (fun n h => (outsAt0 m c n h).2.2.2.2.2.1) 128 (fun _ => (0 : EReal)) (part m c)
    (fun t h j => (small_A m c t h j).trans (zero_add _).symm)
    (fun t h j => small_next m c t h j)
    (le_of_eq N_0) t ht j, zero_add]
  unfold part sums
  by_cases h0 : (j 0).val = 0
  · simp only [h0, if_true]
    exact every_fourth (fun r => grad m c (ix2 r (j 1)) * xhat (args m c) r (j 1)) 0 (by decide)
  by_cases h1 : (j 0).val = 1
  · simp only [h1, if_true]
    exact every_fourth (fun r => grad m c (ix2 r (j 1))) 0 (by decide)
  by_cases h2 : (j 0).val = 2
  · simp only [h2, if_true]
    exact every_fourth (fun r => dr (args m c) (grad m c) r (j 1) * Cert.Ffn.Spec.t (args m c) r (j 1)) 0 (by decide)
  by_cases h3 : (j 0).val = 3
  · simp only [h3, if_true]
    exact every_fourth (fun r => du (args m c) (grad m c) r (j 1) * (args m c).x (ix2 r (j 1))) 3 (by decide)
  by_cases h4 : (j 0).val = 4
  · simp only [h4, if_true]
    exact every_fourth (fun r => du (args m c) (grad m c) r (j 1)) 3 (by decide)
  simp only [h0, h1, h2, h3, h4, if_false, Finset.sum_const_zero]

end Cert.FfnBwdIdeal.Val

end
-- ==== Proof.FfnBwd.Ref.lean ====
/- The feed-forward gradient's reference results read at an index. -/
module

public import proofs.«01_k».proof.Proof.Gen.FfnBwdRefIdeal.Read
public import proofs.«01_k».proof.Proof.Ffn.Back

@[expose] public section

set_option maxRecDepth 16384

noncomputable section

namespace Cert.FfnBwdRefIdeal.Val

open Cert.FfnBwdRefIdeal Cert.FfnBwdRefIdeal.Gen Cert.FfnBwdRefIdeal.Read
open Idealize.ShloMosaic Idealize.ShloMosaic.TcCoe Idealize.SL.Sem
open Cert.Ffn.Spec Cert.Norm
open Cert.Mix.Spec (len eps alpha negHalf two)
open scoped BigOperators

variable (a : Args) (g : FVec Ideal S16384x1024 .f32)

theorem u_at (i : S16384x1024.Idx) : val_main_v8 (F := Ideal) a.x a.md i = u a (i 0) (i 1) := by
  pointwise [val_main_v8, val_main_v7, val_main_v6, val_main_v5, val_main_v4, val_main_v3, val_main_v1, val_main_v0, val_main_cst, u]

theorem gate_at (i : S16384x2816.Idx) : val_main_v9 (F := Ideal) a.x a.md a.wg i = gate a (i 0) (i 1) := by
  pointwise [val_main_v9, u_at, gate]

theorem up_at (i : S16384x2816.Idx) : val_main_v10 (F := Ideal) a.x a.md a.wu i = up a (i 0) (i 1) := by
  pointwise [val_main_v10, u_at, up]

theorem sg_at (i : S16384x2816.Idx) : val_main_v11_2 (F := Ideal) a.x a.md a.wg i = sg a (i 0) (i 1) := by
  pointwise [val_main_v11_2, val_main_call0_v4, val_main_call0_v3, val_main_call0_v2, val_main_call0_v1, val_main_call0_v0,
    val_main_call0_cst, val_main_call0_cst_0, gate_at, sg, Ideal.logistic]

theorem silu_at (i : S16384x2816.Idx) : val_main_v11_0 (F := Ideal) a.x a.md a.wg i = silu a (i 0) (i 1) := by
  pointwise [val_main_v11_0, sg_at, gate_at, silu, sg]

theorem dsg_at (i : S16384x2816.Idx) : val_main_v11_1 (F := Ideal) a.x a.md a.wg i = sg a (i 0) (i 1) * (1 - sg a (i 0) (i 1)) := by
  pointwise [val_main_v11_1, val_main_call0_v7, val_main_call0_v6, val_main_call0_cst_1, sg_at]

theorem hid_at (i : S16384x2816.Idx) : val_main_v12 (F := Ideal) a.x a.md a.wg a.wu i = hid a (i 0) (i 1) := by
  pointwise [val_main_v12, silu_at, up_at, hid]

theorem t_at (i : S16384x1024.Idx) : val_main_v13 (F := Ideal) a.x a.md a.wg a.wu a.wd i = t a (i 0) (i 1) := by
  pointwise [val_main_v13, hid_at, t]

theorem row_at (i : S16384x1024.Idx) : val_main_v22 (F := Ideal) a.x a.md a.wg a.wu a.wd i = row a (i 0) (i 1) := by
  pointwise [val_main_v22, val_main_v21, val_main_v20, val_main_v19, val_main_v18, val_main_v2, val_main_cst_0, t_at, row, alpha]

theorem dev_at (i : S16384x1024.Idx) : val_main_v37 (F := Ideal) a.x a.md a.wg a.wu a.wd i = dev (row a (i 0)) len (i 1) := by
  pointwise [val_main_v37, val_main_v36, val_main_v26, val_main_v25, val_main_v24, val_main_v23, val_main_cst_1, val_main_cst_2,
    row_at, dev, len]

theorem dev'_at (i : S16384x1024.Idx) : val_main_v28 (F := Ideal) a.x a.md a.wg a.wu a.wd i = dev (row a (i 0)) len (i 1) := dev_at a i

theorem var_at (i : S16384x1.Idx) : val_main_v39 (F := Ideal) a.x a.md a.wg a.wu a.wd i = var (row a (i 0)) len eps := by
  pointwise [val_main_v39, val_main_v38, val_main_v35, val_main_v34, val_main_v33, val_main_v32, val_main_v29, val_main_cst_4,
    val_main_cst_5, val_main_cst_6, dev'_at, var, len, eps]

theorem rs_at (i : S16384x1.Idx) : val_main_v40 (F := Ideal) a.x a.md a.wg a.wu a.wd i = rs a (i 0) := by
  pointwise [val_main_v40, var_at, rs, rstd]

theorem xhat_at (i : S16384x1024.Idx) : val_main_v45 (F := Ideal) a.x a.md a.wg a.wu a.wd i = xhat a (i 0) (i 1) := by
  pointwise [val_main_v45, val_main_v44, dev_at, rs_at, xhat, hat, rs]

theorem dy_at (i : S16384x1024.Idx) : val_main_v60 (F := Ideal) g a.ln i = dy a g (i 0) (i 1) := by
  pointwise [val_main_v60, val_main_v59, val_main_v52, val_main_v46, val_main_v15, val_main_v14, dy]

theorem gs_at (i : S16384x1024.Idx) :
    val_main_v66 (F := Ideal) g a.x a.md a.ln a.wg a.wu a.wd i = dy a g (i 0) (i 1) * rs a (i 0) := by
  pointwise [val_main_v66, val_main_v65, dy_at, rs_at]

theorem viaVar_at (i : S16384x1.Idx) :
    val_main_v72 (F := Ideal) g a.x a.md a.ln a.wg a.wu a.wd i = viaVar (row a (i 0)) (dy a g (i 0)) len eps negHalf := by
  pointwise [val_main_v72, val_main_v71, val_main_v67, val_main_v64, val_main_v63, val_main_v62, val_main_v43, val_main_v42,
    val_main_v41, val_main_cst_7, val_main_cst_12, val_main_cst_14, dev_at, dy_at, rs_at, var_at, viaVar, rs, negHalf, len]

theorem vd_at (i : S16384x1024.Idx) :
    val_main_v75 (F := Ideal) g a.x a.md a.ln a.wg a.wu a.wd i
      = viaVar (row a (i 0)) (dy a g (i 0)) len eps negHalf * (two * dev (row a (i 0)) len (i 1)) := by
  pointwise [val_main_v75, val_main_v74, val_main_v73, val_main_v31, val_main_v30, val_main_cst_3, val_main_cst_15, viaVar_at, dev'_at,
    two]
  exact congrArg (· * _) (Fin.sum_univ_one _)

/-- The reference's gradient of the row: the chain rule. -/
theorem chain_at (i : S16384x1024.Idx) :
    val_main_v85 (F := Ideal) g a.x a.md a.ln a.wg a.wu a.wd i
      = chain (row a (i 0)) (dy a g (i 0)) len eps negHalf two (i 1) := by
  pointwise [val_main_v85, val_main_v84, val_main_v83, val_main_v82, val_main_v81, val_main_v80, val_main_v79, val_main_v78,
    val_main_v77, val_main_v76, val_main_v70, val_main_v69, val_main_v68, val_main_cst_13, val_main_cst_16, val_main_cst_17,
    val_main_cst_18, gs_at, vd_at, chain, rs, len]
  exact congrArg (_ + ·) (Fin.sum_univ_one _)

variable {a g} (h : Finite a g)
include h

theorem dr_at (i : S16384x1024.Idx) :
    val_main_v85 (F := Ideal) g a.x a.md a.ln a.wg a.wu a.wd i = dr a g (i 0) (i 1) :=
  (chain_at a g i).trans (h.dr_eq (i 0) (i 1)).symm

theorem dt_at (i : S16384x1024.Idx) :
    val_main_v87 (F := Ideal) g a.x a.md a.ln a.wg a.wu a.wd i = dt a g (i 0) (i 1) := by
  pointwise [val_main_v87, val_main_v86, val_main_v2, dr_at h, dt]

theorem df_at (i : S16384x2816.Idx) :
    val_main_v93 (F := Ideal) g a.x a.md a.ln a.wg a.wu a.wd i = df a g (i 0) (i 1) := by
  pointwise [val_main_v93, dt_at h, df]

theorem db_at (i : S16384x2816.Idx) :
    val_main_v94 (F := Ideal) g a.x a.md a.ln a.wg a.wu a.wd i = db a g (i 0) (i 1) := by
  pointwise [val_main_v94, df_at h, silu_at, db]
  exact mul_comm (G := EReal) _ _

theorem da_at (i : S16384x2816.Idx) :
    val_main_v96 (F := Ideal) g a.x a.md a.ln a.wg a.wu a.wd i = da a g (i 0) (i 1) := by
  refine Eq.trans ?_ (h.da_eq (i 0) (i 1)).symm
  pointwise [val_main_v96, val_main_v95, val_main_call1_v0, val_main_call1_v1, val_main_call1_v2, df_at h, gate_at, up_at, sg_at, dsg_at]

theorem du_at (i : S16384x1024.Idx) :
    val_main_v99 (F := Ideal) g a.x a.md a.ln a.wg a.wu a.wd i = du a g (i 0) (i 1) := by
  pointwise [val_main_v99, val_main_v97, val_main_v98, da_at h, db_at h, du]

/-- The reference's first result: the gradient of the sub-layer's input. -/
theorem out0_at (i : S16384x1024.Idx) :
    val_main_v111 (F := Ideal) g a.x a.md a.ln a.wg a.wu a.wd i = dx a g (i 0) (i 1) := by
  pointwise [val_main_v111, val_main_v92, val_main_v91, val_main_v106, val_main_v105, val_main_v6, val_main_v5, val_main_v4, val_main_v3,
    val_main_v1, val_main_cst, val_main_cst_20, dr_at h, du_at h, dx, alpha]

theorem out1_at (i : S16384x1024.Idx) :
    val_main_v112 (F := Ideal) g a.x a.md a.ln a.wg a.wu a.wd i = dt a g (i 0) (i 1) := by
  pointwise [val_main_v112, dt_at h]

theorem out2_at (i : S4x16384x704.Idx) :
    val_main_v115 (F := Ideal) g a.x a.md a.ln a.wg a.wu a.wd i = da a g (i 1) (col (i 0) (i 2)) := by
  pointwise [val_main_v115, val_main_v114, val_main_v113, da_at h, col]

theorem out3_at (i : S4x16384x704.Idx) :
    val_main_v118 (F := Ideal) g a.x a.md a.ln a.wg a.wu a.wd i = db a g (i 1) (col (i 0) (i 2)) := by
  pointwise [val_main_v118, val_main_v117, val_main_v116, db_at h, col]

omit h in
theorem out4_at (i : S4x16384x704.Idx) :
    val_main_v121 (F := Ideal) a.x a.md a.wg a.wu i = hid a (i 1) (col (i 0) (i 2)) := by
  pointwise [val_main_v121, val_main_v120, val_main_v119, hid_at, col]

/-- The reference's rows of sums. -/
theorem out5_at (i : S8x1024.Idx) :
    val_main_v110 (F := Ideal) g a.x a.md a.ln a.wg a.wu a.wd i = sums a g (i 0) (i 1) := by
  pointwise [val_main_v110, val_main_v107, val_main_v108, val_main_v90, val_main_v89, val_main_v88, val_main_v104, val_main_v103,
    val_main_v102, val_main_v101, val_main_v100, val_main_v109, val_main_v61, val_main_v58, val_main_v57, val_main_v56, val_main_v55,
    val_main_v54, val_main_v53, val_main_v52, val_main_cst_8, val_main_cst_9, val_main_cst_10, val_main_cst_11, val_main_cst_19,
    val_main_cst_21, val_main_cst_22, val_main_cst_23, xhat_at, dr_at h, t_at, du_at h, sums]
  by_cases h0 : (i 0).val = 0
  · rw [dif_pos (show (i 0).val < 1 by omega), if_pos h0]
    exact (Fin.sum_univ_one _).trans (Finset.sum_congr rfl fun r _ => mul_comm (G := EReal) _ _)
  · rw [dif_neg (show ¬(i 0).val < 1 by omega), if_neg h0]
    by_cases h1 : (i 0).val = 1
    · rw [dif_pos (show (i 0).val - 1 < 1 by omega), if_pos h1]
      exact Fin.sum_univ_one _
    · rw [dif_neg (show ¬(i 0).val - 1 < 1 by omega), if_neg h1]
      by_cases h2 : (i 0).val = 2
      · rw [dif_pos (show (i 0).val - 1 - 1 < 1 by omega), if_pos h2]
      · rw [dif_neg (show ¬(i 0).val - 1 - 1 < 1 by omega), if_neg h2]
        by_cases h3 : (i 0).val = 3
        · rw [dif_pos (show (i 0).val - 1 - 1 - 1 < 1 by omega), if_pos h3]
          exact Finset.sum_congr rfl fun r _ => mul_comm (G := EReal) _ _
        · rw [dif_neg (show ¬(i 0).val - 1 - 1 - 1 < 1 by omega), if_neg h3]
          by_cases h4 : (i 0).val = 4
          · rw [dif_pos (show (i 0).val - 1 - 1 - 1 - 1 < 1 by omega), if_pos h4]
          · rw [dif_neg (show ¬(i 0).val - 1 - 1 - 1 - 1 < 1 by omega), if_neg h4]

end Cert.FfnBwdRefIdeal.Val

end
-- ==== Proof.FfnBwd.Final.lean ====
/- The feed-forward gradient after the run: the reference's arrays. -/
module

public import proofs.«01_k».proof.Proof.FfnBwd.Sums
public import proofs.«01_k».proof.Proof.FfnBwd.Ref

@[expose] public section

set_option maxRecDepth 16384

noncomputable section

namespace Cert.FfnBwdIdeal.Val

open Cert.FfnBwdIdeal Cert.FfnBwdIdeal.Gen
open Idealize.ShloMosaic Idealize.ShloMosaic.TcCoe Idealize.SL.Sem
open Idealize.ShloMosaic.Pipeline (Dat)
open Cert.Ffn.Spec
open scoped BigOperators

variable (m : (ℓ : Loc nD τ sig) → Buf (Elt Ideal) ℓ)

/-- The arguments, named as the reference takes them. -/
abbrev whole {α : Sort*} (a : Args) (g : FVec Ideal ⟨2, ![16384, 1024]⟩ .f32)
    (f : FVec Ideal ⟨2, ![16384, 1024]⟩ .f32 → FVec Ideal ⟨2, ![16384, 1024]⟩ .f32 → FVec Ideal ⟨2, ![6, 1024]⟩ .f32 →
      FVec Ideal ⟨2, ![4, 1024]⟩ .f32 → FVec Ideal ⟨2, ![1024, 2816]⟩ .f32 → FVec Ideal ⟨2, ![1024, 2816]⟩ .f32 →
      FVec Ideal ⟨2, ![2816, 1024]⟩ .f32 → α) : α :=
  f g a.x a.md a.ln a.wg a.wu a.wd

/-- The gradient of the sub-layer's input after the run is the reference's. -/
theorem final0 (c : Dev nD) (h : Finite (args m c) (grad m c)) : (dats m 0 c).arrAt 12 cfg0.N
    = whole (args m c) (grad m c) (Cert.FfnBwdRefIdeal.Read.val_main_v111 (F := Ideal)) := by
  refine (dats m 0 c).arrAt_eq_of_covers 12 _ (by decide +kernel) fun t hf y => ?_
  have e := idx t
  have ht := (flush0_12 t).mp hf
  blk_simp [e]
  rw [after0_12, out12 m c t ht]
  refine Eq.trans ?_ (Cert.FfnBwdRefIdeal.Val.out0_at h _).symm
  exact congrArg₂ (dx (args m c) (grad m c)) (Fin.ext (by blk_simp [e, tok])) (Fin.ext (by blk_simp [e]))

/-- The gradient of the sub-layer's output after the run is the reference's. -/
theorem final1 (c : Dev nD) (h : Finite (args m c) (grad m c)) : (dats m 0 c).arrAt 13 cfg0.N
    = whole (args m c) (grad m c) (Cert.FfnBwdRefIdeal.Read.val_main_v112 (F := Ideal)) := by
  refine (dats m 0 c).arrAt_eq_of_covers 13 _ (by decide +kernel) fun t hf y => ?_
  have e := idx t
  blk_simp [e]
  rw [after0_13, (held m c t.val t.isLt).1]
  refine Eq.trans ?_ (Cert.FfnBwdRefIdeal.Val.out1_at h _).symm
  exact congrArg₂ (dt (args m c) (grad m c)) (Fin.ext (by blk_simp [e, tok])) (Fin.ext (by blk_simp [e]))

/-- The gradient of the gate's product after the run is the reference's. -/
theorem final2 (c : Dev nD) (h : Finite (args m c) (grad m c)) : (dats m 0 c).arrAt 14 cfg0.N
    = whole (args m c) (grad m c) (Cert.FfnBwdRefIdeal.Read.val_main_v115 (F := Ideal)) := by
  refine (dats m 0 c).arrAt_eq_of_covers 14 _ (by decide +kernel) fun t hf y => ?_
  have e := idx t
  blk_simp [e]
  rw [after0_14, out14]
  refine Eq.trans ?_ (Cert.FfnBwdRefIdeal.Val.out2_at h _).symm
  exact congrArg₂ (da (args m c) (grad m c)) (Fin.ext (by blk_simp [e, tok])) (Fin.ext (by blk_simp [e, col, pan]))

/-- The gradient of the product the gate multiplies after the run is the reference's. -/
theorem final3 (c : Dev nD) (h : Finite (args m c) (grad m c)) : (dats m 0 c).arrAt 15 cfg0.N
    = whole (args m c) (grad m c) (Cert.FfnBwdRefIdeal.Read.val_main_v118 (F := Ideal)) := by
  refine (dats m 0 c).arrAt_eq_of_covers 15 _ (by decide +kernel) fun t hf y => ?_
  have e := idx t
  blk_simp [e]
  rw [after0_15, out15]
  refine Eq.trans ?_ (Cert.FfnBwdRefIdeal.Val.out3_at h _).symm
  exact congrArg₂ (db (args m c) (grad m c)) (Fin.ext (by blk_simp [e, tok])) (Fin.ext (by blk_simp [e, col, pan]))

/-- The hidden activations after the run are the reference's. -/
theorem final4 (c : Dev nD) : (dats m 0 c).arrAt 16 cfg0.N
    = Cert.FfnBwdRefIdeal.Read.val_main_v121 (F := Ideal) (args m c).x (args m c).md (args m c).wg (args m c).wu := by
  refine (dats m 0 c).arrAt_eq_of_covers 16 _ (by decide +kernel) fun t hf y => ?_
  have e := idx t
  blk_simp [e]
  rw [after0_16, out16]
  refine Eq.trans ?_ (Cert.FfnBwdRefIdeal.Val.out4_at (a := args m c) _).symm
  exact congrArg₂ (hid (args m c)) (Fin.ext (by blk_simp [e, tok])) (Fin.ext (by blk_simp [e, col, pan]))

/-- The rows of sums after the run are the reference's. -/
theorem final5 (c : Dev nD) (h : Finite (args m c) (grad m c)) : (dats m 0 c).arrAt 17 cfg0.N
    = whole (args m c) (grad m c) (Cert.FfnBwdRefIdeal.Read.val_main_v110 (F := Ideal)) := by
  refine (dats m 0 c).arrAt_eq_of_covers 17 _ (by decide +kernel) fun t hf y => ?_
  have e := idx t
  blk_simp [e]
  rw [after0_17]
  have hN : (cfg0.N : ℕ) = 128 := N_0
  refine (small_last m c t (by have := (flush0_17 t).mp hf; have := t.isLt; omega) y).trans
    (Eq.trans ?_ (Cert.FfnBwdRefIdeal.Val.out5_at h _).symm)
  exact congrArg₂ (sums (args m c) (grad m c)) (Fin.ext (by blk_simp [e])) (Fin.ext (by blk_simp [e]))

end Cert.FfnBwdIdeal.Val

end
-- ==== Proof.FfnBwd.Pre.lean ====
/- What the precondition says of the feed-forward gradient's arguments: they are real numbers. -/
module

public import proofs.«01_k».proof.Pre_ffn_finite
public import proofs.«01_k».proof.Proof.Ffn.Back
public import Idealize.ShloMosaic.Lib.Pipeline.ValueKit

@[expose] public section

set_option maxRecDepth 16384

noncomputable section

namespace Cert.Pre_ffn_finite

open Idealize.ShloMosaic
open Cert.Norm Cert.Ffn.Spec

/-- The shape relations the predicate's operations take. -/
theorem facts : Facts where
  slices_S6x1024_S3x1024_3_0 := by decide
  slices_S4x1024_S1x1024_2_0 := by decide
  transposes_S1024x2816_S2816x1024_1_0 := by decide
  concatenates_S16384x1024_S16384x1024_S3x1024_S1x1024_S2816x1024_S2816x1024_S2816x1024_S41220x1024_d0 := by decide
  bcast_S_S41220x1024 := by decide

variable [Facts] (a : Args) (g : FVec Ideal S16384x1024 .f32)
open Facts

/-- The conditioning's shift, scale and gate. -/
def cond : FVec Ideal S3x1024 .f32 := extractStridedSlice S3x1024 ![3, 0] a.md slices_S6x1024_S3x1024_3_0

/-- The layer norm's scale. -/
def scale : FVec Ideal S1x1024 .f32 := extractStridedSlice S1x1024 ![2, 0] a.ln slices_S4x1024_S1x1024_2_0

/-- A weight turned to have as many columns as the others. -/
def turned (w : FVec Ideal S1024x2816 .f32) : FVec Ideal S2816x1024 .f32 := transpose S2816x1024 [1, 0] w transposes_S1024x2816_S2816x1024_1_0

/-- Every array the predicate reads. -/
def pieces : List ((s : Shape) × (s.Idx → EReal)) :=
  [⟨S16384x1024, g⟩, ⟨S16384x1024, a.x⟩, ⟨S3x1024, cond a⟩, ⟨S1x1024, scale a⟩, ⟨S2816x1024, turned a.wg⟩, ⟨S2816x1024, turned a.wu⟩,
    ⟨S2816x1024, a.wd⟩]

/-- They stack to one array. -/
theorem pieces_concatenate : Shape.Concatenates ((pieces a g).map (·.1)) S41220x1024 0 :=
  concatenates_S16384x1024_S16384x1024_S3x1024_S1x1024_S2816x1024_S2816x1024_S2816x1024_S41220x1024_d0

/-- Them one above the other. -/
def stack : FVec Ideal S41220x1024 .f32 := concatenate S41220x1024 0 (pieces a g) (pieces_concatenate a g)

variable {a g}

/-- The stack read inside one of its pieces. -/
theorem stack_piece (k : Fin (pieces a g).length) (n : ℕ) (x : FVec Ideal ⟨2, ![n, 1024]⟩ .f32) (pre : ℕ) (r : Fin n) (d : Fin 1024) (hlt : pre + r.val < 41220)
    (hx : (pieces a g)[k] = ⟨⟨2, ![n, 1024]⟩, x⟩)
    (hpre : ([16384, 16384, 3, 1, 2816, 2816, 2816].take k.val).sum = pre) :
    stack a g (ix2 ⟨pre + r.val, hlt⟩ d) = x (ix2 r d) := by
  refine concatenate_apply_piece (t := S41220x1024) (0 : Fin 2) (pieces a g) (pieces_concatenate a g) _ k.val k.isLt ⟨2, ![n, 1024]⟩ x hx rfl pre ?_ (ix2 r d) (fun b hb => ?_) rfl
  · rw [← hpre]
    match k with
    | ⟨0, _⟩ | ⟨1, _⟩ | ⟨2, _⟩ | ⟨3, _⟩ | ⟨4, _⟩ | ⟨5, _⟩ | ⟨6, _⟩ => rfl
  · match b with
    | ⟨0, _⟩ => exact absurd rfl hb
    | ⟨1, _⟩ => rfl

/-- Where the predicate holds, every element of the stack is a real number. -/
theorem stack_real (h : fn (F := Ideal) g a.x a.md a.ln a.wg a.wu a.wd = fun _ => 1#1) (i : S41220x1024.Idx) :
    IsReal (stack a g i) := by
  have hi : cmpf .olt (Host.absf (stack a g)) (broadcastInDim S41220x1024 ![] bcast_S_S41220x1024 (constant (F := Ideal) S_ .f32 0x7F800000#32)) i = 1#1 :=
    congrFun h i
  generalize stack a g = s at hi ⊢
  have e : cmpf .olt (Host.absf s) (broadcastInDim S41220x1024 ![] bcast_S_S41220x1024 (constant (F := Ideal) S_ .f32 0x7F800000#32)) i
      = BitVec.ofBool (decide (max (s i) (-s i) < Ideal.ofBits FTy.f32 0x7F800000#32)) := by
    pointwise []
    rfl
  rw [e] at hi
  have top : ∀ x : EReal, max (s i) (-s i) = ⊤ → False := fun x ht => by
    rw [ht, decide_eq_false not_top_lt] at hi
    exact absurd hi (by decide)
  refine IsReal.of_ne (fun hb => top 0 ?_) (fun ht => top 0 ?_)
  · rw [hb]; simp
  · rw [ht]; simp

/-- Where the predicate holds, the conditioning's last three rows are real numbers. -/
theorem cond_real (h : fn (F := Ideal) g a.x a.md a.ln a.wg a.wu a.wd = fun _ => 1#1) (k : Fin 3) (d : Fin 1024) :
    IsReal (a.md (ix2 ⟨3 + k.val, by omega⟩ d)) := by
  have e : cond a (ix2 k d) = a.md (ix2 ⟨3 + k.val, by omega⟩ d) := by pointwise [cond]
  exact e ▸ stack_piece ⟨2, by show _ < 7; omega⟩ 3 (cond a) 32768 k d (by omega) rfl rfl ▸ stack_real h _

/-- Where the predicate holds, every array the gradient reads is finite. -/
theorem finite (h : fn (F := Ideal) g a.x a.md a.ln a.wg a.wu a.wd = fun _ => 1#1) : Finite a g where
  g r d := stack_piece ⟨0, by show _ < 7; omega⟩ 16384 g 0 r d (by omega) rfl rfl ▸ stack_real h _
  x r d := stack_piece ⟨1, by show _ < 7; omega⟩ 16384 a.x 16384 r d (by omega) rfl rfl ▸ stack_real h _
  md3 d := cond_real h 0 d
  md4 d := cond_real h 1 d
  md5 d := cond_real h 2 d
  ln d := by
    have e : scale a (ix2 0 d) = a.ln (ix2 2 d) := by pointwise [scale]
    exact e ▸ stack_piece ⟨3, by show _ < 7; omega⟩ 1 (scale a) 32771 0 d (by omega) rfl rfl ▸ stack_real h _
  wg r d := by
    have e : turned a.wg (ix2 d r) = a.wg (ix2 r d) := by pointwise [turned]
    exact e ▸ stack_piece ⟨4, by show _ < 7; omega⟩ 2816 (turned a.wg) 32772 d r (by omega) rfl rfl ▸ stack_real h _
  wu r d := by
    have e : turned a.wu (ix2 d r) = a.wu (ix2 r d) := by pointwise [turned]
    exact e ▸ stack_piece ⟨5, by show _ < 7; omega⟩ 2816 (turned a.wu) 35588 d r (by omega) rfl rfl ▸ stack_real h _
  wd r d := stack_piece ⟨6, by show _ < 7; omega⟩ 2816 a.wd 38404 r d (by omega) rfl rfl ▸ stack_real h _

end Cert.Pre_ffn_finite

end
-- ==== Proof.FfnBwd.Claims.lean ====
/- The claims about the feed-forward sub-layer's gradient. -/
module

public import proofs.«01_k».proof.Defs
public import proofs.«01_k».proof.Proof.Gen.FfnBwd
public import proofs.«01_k».proof.Proof.Gen.FfnBwdRefIdeal.Run
public import proofs.«01_k».proof.Proof.FfnBwdFrame.Frame
public import proofs.«01_k».proof.Proof.FfnBwd.Final
public import proofs.«01_k».proof.Proof.FfnBwd.Pre
public import Idealize.ShloMosaic.Lib.Claim

@[expose] public section

set_option maxRecDepth 16384

noncomputable section

namespace Cert.Proof.FfnBwd

open Idealize.ShloMosaic Idealize.ShloMosaic.TcCoe Idealize.SL.Sem Idealize.ShloMosaic.StableHlo

set_option maxHeartbeats 20000000 in
/-- The kernel and its idealization have the same body: no operation of it was replaced. -/
theorem defs0_eq {F : FTy → Type} [FloatOps F] : Cert.FfnBwd.defs₀ (F := F) = Cert.FfnBwdIdeal.defs₀ (F := F) :=
  congrArg Defs.onTc (funext fun l => funext fun a => match l, a with
    | 0, (t, s) => rfl
    | ⟨_ + 1, h⟩, _ => absurd h (Nat.not_lt.2 (Nat.le_add_left _ _)))

set_option maxHeartbeats 20000000 in
/-- So they have the same program. -/
theorem defs_eq {F : FTy → Type} [FloatOps F] : Cert.FfnBwd.defs (F := F) = Cert.FfnBwdIdeal.defs (F := F) :=
  congrArg (Pipeline.defs Cert.FfnBwd.pcfgs) defs0_eq

set_option maxHeartbeats 20000000 in
/-- The kernel over bits runs to its end and leaves its arguments as they were. -/
theorem frame_bits : Cert.quiescent_FfnBwd := fun m g _ => by
  have h := Cert.FfnBwdIdeal.Gen.frame (F := Bits) m g
  rw [← defs_eq] at h
  exact h

/-- So does the kernel over the extended reals. -/
theorem frame_ideal : Cert.quiescent_FfnBwdIdeal := fun m g _ => Cert.FfnBwdIdeal.Gen.frame m g

/-- So it does under the precondition. -/
theorem frame_ideal_pre [Cert.Pre_ffn_finite.Facts] : Cert.quiescent_FfnBwdIdeal_pre_ffn_finite := fun m g _ => Cert.FfnBwdIdeal.Gen.frame m g

/-- So does the reference: it is host operations alone, and has no semaphore. -/
theorem frame_ref : Cert.quiescent_FfnBwdRefIdeal := fun m g _ =>
  (θ_run Cert.FfnBwdRefIdeal.defs _ _).mono
    (fun r h => ⟨fun c => (h c).2.2.2.2.2.2, sem_eq_zero_of_no_sems (by decide) r.2⟩)
    (Cert.FfnBwdRefIdeal.Value.run (F := Ideal) m g)

/-- So it does under the precondition. -/
theorem frame_ref_pre [Cert.Pre_ffn_finite.Facts] : Cert.quiescent_FfnBwdRefIdeal_pre_ffn_finite := fun m g _ => frame_ref m g trivial

/-- The precondition of the kernel's arguments makes every array the gradient reads finite. -/
theorem pre_finite [Cert.Pre_ffn_finite.Facts] (m : (ℓ : Loc Cert.FfnBwdIdeal.nD Cert.FfnBwdIdeal.τ Cert.FfnBwdIdeal.sig) → Buf (Elt Ideal) ℓ)
    (h : Cert.Pre_FfnBwdIdeal_ffn_finite m) (c : Dev Cert.FfnBwdIdeal.nD) :
    Cert.Ffn.Spec.Finite (Cert.FfnBwdIdeal.Val.args m c) (Cert.FfnBwdIdeal.Val.grad m c) :=
  Cert.Pre_ffn_finite.finite (a := Cert.FfnBwdIdeal.Val.args m c) (g := Cert.FfnBwdIdeal.Val.grad m c) (h c)

set_option maxHeartbeats 20000000 in
open Cert.FfnBwdRefIdeal.Read Cert.FfnBwdIdeal.Val Cert.FfnBwdIdeal.Gen in
/-- The kernel's six arrays are the reference's: the derivative of the feed-forward sub-layer and of the layer norm after it. -/
theorem value [Cert.Pre_ffn_finite.Facts] : Cert.algebraic_FfnBwdIdeal_FfnBwdRefIdeal_pre_ffn_finite := by
  intro m g m' g' hp ha
  refine ⟨_, _, _, _, _, _, (θ_run Cert.FfnBwdIdeal.defs _ _).mono
      (fun r h c => ⟨((h c).1 12).trans (final0 m c (pre_finite m hp c)), ((h c).1 13).trans (final1 m c (pre_finite m hp c)),
        ((h c).1 14).trans (final2 m c (pre_finite m hp c)), ((h c).1 15).trans (final3 m c (pre_finite m hp c)),
        ((h c).1 16).trans (final4 m c), ((h c).1 17).trans (final5 m c (pre_finite m hp c)),
        kept_of m (dats m) (A_eq m) r h c⟩)
      (Cert.FfnBwdIdeal.Gen.run_main m g),
    (θ_run Cert.FfnBwdRefIdeal.defs _ _).mono (fun r h c => by
      obtain ⟨r0, r1, r2, r3, r4, r5, rk⟩ := h c
      refine ⟨r0.trans ((val_main_v111_eq (launchContents m' c)).trans ?_), r1.trans ((val_main_v112_eq (launchContents m' c)).trans ?_),
        r2.trans ((val_main_v115_eq (launchContents m' c)).trans ?_), r3.trans ((val_main_v118_eq (launchContents m' c)).trans ?_),
        r4.trans ((val_main_v121_eq (launchContents m' c)).trans ?_), r5.trans ((val_main_v110_eq (launchContents m' c)).trans ?_), rk⟩
      all_goals
        obtain ⟨h0, h1, h2, h3, h4, h5, h6⟩ := ha c
        simp only [whole, args, grad, ← h0, ← h1, ← h2, ← h3, ← h4, ← h5, ← h6])
      (Cert.FfnBwdRefIdeal.Value.run (F := Ideal) m' g')⟩

end Cert.Proof.FfnBwd

end
-- ==== Proof.lean ====
/- The certificate: frames of every program, and what each kernel computes. -/
module

public import proofs.«01_k».proof.Defs
public import proofs.«01_k».proof.Proof.Gen.InProjIdeal.Value
public import proofs.«01_k».proof.Proof.Gen.InProjRefIdeal.Read
public import proofs.«01_k».proof.Proof.Gen.MixIdeal.Value
public import proofs.«01_k».proof.Proof.Gen.MixRefIdeal.Read
public import proofs.«01_k».proof.Proof.Gen.DwGateIdeal.Value
public import proofs.«01_k».proof.Proof.Gen.DwGateRefIdeal.Read
public import proofs.«01_k».proof.Proof.Gen.DwDownIdeal.Value
public import proofs.«01_k».proof.Proof.Gen.DwDownRefIdeal.Read
public import proofs.«01_k».proof.Proof.Gen.DwInIdeal.Value
public import proofs.«01_k».proof.Proof.Gen.DwInRefIdeal.Read
public import proofs.«01_k».proof.Proof.Gen.DwOutIdeal.Value
public import proofs.«01_k».proof.Proof.Gen.DwOutRefIdeal.Read
public import proofs.«01_k».proof.Proof.Gen.DwAIdeal.Value
public import proofs.«01_k».proof.Proof.Gen.DwARefIdeal.Read
public import proofs.«01_k».proof.Proof.Gen.DwBIdeal.Value
public import proofs.«01_k».proof.Proof.Gen.DwBRefIdeal.Read
public import proofs.«01_k».proof.Proof.Gen.QkvIdeal.Value
public import proofs.«01_k».proof.Proof.Gen.QkvRefIdeal.Read
public import proofs.«01_k».proof.Proof.Gen.GatesIdeal.Value
public import proofs.«01_k».proof.Proof.Gen.GatesRefIdeal.Read
public import proofs.«01_k».proof.Proof.Gen.FfnFwdIdeal.Value
public import proofs.«01_k».proof.Proof.Gen.FfnFwdRefIdeal.Read
public import proofs.«01_k».proof.Proof.Gen.MixOutRefIdeal.Read
public import proofs.«01_k».proof.Proof.Gen.FfnBwdRefIdeal.Read
public import proofs.«01_k».proof.Proof.InProj.Claims
public import proofs.«01_k».proof.Proof.Mix.Claims
public import proofs.«01_k».proof.Proof.Weights.Claims
public import proofs.«01_k».proof.Proof.Forward.Claims
public import proofs.«01_k».proof.Proof.MixOut.Claims
public import proofs.«01_k».proof.Proof.FfnBwd.Claims

@[expose] public section

noncomputable section

namespace Cert.Proof

/-- Every claim of the certificate. -/
theorem claim : Cert.Claim := ⟨
  Cert.InProj.Gen.facts, Cert.InProjIdeal.Gen.facts, Cert.InProjRefIdeal.Gen.facts,
  Cert.Mix.Gen.facts, Cert.MixIdeal.Gen.facts, Cert.MixRefIdeal.Gen.facts,
  Cert.DwGate.Gen.facts, Cert.DwGateIdeal.Gen.facts, Cert.DwGateRefIdeal.Gen.facts,
  Cert.DwDown.Gen.facts, Cert.DwDownIdeal.Gen.facts, Cert.DwDownRefIdeal.Gen.facts,
  Cert.DwIn.Gen.facts, Cert.DwInIdeal.Gen.facts, Cert.DwInRefIdeal.Gen.facts,
  Cert.DwOut.Gen.facts, Cert.DwOutIdeal.Gen.facts, Cert.DwOutRefIdeal.Gen.facts,
  Cert.DwA.Gen.facts, Cert.DwAIdeal.Gen.facts, Cert.DwARefIdeal.Gen.facts,
  Cert.DwB.Gen.facts, Cert.DwBIdeal.Gen.facts, Cert.DwBRefIdeal.Gen.facts,
  Cert.Qkv.Gen.facts, Cert.QkvIdeal.Gen.facts, Cert.QkvRefIdeal.Gen.facts,
  Cert.Gates.Gen.facts, Cert.GatesIdeal.Gen.facts, Cert.GatesRefIdeal.Gen.facts,
  Cert.FfnFwd.Gen.facts, Cert.FfnFwdIdeal.Gen.facts, Cert.FfnFwdRefIdeal.Gen.facts,
  Cert.MixOut.Gen.facts, Cert.MixOutIdeal.Gen.facts, Cert.MixOutRefIdeal.Gen.facts,
  Cert.FfnBwd.Gen.facts, Cert.FfnBwdIdeal.Gen.facts, Cert.FfnBwdRefIdeal.Gen.facts,
  Cert.Pre_mix_finite.facts, Cert.Pre_ffn_finite.facts,
  InProj.frame_bits, InProj.frame_ideal, InProj.frame_ref,
  Mix.frame_bits, Mix.frame_ideal, @Mix.frame_ideal_pre Cert.Pre_mix_finite.facts, Mix.frame_ref, @Mix.frame_ref_pre Cert.Pre_mix_finite.facts,
  DwGate.frame_bits, DwGate.frame_ideal, DwGate.frame_ref,
  DwDown.frame_bits, DwDown.frame_ideal, DwDown.frame_ref,
  DwIn.frame_bits, DwIn.frame_ideal, DwIn.frame_ref,
  DwOut.frame_bits, DwOut.frame_ideal, DwOut.frame_ref,
  DwA.frame_bits, DwA.frame_ideal, DwA.frame_ref,
  DwB.frame_bits, DwB.frame_ideal, DwB.frame_ref,
  Qkv.frame_bits, Qkv.frame_ideal, Qkv.frame_ref,
  Gates.frame_bits, Gates.frame_ideal, Gates.frame_ref,
  FfnFwd.frame_bits, FfnFwd.frame_ideal, FfnFwd.frame_ref,
  MixOut.frame_bits, MixOut.frame_ideal, MixOut.frame_ref,
  FfnBwd.frame_bits, FfnBwd.frame_ideal, @FfnBwd.frame_ideal_pre Cert.Pre_ffn_finite.facts, FfnBwd.frame_ref,
  @FfnBwd.frame_ref_pre Cert.Pre_ffn_finite.facts,
  trivial, InProj.value,
  trivial, @Mix.value Cert.Pre_mix_finite.facts,
  trivial, DwGate.value,
  trivial, DwDown.value,
  trivial, DwIn.value,
  trivial, DwOut.value,
  trivial, DwA.value,
  trivial, DwB.value,
  trivial, Qkv.value,
  trivial, Gates.value,
  trivial, FfnFwd.value,
  trivial, MixOut.value,
  trivial, @FfnBwd.value Cert.Pre_ffn_finite.facts⟩

end Cert.Proof

end
